-- ==== Defs.lean ====
def Pre_KernelIdeal (m : (ℓ : Loc Cert.KernelIdeal.nD Cert.KernelIdeal.τ Cert.KernelIdeal.sig) → Buf (Elt Ideal) ℓ) : Prop :=
  True

def Pre_KernelIdeal_enough_distinct_candidates [hPre_enough_distinct_candidates : Cert.Pre_enough_distinct_candidates.Facts] (m : (ℓ : Loc Cert.KernelIdeal.nD Cert.KernelIdeal.τ Cert.KernelIdeal.sig) → Buf (Elt Ideal) ℓ) : Prop :=
  ∀ c : Dev Cert.KernelIdeal.nD,
    (Cert.Pre_enough_distinct_candidates.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_enough_distinct_candidates [hPre_enough_distinct_candidates : Cert.Pre_enough_distinct_candidates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_enough_distinct_candidates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_enough_distinct_candidates [hKernelIdeal : Cert.KernelIdeal.Facts] [hPre_enough_distinct_candidates : Cert.Pre_enough_distinct_candidates.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_enough_distinct_candidates m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_enough_distinct_candidates [hReferenceIdeal : Cert.ReferenceIdeal.Facts] [hPre_enough_distinct_candidates : Cert.Pre_enough_distinct_candidates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_enough_distinct_candidates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal_pre_enough_distinct_candidates [hKernelIdeal : Cert.KernelIdeal.Facts] [hReferenceIdeal : Cert.ReferenceIdeal.Facts] [hPre_enough_distinct_candidates : Cert.Pre_enough_distinct_candidates.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_enough_distinct_candidates m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v223) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts) (hPre_enough_distinct_candidates : Cert.Pre_enough_distinct_candidates.Facts),
    quiescent_KernelIdeal (hKernelIdeal := hKernelIdeal)
    ∧ quiescent_KernelIdeal_pre_enough_distinct_candidates (hKernelIdeal := hKernelIdeal) (hPre_enough_distinct_candidates := hPre_enough_distinct_candidates)
    ∧ quiescent_ReferenceIdeal (hReferenceIdeal := hReferenceIdeal)
    ∧ quiescent_ReferenceIdeal_pre_enough_distinct_candidates (hReferenceIdeal := hReferenceIdeal) (hPre_enough_distinct_candidates := hPre_enough_distinct_candidates)
    ∧ algebraic_KernelIdeal_ReferenceIdeal_pre_enough_distinct_candidates (hKernelIdeal := hKernelIdeal) (hReferenceIdeal := hReferenceIdeal) (hPre_enough_distinct_candidates := hPre_enough_distinct_candidates)
-- ==== Pre_enough_distinct_candidates.lean ====
abbrev S5000x91 : Shape := ⟨2, ![5000, 91]⟩
abbrev S5000x364 : Shape := ⟨2, ![5000, 364]⟩
abbrev S5000x4 : Shape := ⟨2, ![5000, 4]⟩
abbrev S5000x1 : Shape := ⟨2, ![5000, 1]⟩
abbrev S5000 : Shape := ⟨1, ![5000]⟩
abbrev S_ : Shape := ⟨0, ![]⟩
abbrev S5000x91x4 : Shape := ⟨3, ![5000, 91, 4]⟩
abbrev S5000x91x1 : Shape := ⟨3, ![5000, 91, 1]⟩
abbrev S5000x90 : Shape := ⟨2, ![5000, 90]⟩
abbrev S90 : Shape := ⟨1, ![90]⟩
abbrev S5000x90x1 : Shape := ⟨3, ![5000, 90, 1]⟩
abbrev S5000x1x90 : Shape := ⟨3, ![5000, 1, 90]⟩
abbrev S5000x90x90 : Shape := ⟨3, ![5000, 90, 90]⟩
abbrev S90x1 : Shape := ⟨2, ![90, 1]⟩
abbrev S1x90 : Shape := ⟨2, ![1, 90]⟩
abbrev S90x90 : Shape := ⟨2, ![90, 90]⟩
abbrev S1x90x90 : Shape := ⟨3, ![1, 90, 90]⟩

class Facts : Prop where
  slices_S5000x4_S5000x1_0_2 : S5000x4.Slices ![0, 2] S5000x1
  shapeCasts_S5000x1_S5000 : S5000x1.ShapeCasts S5000
  slices_S5000x4_S5000x1_0_0 : S5000x4.Slices ![0, 0] S5000x1
  slices_S5000x4_S5000x1_0_3 : S5000x4.Slices ![0, 3] S5000x1
  slices_S5000x4_S5000x1_0_1 : S5000x4.Slices ![0, 1] S5000x1
  bcast_S_S5000 : S_.BroadcastsInDim S5000 (![] : Fin 0 → Fin S5000.rank)
  shapeCasts_S5000x364_S5000x91x4 : S5000x364.ShapeCasts S5000x91x4
  slices_S5000x91x4_S5000x91x1_0_0_0 : S5000x91x4.Slices ![0, 0, 0] S5000x91x1
  shapeCasts_S5000x91x1_S5000x91 : S5000x91x1.ShapeCasts S5000x91
  bcast_S_S5000x91 : S_.BroadcastsInDim S5000x91 (![] : Fin 0 → Fin S5000x91.rank)
  slices_S5000x91x4_S5000x91x1_0_0_1 : S5000x91x4.Slices ![0, 0, 1] S5000x91x1
  slices_S5000x91x4_S5000x91x1_0_0_2 : S5000x91x4.Slices ![0, 0, 2] S5000x91x1
  slices_S5000x91x4_S5000x91x1_0_0_3 : S5000x91x4.Slices ![0, 0, 3] S5000x91x1
  bcast_S5000_S5000x1_0 : S5000.BroadcastsInDim S5000x1 (![0] : Fin 1 → Fin S5000x1.rank)
  bcast_S5000x1_S5000x91_0_1 : S5000x1.BroadcastsInDim S5000x91 (![0, 1] : Fin 2 → Fin S5000x91.rank)
  bcast_S5000x91_S5000x91x1_0_1 : S5000x91.BroadcastsInDim S5000x91x1 (![0, 1] : Fin 2 → Fin S5000x91x1.rank)
  concatenates_S5000x91x1_S5000x91x1_S5000x91x1_S5000x91x1_S5000x91x4_d2 : Shape.Concatenates [S5000x91x1, S5000x91x1, S5000x91x1, S5000x91x1] S5000x91x4 2
  reducesTo_S5000x91_S5000_d1 : S5000x91.ReducesTo [1] S5000
  h_S_ : 0 < S_.numel
  slices_S5000x91_S5000x90_0_1 : S5000x91.Slices ![0, 1] S5000x90
  bcast_S_S5000x90 : S_.BroadcastsInDim S5000x90 (![] : Fin 0 → Fin S5000x90.rank)
  reducesTo_S5000x90_S_d0_1 : S5000x90.ReducesTo [0, 1] S_
  bcast_S5000x90_S5000x90x1_0_1 : S5000x90.BroadcastsInDim S5000x90x1 (![0, 1] : Fin 2 → Fin S5000x90x1.rank)
  bcast_S5000x90_S5000x1x90_0_2 : S5000x90.BroadcastsInDim S5000x1x90 (![0, 2] : Fin 2 → Fin S5000x1x90.rank)
  bcast_S5000x90x1_S5000x90x90_0_1_2 : S5000x90x1.BroadcastsInDim S5000x90x90 (![0, 1, 2] : Fin 3 → Fin S5000x90x90.rank)
  bcast_S5000x1x90_S5000x90x90_0_1_2 : S5000x1x90.BroadcastsInDim S5000x90x90 (![0, 1, 2] : Fin 3 → Fin S5000x90x90.rank)
  bcast_S90_S90x1_0 : S90.BroadcastsInDim S90x1 (![0] : Fin 1 → Fin S90x1.rank)
  bcast_S90_S1x90_1 : S90.BroadcastsInDim S1x90 (![1] : Fin 1 → Fin S1x90.rank)
  bcast_S90x1_S90x90_0_1 : S90x1.BroadcastsInDim S90x90 (![0, 1] : Fin 2 → Fin S90x90.rank)
  bcast_S1x90_S90x90_0_1 : S1x90.BroadcastsInDim S90x90 (![0, 1] : Fin 2 → Fin S90x90.rank)
  bcast_S90x90_S1x90x90_1_2 : S90x90.BroadcastsInDim S1x90x90 (![1, 2] : Fin 2 → Fin S1x90x90.rank)
  bcast_S1x90x90_S5000x90x90_0_1_2 : S1x90x90.BroadcastsInDim S5000x90x90 (![0, 1, 2] : Fin 3 → Fin S5000x90x90.rank)
  bcast_S_S5000x90x90 : S_.BroadcastsInDim S5000x90x90 (![] : Fin 0 → Fin S5000x90x90.rank)

variable [Facts]

def fn_clip {F : FTy → Type} [FloatOps F] (arg0 : FVec F S5000x91 .f32) (arg1 : FVec F S_ .f32) (arg2 : FVec F S_ .f32) : FVec F S5000x91 .f32 :=
  let v0 : FVec F S_ .f32 := id arg1
  let v1 : FVec F S5000x91 .f32 := broadcastInDim S5000x91 ![] bcast_S_S5000x91 v0
  let v2 : FVec F S5000x91 .f32 := maximumf v1 arg0
  let v3 : FVec F S_ .f32 := id arg2
  let v4 : FVec F S5000x91 .f32 := broadcastInDim S5000x91 ![] bcast_S_S5000x91 v3
  let v5 : FVec F S5000x91 .f32 := minimumf v4 v2
  v5

def fn_where {F : FTy → Type} [FloatOps F] (arg0 : IVec S5000x90 1) (arg1 : IVec S_ 32) (arg2 : IVec S_ 32) : IVec S5000x90 32 :=
  let v0 : IVec S5000x90 32 := broadcastInDim S5000x90 ![] bcast_S_S5000x90 arg1
  let v1 : IVec S5000x90 32 := broadcastInDim S5000x90 ![] bcast_S_S5000x90 arg2
  let v2 : IVec S5000x90 32 := select arg0 v0 v1
  v2

def fn_part7 {F : FTy → Type} [FloatOps F] (main_v116 : IVec S_ 1) (main_v137 : IVec S5000x90x90 1) : IVec S5000x90x90 1 :=
  let main_v138 : IVec S5000x90x90 1 := broadcastInDim S5000x90x90 ![] bcast_S_S5000x90x90 main_v116
  let main_v139 : IVec S5000x90x90 1 := andi main_v138 main_v137
  main_v139

def fn_part6 {F : FTy → Type} [FloatOps F] (main_v111 : IVec S5000x90 1) (main_v112 : FVec F S5000x90 .f32) (main_v114 : IVec S5000x90 32) (main_c_26 : IVec S_ 32) : IVec S5000x90x90 1 :=
  let main_v115 : IVec S_ 32 := (fun x v => Host.reduce IntOp.addi x v reducesTo_S5000x90_S_d0_1 h_S_) main_v114 main_c_26
  let main_c_27 : IVec S_ 32 := constantI S_ 32 100#32
  let main_v116 : IVec S_ 1 := cmpi .sge main_v115 main_c_27
  let main_v117 : IVec S90 32 := iotaInDim S90 32 0
  let main_v118 : FVec F S5000x90x1 .f32 := broadcastInDim S5000x90x1 ![0, 1] bcast_S5000x90_S5000x90x1_0_1 main_v112
  let main_v119 : FVec F S5000x1x90 .f32 := broadcastInDim S5000x1x90 ![0, 2] bcast_S5000x90_S5000x1x90_0_2 main_v112
  let main_v120 : FVec F S5000x90x90 .f32 := broadcastInDim S5000x90x90 ![0, 1, 2] bcast_S5000x90x1_S5000x90x90_0_1_2 main_v118
  let main_v121 : FVec F S5000x90x90 .f32 := broadcastInDim S5000x90x90 ![0, 1, 2] bcast_S5000x1x90_S5000x90x90_0_1_2 main_v119
  let main_v122 : IVec S5000x90x90 1 := cmpf .oeq main_v120 main_v121
  let main_v123 : IVec S5000x90x1 1 := broadcastInDim S5000x90x1 ![0, 1] bcast_S5000x90_S5000x90x1_0_1 main_v111
  let main_v124 : IVec S5000x90x90 1 := broadcastInDim S5000x90x90 ![0, 1, 2] bcast_S5000x90x1_S5000x90x90_0_1_2 main_v123
  let main_v125 : IVec S5000x90x90 1 := andi main_v122 main_v124
  let main_v126 : IVec S5000x1x90 1 := broadcastInDim S5000x1x90 ![0, 2] bcast_S5000x90_S5000x1x90_0_2 main_v111
  let main_v127 : IVec S5000x90x90 1 := broadcastInDim S5000x90x90 ![0, 1, 2] bcast_S5000x1x90_S5000x90x90_0_1_2 main_v126
  let main_v128 : IVec S5000x90x90 1 := andi main_v125 main_v127
  let main_v129 : IVec S90x1 32 := broadcastInDim S90x1 ![0] bcast_S90_S90x1_0 main_v117
  let main_v130 : IVec S1x90 32 := broadcastInDim S1x90 ![1] bcast_S90_S1x90_1 main_v117
  let main_v131 : IVec S90x90 32 := broadcastInDim S90x90 ![0, 1] bcast_S90x1_S90x90_0_1 main_v129
  let main_v132 : IVec S90x90 32 := broadcastInDim S90x90 ![0, 1] bcast_S1x90_S90x90_0_1 main_v130
  let main_v133 : IVec S90x90 1 := cmpi .ne main_v131 main_v132
  let main_v134 : IVec S1x90x90 1 := broadcastInDim S1x90x90 ![1, 2] bcast_S90x90_S1x90x90_1_2 main_v133
  let main_v135 : IVec S5000x90x90 1 := broadcastInDim S5000x90x90 ![0, 1, 2] bcast_S1x90x90_S5000x90x90_0_1_2 main_v134
  let main_v136 : IVec S5000x90x90 1 := andi main_v128 main_v135
  let main_v137 : IVec S5000x90x90 1 := noti main_v136
  fn_part7 (F := F) main_v116 main_v137

def fn_part5 {F : FTy → Type} [FloatOps F] (main_v84 : FVec F S5000x91 .f32) (main_v91 : FVec F S5000x91 .f32) (main_v97 : FVec F S5000x91 .f32) : IVec S5000x90x90 1 :=
  let main_v98 : FVec F S5000x91 .f32 := Host.exp main_v97
  let main_cst_21 : FVec F S_ .f32 := constant S_ .f32 0x00000000#32
  let main_v99 : FVec F S5000 .f32 := (fun x v => Host.reduceAdd x v reducesTo_S5000x91_S5000_d1 h_S_) main_v98 main_cst_21
  let main_v100 : FVec F S5000x1 .f32 := broadcastInDim S5000x1 ![0] bcast_S5000_S5000x1_0 main_v99
  let main_v101 : FVec F S5000x91 .f32 := broadcastInDim S5000x91 ![0, 1] bcast_S5000x1_S5000x91_0_1 main_v100
  let main_v102 : FVec F S5000x91 .f32 := Host.divf main_v98 main_v101
  let main_cst_22 : FVec F S_ .f32 := constant S_ .f32 0x3D4CCCCD#32
  let main_v103 : FVec F S5000x91 .f32 := broadcastInDim S5000x91 ![] bcast_S_S5000x91 main_cst_22
  let main_v104 : IVec S5000x91 1 := cmpf .ogt main_v102 main_v103
  let main_cst_23 : FVec F S_ .f32 := constant S_ .f32 0x3C23D70A#32
  let main_v105 : FVec F S5000x91 .f32 := broadcastInDim S5000x91 ![] bcast_S_S5000x91 main_cst_23
  let main_v106 : IVec S5000x91 1 := cmpf .oge main_v84 main_v105
  let main_v107 : IVec S5000x91 1 := andi main_v104 main_v106
  let main_cst_24 : FVec F S_ .f32 := constant S_ .f32 0x3C23D70A#32
  let main_v108 : FVec F S5000x91 .f32 := broadcastInDim S5000x91 ![] bcast_S_S5000x91 main_cst_24
  let main_v109 : IVec S5000x91 1 := cmpf .oge main_v91 main_v108
  let main_v110 : IVec S5000x91 1 := andi main_v107 main_v109
  let main_v111 : IVec S5000x90 1 := (extractStridedSlice S5000x90 ![0, 1] · slices_S5000x91_S5000x90_0_1) main_v110
  let main_v112 : FVec F S5000x90 .f32 := (extractStridedSlice S5000x90 ![0, 1] · slices_S5000x91_S5000x90_0_1) main_v102
  let main_c : IVec S_ 32 := constantI S_ 32 1#32
  let main_c_25 : IVec S_ 32 := constantI S_ 32 0#32
  let main_v113 : IVec S5000x90 32 := fn_where (F := F) main_v111 main_c main_c_25
  let main_v114 : IVec S5000x90 32 := id main_v113
  let main_c_26 : IVec S_ 32 := constantI S_ 32 0#32
  fn_part6 (F := F) main_v111 main_v112 main_v114 main_c_26

def fn_part4 {F : FTy → Type} [FloatOps F] (main_arg0 : FVec F S5000x91 .f32) (main_v77 : FVec F S5000x91x4 .f32) (main_v80 : FVec F S5000x91 .f32) (main_v81 : FVec F S5000x91x1 .f32) : IVec S5000x90x90 1 :=
  let main_v82 : FVec F S5000x91 .f32 := shapeCast S5000x91 main_v81 shapeCasts_S5000x91x1_S5000x91
  let main_cst_13 : FVec F S_ .f32 := constant S_ .f32 0x00000000#32
  let main_cst_14 : FVec F S_ .f32 := constant S_ .f32 0x44480000#32
  let main_v83 : FVec F S5000x91 .f32 := fn_clip (F := F) main_v82 main_cst_13 main_cst_14
  let main_v84 : FVec F S5000x91 .f32 := subf main_v80 main_v83
  let main_v85 : FVec F S5000x91x1 .f32 := (extractStridedSlice S5000x91x1 ![0, 0, 3] · slices_S5000x91x4_S5000x91x1_0_0_3) main_v77
  let main_v86 : FVec F S5000x91 .f32 := shapeCast S5000x91 main_v85 shapeCasts_S5000x91x1_S5000x91
  let main_cst_15 : FVec F S_ .f32 := constant S_ .f32 0x00000000#32
  let main_cst_16 : FVec F S_ .f32 := constant S_ .f32 0x44480000#32
  let main_v87 : FVec F S5000x91 .f32 := fn_clip (F := F) main_v86 main_cst_15 main_cst_16
  let main_v88 : FVec F S5000x91x1 .f32 := (extractStridedSlice S5000x91x1 ![0, 0, 1] · slices_S5000x91x4_S5000x91x1_0_0_1) main_v77
  let main_v89 : FVec F S5000x91 .f32 := shapeCast S5000x91 main_v88 shapeCasts_S5000x91x1_S5000x91
  let main_cst_17 : FVec F S_ .f32 := constant S_ .f32 0x00000000#32
  let main_cst_18 : FVec F S_ .f32 := constant S_ .f32 0x44480000#32
  let main_v90 : FVec F S5000x91 .f32 := fn_clip (F := F) main_v89 main_cst_17 main_cst_18
  let main_v91 : FVec F S5000x91 .f32 := subf main_v87 main_v90
  let main_cst_19 : FVec F S_ .f32 := constant S_ .f32 0xFF800000#32
  let main_v92 : FVec F S5000 .f32 := (fun x v => Host.reduce FloatOps.maximumf x v reducesTo_S5000x91_S5000_d1 h_S_) main_arg0 main_cst_19
  let main_cst_20 : FVec F S_ .f32 := constant S_ .f32 0xFF800000#32
  let main_v93 : FVec F S5000 .f32 := broadcastInDim S5000 ![] bcast_S_S5000 main_cst_20
  let main_v94 : FVec F S5000 .f32 := maximumf main_v93 main_v92
  let main_v95 : FVec F S5000x1 .f32 := broadcastInDim S5000x1 ![0] bcast_S5000_S5000x1_0 main_v94
  let main_v96 : FVec F S5000x91 .f32 := broadcastInDim S5000x91 ![0, 1] bcast_S5000x1_S5000x91_0_1 main_v95
  let main_v97 : FVec F S5000x91 .f32 := subf main_arg0 main_v96
  fn_part5 (F := F) main_v84 main_v91 main_v97

def fn_part3 {F : FTy → Type} [FloatOps F] (main_arg0 : FVec F S5000x91 .f32) (main_v46 : FVec F S5000x91 .f32) (main_v52 : FVec F S5000x91 .f32) (main_v56 : FVec F S5000x91 .f32) (main_v60 : FVec F S5000x91 .f32) (main_v62 : FVec F S5000x91 .f32) : IVec S5000x90x90 1 :=
  let main_v63 : FVec F S5000x91 .f32 := subf main_v46 main_v62
  let main_cst_8 : FVec F S_ .f32 := constant S_ .f32 0x3F000000#32
  let main_v64 : FVec F S5000x91 .f32 := broadcastInDim S5000x91 ![] bcast_S_S5000x91 main_cst_8
  let main_v65 : FVec F S5000x91 .f32 := mulf main_v64 main_v60
  let main_v66 : FVec F S5000x91 .f32 := subf main_v52 main_v65
  let main_cst_9 : FVec F S_ .f32 := constant S_ .f32 0x3F000000#32
  let main_v67 : FVec F S5000x91 .f32 := broadcastInDim S5000x91 ![] bcast_S_S5000x91 main_cst_9
  let main_v68 : FVec F S5000x91 .f32 := mulf main_v67 main_v56
  let main_v69 : FVec F S5000x91 .f32 := addf main_v46 main_v68
  let main_cst_10 : FVec F S_ .f32 := constant S_ .f32 0x3F000000#32
  let main_v70 : FVec F S5000x91 .f32 := broadcastInDim S5000x91 ![] bcast_S_S5000x91 main_cst_10
  let main_v71 : FVec F S5000x91 .f32 := mulf main_v70 main_v60
  let main_v72 : FVec F S5000x91 .f32 := addf main_v52 main_v71
  let main_v73 : FVec F S5000x91x1 .f32 := broadcastInDim S5000x91x1 ![0, 1] bcast_S5000x91_S5000x91x1_0_1 main_v63
  let main_v74 : FVec F S5000x91x1 .f32 := broadcastInDim S5000x91x1 ![0, 1] bcast_S5000x91_S5000x91x1_0_1 main_v66
  let main_v75 : FVec F S5000x91x1 .f32 := broadcastInDim S5000x91x1 ![0, 1] bcast_S5000x91_S5000x91x1_0_1 main_v69
  let main_v76 : FVec F S5000x91x1 .f32 := broadcastInDim S5000x91x1 ![0, 1] bcast_S5000x91_S5000x91x1_0_1 main_v72
  let main_v77 : FVec F S5000x91x4 .f32 := concatenate S5000x91x4 2 [⟨S5000x91x1, main_v73⟩, ⟨S5000x91x1, main_v74⟩, ⟨S5000x91x1, main_v75⟩, ⟨S5000x91x1, main_v76⟩] concatenates_S5000x91x1_S5000x91x1_S5000x91x1_S5000x91x1_S5000x91x4_d2
  let main_v78 : FVec F S5000x91x1 .f32 := (extractStridedSlice S5000x91x1 ![0, 0, 2] · slices_S5000x91x4_S5000x91x1_0_0_2) main_v77
  let main_v79 : FVec F S5000x91 .f32 := shapeCast S5000x91 main_v78 shapeCasts_S5000x91x1_S5000x91
  let main_cst_11 : FVec F S_ .f32 := constant S_ .f32 0x00000000#32
  let main_cst_12 : FVec F S_ .f32 := constant S_ .f32 0x44480000#32
  let main_v80 : FVec F S5000x91 .f32 := fn_clip (F := F) main_v79 main_cst_11 main_cst_12
  let main_v81 : FVec F S5000x91x1 .f32 := (extractStridedSlice S5000x91x1 ![0, 0, 0] · slices_S5000x91x4_S5000x91x1_0_0_0) main_v77
  fn_part4 (F := F) main_arg0 main_v77 main_v80 main_v81

def fn_part2 {F : FTy → Type} [FloatOps F] (main_arg0 : FVec F S5000x91 .f32) (main_v4 : FVec F S5000 .f32) (main_v9 : FVec F S5000 .f32) (main_v14 : FVec F S5000 .f32) (main_v19 : FVec F S5000 .f32) (main_v24 : FVec F S5000x91 .f32) (main_v28 : FVec F S5000x91 .f32) (main_v34 : FVec F S5000x91 .f32) (main_v38 : FVec F S5000x91 .f32) (main_v39 : FVec F S5000x91 .f32) : IVec S5000x90x90 1 :=
  let main_v40 : FVec F S5000x91 .f32 := minimumf main_v38 main_v39
  let main_v41 : FVec F S5000x1 .f32 := broadcastInDim S5000x1 ![0] bcast_S5000_S5000x1_0 main_v4
  let main_v42 : FVec F S5000x91 .f32 := broadcastInDim S5000x91 ![0, 1] bcast_S5000x1_S5000x91_0_1 main_v41
  let main_v43 : FVec F S5000x91 .f32 := mulf main_v24 main_v42
  let main_v44 : FVec F S5000x1 .f32 := broadcastInDim S5000x1 ![0] bcast_S5000_S5000x1_0 main_v14
  let main_v45 : FVec F S5000x91 .f32 := broadcastInDim S5000x91 ![0, 1] bcast_S5000x1_S5000x91_0_1 main_v44
  let main_v46 : FVec F S5000x91 .f32 := addf main_v43 main_v45
  let main_v47 : FVec F S5000x1 .f32 := broadcastInDim S5000x1 ![0] bcast_S5000_S5000x1_0 main_v9
  let main_v48 : FVec F S5000x91 .f32 := broadcastInDim S5000x91 ![0, 1] bcast_S5000x1_S5000x91_0_1 main_v47
  let main_v49 : FVec F S5000x91 .f32 := mulf main_v28 main_v48
  let main_v50 : FVec F S5000x1 .f32 := broadcastInDim S5000x1 ![0] bcast_S5000_S5000x1_0 main_v19
  let main_v51 : FVec F S5000x91 .f32 := broadcastInDim S5000x91 ![0, 1] bcast_S5000x1_S5000x91_0_1 main_v50
  let main_v52 : FVec F S5000x91 .f32 := addf main_v49 main_v51
  let main_v53 : FVec F S5000x91 .f32 := Host.exp main_v34
  let main_v54 : FVec F S5000x1 .f32 := broadcastInDim S5000x1 ![0] bcast_S5000_S5000x1_0 main_v4
  let main_v55 : FVec F S5000x91 .f32 := broadcastInDim S5000x91 ![0, 1] bcast_S5000x1_S5000x91_0_1 main_v54
  let main_v56 : FVec F S5000x91 .f32 := mulf main_v53 main_v55
  let main_v57 : FVec F S5000x91 .f32 := Host.exp main_v40
  let main_v58 : FVec F S5000x1 .f32 := broadcastInDim S5000x1 ![0] bcast_S5000_S5000x1_0 main_v9
  let main_v59 : FVec F S5000x91 .f32 := broadcastInDim S5000x91 ![0, 1] bcast_S5000x1_S5000x91_0_1 main_v58
  let main_v60 : FVec F S5000x91 .f32 := mulf main_v57 main_v59
  let main_cst_7 : FVec F S_ .f32 := constant S_ .f32 0x3F000000#32
  let main_v61 : FVec F S5000x91 .f32 := broadcastInDim S5000x91 ![] bcast_S_S5000x91 main_cst_7
  let main_v62 : FVec F S5000x91 .f32 := mulf main_v61 main_v56
  fn_part3 (F := F) main_arg0 main_v46 main_v52 main_v56 main_v60 main_v62

def fn_part1 {F : FTy → Type} [FloatOps F] (main_arg0 : FVec F S5000x91 .f32) (main_v4 : FVec F S5000 .f32) (main_v9 : FVec F S5000 .f32) (main_v14 : FVec F S5000 .f32) (main_v19 : FVec F S5000 .f32) (main_v20 : FVec F S5000x91x4 .f32) (main_v21 : FVec F S5000x91x1 .f32) : IVec S5000x90x90 1 :=
  let main_v22 : FVec F S5000x91 .f32 := shapeCast S5000x91 main_v21 shapeCasts_S5000x91x1_S5000x91
  let main_cst_1 : FVec F S_ .f32 := constant S_ .f32 0x41200000#32
  let main_v23 : FVec F S5000x91 .f32 := broadcastInDim S5000x91 ![] bcast_S_S5000x91 main_cst_1
  let main_v24 : FVec F S5000x91 .f32 := Host.divf main_v22 main_v23
  let main_v25 : FVec F S5000x91x1 .f32 := (extractStridedSlice S5000x91x1 ![0, 0, 1] · slices_S5000x91x4_S5000x91x1_0_0_1) main_v20
  let main_v26 : FVec F S5000x91 .f32 := shapeCast S5000x91 main_v25 shapeCasts_S5000x91x1_S5000x91
  let main_cst_2 : FVec F S_ .f32 := constant S_ .f32 0x41200000#32
  let main_v27 : FVec F S5000x91 .f32 := broadcastInDim S5000x91 ![] bcast_S_S5000x91 main_cst_2
  let main_v28 : FVec F S5000x91 .f32 := Host.divf main_v26 main_v27
  let main_v29 : FVec F S5000x91x1 .f32 := (extractStridedSlice S5000x91x1 ![0, 0, 2] · slices_S5000x91x4_S5000x91x1_0_0_2) main_v20
  let main_v30 : FVec F S5000x91 .f32 := shapeCast S5000x91 main_v29 shapeCasts_S5000x91x1_S5000x91
  let main_cst_3 : FVec F S_ .f32 := constant S_ .f32 0x40A00000#32
  let main_v31 : FVec F S5000x91 .f32 := broadcastInDim S5000x91 ![] bcast_S_S5000x91 main_cst_3
  let main_v32 : FVec F S5000x91 .f32 := Host.divf main_v30 main_v31
  let main_cst_4 : FVec F S_ .f32 := constant S_ .f32 0x40845349#32
  let main_v33 : FVec F S5000x91 .f32 := broadcastInDim S5000x91 ![] bcast_S_S5000x91 main_cst_4
  let main_v34 : FVec F S5000x91 .f32 := minimumf main_v32 main_v33
  let main_v35 : FVec F S5000x91x1 .f32 := (extractStridedSlice S5000x91x1 ![0, 0, 3] · slices_S5000x91x4_S5000x91x1_0_0_3) main_v20
  let main_v36 : FVec F S5000x91 .f32 := shapeCast S5000x91 main_v35 shapeCasts_S5000x91x1_S5000x91
  let main_cst_5 : FVec F S_ .f32 := constant S_ .f32 0x40A00000#32
  let main_v37 : FVec F S5000x91 .f32 := broadcastInDim S5000x91 ![] bcast_S_S5000x91 main_cst_5
  let main_v38 : FVec F S5000x91 .f32 := Host.divf main_v36 main_v37
  let main_cst_6 : FVec F S_ .f32 := constant S_ .f32 0x40845349#32
  let main_v39 : FVec F S5000x91 .f32 := broadcastInDim S5000x91 ![] bcast_S_S5000x91 main_cst_6
  fn_part2 (F := F) main_arg0 main_v4 main_v9 main_v14 main_v19 main_v24 main_v28 main_v34 main_v38 main_v39

def fn {F : FTy → Type} [FloatOps F] (main_arg0 : FVec F S5000x91 .f32) (main_arg1 : FVec F S5000x364 .f32) (main_arg2 : FVec F S5000x4 .f32) : IVec S5000x90x90 1 :=
  let main_v0 : FVec F S5000x1 .f32 := (extractStridedSlice S5000x1 ![0, 2] · slices_S5000x4_S5000x1_0_2) main_arg2
  let main_v1 : FVec F S5000 .f32 := shapeCast S5000 main_v0 shapeCasts_S5000x1_S5000
  let main_v2 : FVec F S5000x1 .f32 := (extractStridedSlice S5000x1 ![0, 0] · slices_S5000x4_S5000x1_0_0) main_arg2
  let main_v3 : FVec F S5000 .f32 := shapeCast S5000 main_v2 shapeCasts_S5000x1_S5000
  let main_v4 : FVec F S5000 .f32 := subf main_v1 main_v3
  let main_v5 : FVec F S5000x1 .f32 := (extractStridedSlice S5000x1 ![0, 3] · slices_S5000x4_S5000x1_0_3) main_arg2
  let main_v6 : FVec F S5000 .f32 := shapeCast S5000 main_v5 shapeCasts_S5000x1_S5000
  let main_v7 : FVec F S5000x1 .f32 := (extractStridedSlice S5000x1 ![0, 1] · slices_S5000x4_S5000x1_0_1) main_arg2
  let main_v8 : FVec F S5000 .f32 := shapeCast S5000 main_v7 shapeCasts_S5000x1_S5000
  let main_v9 : FVec F S5000 .f32 := subf main_v6 main_v8
  let main_v10 : FVec F S5000x1 .f32 := (extractStridedSlice S5000x1 ![0, 0] · slices_S5000x4_S5000x1_0_0) main_arg2
  let main_v11 : FVec F S5000 .f32 := shapeCast S5000 main_v10 shapeCasts_S5000x1_S5000
  let main_cst : FVec F S_ .f32 := constant S_ .f32 0x3F000000#32
  let main_v12 : FVec F S5000 .f32 := broadcastInDim S5000 ![] bcast_S_S5000 main_cst
  let main_v13 : FVec F S5000 .f32 := mulf main_v12 main_v4
  let main_v14 : FVec F S5000 .f32 := addf main_v11 main_v13
  let main_v15 : FVec F S5000x1 .f32 := (extractStridedSlice S5000x1 ![0, 1] · slices_S5000x4_S5000x1_0_1) main_arg2
  let main_v16 : FVec F S5000 .f32 := shapeCast S5000 main_v15 shapeCasts_S5000x1_S5000
  let main_cst_0 : FVec F S_ .f32 := constant S_ .f32 0x3F000000#32
  let main_v17 : FVec F S5000 .f32 := broadcastInDim S5000 ![] bcast_S_S5000 main_cst_0
  let main_v18 : FVec F S5000 .f32 := mulf main_v17 main_v9
  let main_v19 : FVec F S5000 .f32 := addf main_v16 main_v18
  let main_v20 : FVec F S5000x91x4 .f32 := shapeCast S5000x91x4 main_arg1 shapeCasts_S5000x364_S5000x91x4
  let main_v21 : FVec F S5000x91x1 .f32 := (extractStridedSlice S5000x91x1 ![0, 0, 0] · slices_S5000x91x4_S5000x91x1_0_0_0) main_v20
  fn_part1 (F := F) main_arg0 main_v4 main_v9 main_v14 main_v19 main_v20 main_v21
-- ==== KernelIdeal.lean ====
abbrev S5000x91 : Shape := ⟨2, ![5000, 91]⟩
abbrev S5000x364 : Shape := ⟨2, ![5000, 364]⟩
abbrev S5000x4 : Shape := ⟨2, ![5000, 4]⟩
abbrev S5000x91x4 : Shape := ⟨3, ![5000, 91, 4]⟩
abbrev S5000x91x1 : Shape := ⟨3, ![5000, 91, 1]⟩
abbrev S5000x20 : Shape := ⟨2, ![5000, 20]⟩
abbrev S5000 : Shape := ⟨1, ![5000]⟩
abbrev S5000x1 : Shape := ⟨2, ![5000, 1]⟩
abbrev S100000 : Shape := ⟨1, ![100000]⟩
abbrev S1000 : Shape := ⟨1, ![1000]⟩
abbrev S_ : Shape := ⟨0, ![]⟩
abbrev S1000x1 : Shape := ⟨2, ![1000, 1]⟩
abbrev S5000x90x4 : Shape := ⟨3, ![5000, 90, 4]⟩
abbrev S450000x4 : Shape := ⟨2, ![450000, 4]⟩
abbrev S1000x4 : Shape := ⟨2, ![1000, 4]⟩
abbrev S1024 : Shape := ⟨1, ![1024]⟩
abbrev S24 : Shape := ⟨1, ![24]⟩
abbrev S1024x1 : Shape := ⟨2, ![1024, 1]⟩
abbrev S1024x8 : Shape := ⟨2, ![1024, 8]⟩
abbrev S128x8 : Shape := ⟨2, ![128, 8]⟩
abbrev S8x1024 : Shape := ⟨2, ![8, 1024]⟩
abbrev S1x1024 : Shape := ⟨2, ![1, 1024]⟩
abbrev S1024x1024 : Shape := ⟨2, ![1024, 1024]⟩
abbrev S1x1024x1 : Shape := ⟨3, ![1, 1024, 1]⟩
abbrev S1 : Shape := ⟨1, ![1]⟩
abbrev S1x1x1 : Shape := ⟨3, ![1, 1, 1]⟩
abbrev S1024x128 : Shape := ⟨2, ![1024, 128]⟩
abbrev S1024x4 : Shape := ⟨2, ![1024, 4]⟩
abbrev S1024x3 : Shape := ⟨2, ![1024, 3]⟩
abbrev S100x5 : Shape := ⟨2, ![100, 5]⟩

abbrev nBuf : Space → Nat
  | .hbm => 112
  | .vmem => 14
  | .smem => 0
  | _ => 0

abbrev bufTy : (tb : Table) → Fin (tcTables nBuf tb) → BufTy
  | .hbm, ⟨0, _⟩ => ⟨S5000x91, .f32⟩
  | .hbm, ⟨1, _⟩ => ⟨S5000x364, .f32⟩
  | .hbm, ⟨2, _⟩ => ⟨S5000x4, .f32⟩
  | .hbm, ⟨3, _⟩ => ⟨S5000x91x4, .f32⟩
  | .hbm, ⟨4, _⟩ => ⟨S5000x91x1, .f32⟩
  | .hbm, ⟨5, _⟩ => ⟨S5000x91, .f32⟩
  | .hbm, ⟨6, _⟩ => ⟨S5000x91x1, .f32⟩
  | .hbm, ⟨7, _⟩ => ⟨S5000x91, .f32⟩
  | .hbm, ⟨8, _⟩ => ⟨S5000x91x1, .f32⟩
  | .hbm, ⟨9, _⟩ => ⟨S5000x91, .f32⟩
  | .hbm, ⟨10, _⟩ => ⟨S5000x91x1, .f32⟩
  | .hbm, ⟨11, _⟩ => ⟨S5000x91, .f32⟩
  | .hbm, ⟨12, _⟩ => ⟨S5000x20, .f32⟩
  | .hbm, ⟨13, _⟩ => ⟨S5000x20, .i32⟩
  | .hbm, ⟨14, _⟩ => ⟨S5000x91, .f32⟩
  | .hbm, ⟨15, _⟩ => ⟨S5000x91, .f32⟩
  | .hbm, ⟨16, _⟩ => ⟨S5000x91, .f32⟩
  | .hbm, ⟨17, _⟩ => ⟨S5000x91, .f32⟩
  | .hbm, ⟨18, _⟩ => ⟨S100000, .f32⟩
  | .hbm, ⟨19, _⟩ => ⟨S1000, .f32⟩
  | .hbm, ⟨20, _⟩ => ⟨S1000, .i32⟩
  | .hbm, ⟨21, _⟩ => ⟨S100000, .i32⟩
  | .hbm, ⟨22, _⟩ => ⟨S_, .i32⟩
  | .hbm, ⟨23, _⟩ => ⟨S1000, .i32⟩
  | .hbm, ⟨24, _⟩ => ⟨S1000, .i1⟩
  | .hbm, ⟨25, _⟩ => ⟨S_, .i32⟩
  | .hbm, ⟨26, _⟩ => ⟨S1000, .i32⟩
  | .hbm, ⟨27, _⟩ => ⟨S1000, .i32⟩
  | .hbm, ⟨28, _⟩ => ⟨S1000, .i32⟩
  | .hbm, ⟨29, _⟩ => ⟨S1000x1, .i32⟩
  | .hbm, ⟨30, _⟩ => ⟨S1000, .i32⟩
  | .hbm, ⟨31, _⟩ => ⟨S5000x91x1, .f32⟩
  | .hbm, ⟨32, _⟩ => ⟨S5000x91x1, .f32⟩
  | .hbm, ⟨33, _⟩ => ⟨S5000x91x1, .f32⟩
  | .hbm, ⟨34, _⟩ => ⟨S5000x91x1, .f32⟩
  | .hbm, ⟨35, _⟩ => ⟨S5000x91x4, .f32⟩
  | .hbm, ⟨36, _⟩ => ⟨S5000x90x4, .f32⟩
  | .hbm, ⟨37, _⟩ => ⟨S450000x4, .f32⟩
  | .hbm, ⟨38, _⟩ => ⟨S_, .i32⟩
  | .hbm, ⟨39, _⟩ => ⟨S1000, .i32⟩
  | .hbm, ⟨40, _⟩ => ⟨S1000, .i1⟩
  | .hbm, ⟨41, _⟩ => ⟨S_, .i32⟩
  | .hbm, ⟨42, _⟩ => ⟨S1000, .i32⟩
  | .hbm, ⟨43, _⟩ => ⟨S1000, .i32⟩
  | .hbm, ⟨44, _⟩ => ⟨S1000, .i32⟩
  | .hbm, ⟨45, _⟩ => ⟨S1000x1, .i32⟩
  | .hbm, ⟨46, _⟩ => ⟨S1000x4, .f32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i1⟩
  | .hbm, ⟨51, _⟩ => ⟨S_, .i32⟩
  | .hbm, ⟨52, _⟩ => ⟨S_, .i32⟩
  | .hbm, ⟨53, _⟩ => ⟨S1000, .i32⟩
  | .hbm, ⟨54, _⟩ => ⟨S1000, .i32⟩
  | .hbm, ⟨55, _⟩ => ⟨S_, .i32⟩
  | .hbm, ⟨56, _⟩ => ⟨S1000, .i32⟩
  | .hbm, ⟨57, _⟩ => ⟨S1000, .i1⟩
  | .hbm, ⟨58, _⟩ => ⟨S_, .i32⟩
  | .hbm, ⟨59, _⟩ => ⟨S1000, .i32⟩
  | .hbm, ⟨60, _⟩ => ⟨S1000, .i1⟩
  | .hbm, ⟨61, _⟩ => ⟨S_, .i32⟩
  | .hbm, ⟨62, _⟩ => ⟨S_, .i1⟩
  | .hbm, ⟨63, _⟩ => ⟨S1000, .i1⟩
  | .hbm, ⟨64, _⟩ => ⟨S1000, .i1⟩
  | .hbm, ⟨65, _⟩ => ⟨S1000, .i1⟩
  | .hbm, ⟨66, _⟩ => ⟨S1000, .i32⟩
  | .hbm, ⟨67, _⟩ => ⟨S1000, .i32⟩
  | .hbm, ⟨68, _⟩ => ⟨S1000, .i32⟩
  | .hbm, ⟨69, _⟩ => ⟨S_, .i32⟩
  | .hbm, ⟨70, _⟩ => ⟨S1000, .i32⟩
  | .hbm, ⟨71, _⟩ => ⟨S1000, .i32⟩
  | .hbm, ⟨72, _⟩ => ⟨S1000, .f32⟩
  | .hbm, ⟨73, _⟩ => ⟨S_, .f32⟩
  | .hbm, ⟨74, _⟩ => ⟨S1024, .f32⟩
  | .hbm, ⟨75, _⟩ => ⟨S1000x1, .f32⟩
  | .hbm, ⟨76, _⟩ => ⟨S1000, .f32⟩
  | .hbm, ⟨77, _⟩ => ⟨S_, .f32⟩
  | .hbm, ⟨78, _⟩ => ⟨S24, .f32⟩
  | .hbm, ⟨79, _⟩ => ⟨S1024, .f32⟩
  | .hbm, ⟨80, _⟩ => ⟨S1000x1, .f32⟩
  | .hbm, ⟨81, _⟩ => ⟨S1000, .f32⟩
  | .hbm, ⟨82, _⟩ => ⟨S_, .f32⟩
  | .hbm, ⟨83, _⟩ => ⟨S24, .f32⟩
  | .hbm, ⟨84, _⟩ => ⟨S1024, .f32⟩
  | .hbm, ⟨85, _⟩ => ⟨S1000x1, .f32⟩
  | .hbm, ⟨86, _⟩ => ⟨S1000, .f32⟩
  | .hbm, ⟨87, _⟩ => ⟨S_, .f32⟩
  | .hbm, ⟨88, _⟩ => ⟨S24, .f32⟩
  | .hbm, ⟨89, _⟩ => ⟨S1024, .f32⟩
  | .hbm, ⟨90, _⟩ => ⟨S1000x1, .f32⟩
  | .hbm, ⟨91, _⟩ => ⟨S1000, .f32⟩
  | .hbm, ⟨92, _⟩ => ⟨S_, .f32⟩
  | .hbm, ⟨93, _⟩ => ⟨S24, .f32⟩
  | .hbm, ⟨94, _⟩ => ⟨S1024, .f32⟩
  | .hbm, ⟨95, _⟩ => ⟨S_, .f32⟩
  | .hbm, ⟨96, _⟩ => ⟨S24, .f32⟩
  | .hbm, ⟨97, _⟩ => ⟨S1024, .f32⟩
  | .hbm, ⟨98, _⟩ => ⟨S_, .f32⟩
  | .hbm, ⟨99, _⟩ => ⟨S24, .f32⟩
  | .hbm, ⟨100, _⟩ => ⟨S1024, .f32⟩
  | .hbm, ⟨101, _⟩ => ⟨S1024x1, .f32⟩
  | .hbm, ⟨102, _⟩ => ⟨S1024x1, .f32⟩
  | .hbm, ⟨103, _⟩ => ⟨S1024x1, .f32⟩
  | .hbm, ⟨104, _⟩ => ⟨S1024x1, .f32⟩
  | .hbm, ⟨105, _⟩ => ⟨S1024x1, .f32⟩
  | .hbm, ⟨106, _⟩ => ⟨S1024x1, .f32⟩
  | .hbm, ⟨107, _⟩ => ⟨S1024x1, .f32⟩
  | .hbm, ⟨108, _⟩ => ⟨S1024x1, .f32⟩
  | .hbm, ⟨109, _⟩ => ⟨S1024x8, .f32⟩
  | .hbm, ⟨110, _⟩ => ⟨S128x8, .f32⟩
  | .hbm, ⟨111, _⟩ => ⟨S100x5, .f32⟩
  | .local _ .vmem, ⟨0, _⟩ => ⟨S5000x91, .f32⟩
  | .local _ .vmem, ⟨1, _⟩ => ⟨S5000x91, .f32⟩
  | .local _ .vmem, ⟨2, _⟩ => ⟨S5000x91, .f32⟩
  | .local _ .vmem, ⟨3, _⟩ => ⟨S5000x91, .f32⟩
  | .local _ .vmem, ⟨4, _⟩ => ⟨S5000x91, .f32⟩
  | .local _ .vmem, ⟨5, _⟩ => ⟨S5000x4, .f32⟩
  | .local _ .vmem, ⟨6, _⟩ => ⟨S5000x20, .f32⟩
  | .local _ .vmem, ⟨7, _⟩ => ⟨S5000x20, .i32⟩
  | .local _ .vmem, ⟨8, _⟩ => ⟨S5000x91, .f32⟩
  | .local _ .vmem, ⟨9, _⟩ => ⟨S5000x91, .f32⟩
  | .local _ .vmem, ⟨10, _⟩ => ⟨S5000x91, .f32⟩
  | .local _ .vmem, ⟨11, _⟩ => ⟨S5000x91, .f32⟩
  | .local _ .vmem, ⟨12, _⟩ => ⟨S1024x8, .f32⟩
  | .local _ .vmem, ⟨13, _⟩ => ⟨S128x8, .f32⟩
  | _, _ => ⟨S5000x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_v9_3 : Ref sig .tc := ⟨.hbm, 15, rfl⟩
abbrev main_v9_4 : Ref sig .tc := ⟨.hbm, 16, rfl⟩
abbrev main_v9_5 : Ref sig .tc := ⟨.hbm, 17, rfl⟩
abbrev main_v10 : Ref sig .tc := ⟨.hbm, 18, rfl⟩
abbrev main_values : Ref sig .tc := ⟨.hbm, 19, rfl⟩
abbrev main_indices : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_1 : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_3 : Ref sig .tc := ⟨.hbm, 47, rfl⟩
abbrev main_call0_v0 : Ref sig .tc := ⟨.hbm, 48, rfl⟩
abbrev main_call0_c : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_c_1 : Ref sig .tc := ⟨.hbm, 55, rfl⟩
abbrev main_call0_v5 : Ref sig .tc := ⟨.hbm, 56, rfl⟩
abbrev main_call0_v6 : Ref sig .tc := ⟨.hbm, 57, rfl⟩
abbrev main_call0_c_2 : Ref sig .tc := ⟨.hbm, 58, rfl⟩
abbrev main_call0_v7 : Ref sig .tc := ⟨.hbm, 59, rfl⟩
abbrev main_call0_v8 : Ref sig .tc := ⟨.hbm, 60, rfl⟩
abbrev main_call0_c_3 : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_v12 : Ref sig .tc := ⟨.hbm, 65, rfl⟩
abbrev main_call0_v13 : Ref sig .tc := ⟨.hbm, 66, rfl⟩
abbrev main_call0_v14 : Ref sig .tc := ⟨.hbm, 67, rfl⟩
abbrev main_v33 : Ref sig .tc := ⟨.hbm, 68, rfl⟩
abbrev main_c_4 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_cst : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_5 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_cst_6 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_7 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_8 : Ref sig .tc := ⟨.hbm, 92, rfl⟩
abbrev main_v52 : Ref sig .tc := ⟨.hbm, 93, rfl⟩
abbrev main_v53 : Ref sig .tc := ⟨.hbm, 94, rfl⟩
abbrev main_cst_9 : Ref sig .tc := ⟨.hbm, 95, rfl⟩
abbrev main_v54 : Ref sig .tc := ⟨.hbm, 96, rfl⟩
abbrev main_v55 : Ref sig .tc := ⟨.hbm, 97, rfl⟩
abbrev main_cst_10 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg1_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem1_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32_47 : BitVec 32 := 0#32
  let c20_i32 : BitVec 32 := 20#32
  let v112 : BitVec 32 := Scalar.addi c0_i32_47 c20_i32
  let c1_i32 : BitVec 32 := 1#32
  ⟨c0_i32_47, v112, c1_i32⟩
abbrev stage0_0 : Fin 1 → Memref sig .tc .vmem S5000x91 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5000x91 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5000x91 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5000x91 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5000x91 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5000x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5000x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5000x20 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5000x91 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5000x91 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5000x91 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S5000x91 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := .none

abbrev stage1_0 : Fin 1 → Memref sig .tc .vmem S1024x8 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S128x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S5000x91 : Shape := ⟨2, ![5000, 91]⟩
abbrev S5000x364 : Shape := ⟨2, ![5000, 364]⟩
abbrev S5000x4 : Shape := ⟨2, ![5000, 4]⟩
abbrev S5000x1 : Shape := ⟨2, ![5000, 1]⟩
abbrev S5000 : Shape := ⟨1, ![5000]⟩
abbrev S_ : Shape := ⟨0, ![]⟩
abbrev S5000x91x4 : Shape := ⟨3, ![5000, 91, 4]⟩
abbrev S5000x91x1 : Shape := ⟨3, ![5000, 91, 1]⟩
abbrev S5000x90x4 : Shape := ⟨3, ![5000, 90, 4]⟩
abbrev S5000x90 : Shape := ⟨2, ![5000, 90]⟩
abbrev S90 : Shape := ⟨1, ![90]⟩
abbrev S450000x4 : Shape := ⟨2, ![450000, 4]⟩
abbrev S450000 : Shape := ⟨1, ![450000]⟩
abbrev S450000x1 : Shape := ⟨2, ![450000, 1]⟩
abbrev S1000 : Shape := ⟨1, ![1000]⟩
abbrev S1000x1 : Shape := ⟨2, ![1000, 1]⟩
abbrev S1000x4 : Shape := ⟨2, ![1000, 4]⟩
abbrev S1000x2 : Shape := ⟨2, ![1000, 2]⟩
abbrev S1000x1x2 : Shape := ⟨3, ![1000, 1, 2]⟩
abbrev S1x1000x2 : Shape := ⟨3, ![1, 1000, 2]⟩
abbrev S1000x1000x2 : Shape := ⟨3, ![1000, 1000, 2]⟩
abbrev S1000x1000x1 : Shape := ⟨3, ![1000, 1000, 1]⟩
abbrev S1000x1000 : Shape := ⟨2, ![1000, 1000]⟩
abbrev S1x1000 : Shape := ⟨2, ![1, 1000]⟩
abbrev S1 : Shape := ⟨1, ![1]⟩
abbrev S100 : Shape := ⟨1, ![100]⟩
abbrev S100x1 : Shape := ⟨2, ![100, 1]⟩
abbrev S100x4 : Shape := ⟨2, ![100, 4]⟩
abbrev S100x5 : Shape := ⟨2, ![100, 5]⟩

abbrev nBuf : Space → Nat
  | .hbm => 356
  | .vmem => 0
  | .smem => 0
  | _ => 0

abbrev hbmTy0_0 (i : Nat) : BufTy := match i % 128 with
  | 0 => ⟨S5000x91, .f32⟩
  | 1 => ⟨S5000x364, .f32⟩
  | 2 => ⟨S5000x4, .f32⟩
  | 3 => ⟨S5000x1, .f32⟩
  | 4 => ⟨S5000, .f32⟩
  | 5 => ⟨S5000x1, .f32⟩
  | 6 => ⟨S5000, .f32⟩
  | 7 => ⟨S5000, .f32⟩
  | 8 => ⟨S5000x1, .f32⟩
  | 9 => ⟨S5000, .f32⟩
  | 10 => ⟨S5000x1, .f32⟩
  | 11 => ⟨S5000, .f32⟩
  | 12 => ⟨S5000, .f32⟩
  | 13 => ⟨S5000x1, .f32⟩
  | 14 => ⟨S5000, .f32⟩
  | 15 => ⟨S_, .f32⟩
  | 16 => ⟨S5000, .f32⟩
  | 17 => ⟨S5000, .f32⟩
  | 18 => ⟨S5000, .f32⟩
  | 19 => ⟨S5000x1, .f32⟩
  | 20 => ⟨S5000, .f32⟩
  | 21 => ⟨S_, .f32⟩
  | 22 => ⟨S5000, .f32⟩
  | 23 => ⟨S5000, .f32⟩
  | 24 => ⟨S5000, .f32⟩
  | 25 => ⟨S5000x91x4, .f32⟩
  | 26 => ⟨S5000x91x1, .f32⟩
  | 27 => ⟨S5000x91, .f32⟩
  | 28 => ⟨S_, .f32⟩
  | 29 => ⟨S5000x91, .f32⟩
  | 30 => ⟨S5000x91, .f32⟩
  | 31 => ⟨S5000x91x1, .f32⟩
  | 32 => ⟨S5000x91, .f32⟩
  | 33 => ⟨S_, .f32⟩
  | 34 => ⟨S5000x91, .f32⟩
  | 35 => ⟨S5000x91, .f32⟩
  | 36 => ⟨S5000x91x1, .f32⟩
  | 37 => ⟨S5000x91, .f32⟩
  | 38 => ⟨S_, .f32⟩
  | 39 => ⟨S5000x91, .f32⟩
  | 40 => ⟨S5000x91, .f32⟩
  | 41 => ⟨S_, .f32⟩
  | 42 => ⟨S5000x91, .f32⟩
  | 43 => ⟨S5000x91, .f32⟩
  | 44 => ⟨S5000x91x1, .f32⟩
  | 45 => ⟨S5000x91, .f32⟩
  | 46 => ⟨S_, .f32⟩
  | 47 => ⟨S5000x91, .f32⟩
  | 48 => ⟨S5000x91, .f32⟩
  | 49 => ⟨S_, .f32⟩
  | 50 => ⟨S5000x91, .f32⟩
  | 51 => ⟨S5000x91, .f32⟩
  | 52 => ⟨S5000x1, .f32⟩
  | 53 => ⟨S5000x91, .f32⟩
  | 54 => ⟨S5000x91, .f32⟩
  | 55 => ⟨S5000x1, .f32⟩
  | 56 => ⟨S5000x91, .f32⟩
  | 57 => ⟨S5000x91, .f32⟩
  | 58 => ⟨S5000x1, .f32⟩
  | 59 => ⟨S5000x91, .f32⟩
  | 60 => ⟨S5000x91, .f32⟩
  | 61 => ⟨S5000x1, .f32⟩
  | 62 => ⟨S5000x91, .f32⟩
  | 63 => ⟨S5000x91, .f32⟩
  | 64 => ⟨S5000x91, .f32⟩
  | 65 => ⟨S5000x1, .f32⟩
  | 66 => ⟨S5000x91, .f32⟩
  | 67 => ⟨S5000x91, .f32⟩
  | 68 => ⟨S5000x91, .f32⟩
  | 69 => ⟨S5000x1, .f32⟩
  | 70 => ⟨S5000x91, .f32⟩
  | 71 => ⟨S5000x91, .f32⟩
  | 72 => ⟨S_, .f32⟩
  | 73 => ⟨S5000x91, .f32⟩
  | 74 => ⟨S5000x91, .f32⟩
  | 75 => ⟨S5000x91, .f32⟩
  | 76 => ⟨S_, .f32⟩
  | 77 => ⟨S5000x91, .f32⟩
  | 78 => ⟨S5000x91, .f32⟩
  | 79 => ⟨S5000x91, .f32⟩
  | 80 => ⟨S_, .f32⟩
  | 81 => ⟨S5000x91, .f32⟩
  | 82 => ⟨S5000x91, .f32⟩
  | 83 => ⟨S5000x91, .f32⟩
  | 84 => ⟨S_, .f32⟩
  | 85 => ⟨S5000x91, .f32⟩
  | 86 => ⟨S5000x91, .f32⟩
  | 87 => ⟨S5000x91, .f32⟩
  | 88 => ⟨S5000x91x1, .f32⟩
  | 89 => ⟨S5000x91x1, .f32⟩
  | 90 => ⟨S5000x91x1, .f32⟩
  | 91 => ⟨S5000x91x1, .f32⟩
  | 92 => ⟨S5000x91x4, .f32⟩
  | 93 => ⟨S5000x91x1, .f32⟩
  | 94 => ⟨S5000x91, .f32⟩
  | 95 => ⟨S_, .f32⟩
  | 96 => ⟨S_, .f32⟩
  | 97 => ⟨S_, .f32⟩
  | 98 => ⟨S5000x91, .f32⟩
  | 99 => ⟨S5000x91, .f32⟩
  | 100 => ⟨S_, .f32⟩
  | 101 => ⟨S5000x91, .f32⟩
  | 102 => ⟨S5000x91, .f32⟩
  | 103 => ⟨S5000x91x1, .f32⟩
  | 104 => ⟨S5000x91, .f32⟩
  | 105 => ⟨S_, .f32⟩
  | 106 => ⟨S_, .f32⟩
  | 107 => ⟨S_, .f32⟩
  | 108 => ⟨S5000x91, .f32⟩
  | 109 => ⟨S5000x91, .f32⟩
  | 110 => ⟨S_, .f32⟩
  | 111 => ⟨S5000x91, .f32⟩
  | 112 => ⟨S5000x91, .f32⟩
  | 113 => ⟨S5000x91x1, .f32⟩
  | 114 => ⟨S5000x91, .f32⟩
  | 115 => ⟨S_, .f32⟩
  | 116 => ⟨S_, .f32⟩
  | 117 => ⟨S_, .f32⟩
  | 118 => ⟨S5000x91, .f32⟩
  | 119 => ⟨S5000x91, .f32⟩
  | 120 => ⟨S_, .f32⟩
  | 121 => ⟨S5000x91, .f32⟩
  | 122 => ⟨S5000x91, .f32⟩
  | 123 => ⟨S5000x91x1, .f32⟩
  | 124 => ⟨S5000x91, .f32⟩
  | 125 => ⟨S_, .f32⟩
  | 126 => ⟨S_, .f32⟩
  | 127 => ⟨S_, .f32⟩
  | _ => ⟨S5000x91, .f32⟩

abbrev hbmTy0_1 (i : Nat) : BufTy := match i % 128 with
  | 0 => ⟨S5000x91, .f32⟩
  | 1 => ⟨S5000x91, .f32⟩
  | 2 => ⟨S_, .f32⟩
  | 3 => ⟨S5000x91, .f32⟩
  | 4 => ⟨S5000x91, .f32⟩
  | 5 => ⟨S5000x91x1, .f32⟩
  | 6 => ⟨S5000x91x1, .f32⟩
  | 7 => ⟨S5000x91x1, .f32⟩
  | 8 => ⟨S5000x91x1, .f32⟩
  | 9 => ⟨S5000x91x4, .f32⟩
  | 10 => ⟨S_, .f32⟩
  | 11 => ⟨S5000, .f32⟩
  | 12 => ⟨S_, .f32⟩
  | 13 => ⟨S5000, .f32⟩
  | 14 => ⟨S5000, .f32⟩
  | 15 => ⟨S5000x1, .f32⟩
  | 16 => ⟨S5000x91, .f32⟩
  | 17 => ⟨S5000x91, .f32⟩
  | 18 => ⟨S5000x91, .f32⟩
  | 19 => ⟨S_, .f32⟩
  | 20 => ⟨S5000, .f32⟩
  | 21 => ⟨S5000x1, .f32⟩
  | 22 => ⟨S5000x91, .f32⟩
  | 23 => ⟨S5000x91, .f32⟩
  | 24 => ⟨S5000x90x4, .f32⟩
  | 25 => ⟨S5000x90, .f32⟩
  | 26 => ⟨S90, .i32⟩
  | 27 => ⟨S_, .i32⟩
  | 28 => ⟨S90, .i32⟩
  | 29 => ⟨S90, .i32⟩
  | 30 => ⟨S5000x90, .i32⟩
  | 31 => ⟨S450000x4, .f32⟩
  | 32 => ⟨S450000, .f32⟩
  | 33 => ⟨S450000, .i32⟩
  | 34 => ⟨S450000x1, .f32⟩
  | 35 => ⟨S450000, .f32⟩
  | 36 => ⟨S450000x1, .f32⟩
  | 37 => ⟨S450000, .f32⟩
  | 38 => ⟨S450000, .f32⟩
  | 39 => ⟨S450000x1, .f32⟩
  | 40 => ⟨S450000, .f32⟩
  | 41 => ⟨S450000x1, .f32⟩
  | 42 => ⟨S450000, .f32⟩
  | 43 => ⟨S450000, .f32⟩
  | 44 => ⟨S_, .f32⟩
  | 45 => ⟨S450000, .f32⟩
  | 46 => ⟨S450000, .i1⟩
  | 47 => ⟨S_, .f32⟩
  | 48 => ⟨S450000, .f32⟩
  | 49 => ⟨S450000, .i1⟩
  | 50 => ⟨S450000, .i1⟩
  | 51 => ⟨S_, .f32⟩
  | 52 => ⟨S450000, .f32⟩
  | 53 => ⟨S450000, .i1⟩
  | 54 => ⟨S450000, .i1⟩
  | 55 => ⟨S_, .f32⟩
  | 56 => ⟨S_, .f32⟩
  | 57 => ⟨S450000, .f32⟩
  | 58 => ⟨S450000, .f32⟩
  | 59 => ⟨S1000, .f32⟩
  | 60 => ⟨S1000, .i32⟩
  | 61 => ⟨S_, .i32⟩
  | 62 => ⟨S1000, .i32⟩
  | 63 => ⟨S1000, .i1⟩
  | 64 => ⟨S_, .i32⟩
  | 65 => ⟨S1000, .i32⟩
  | 66 => ⟨S1000, .i32⟩
  | 67 => ⟨S1000, .i32⟩
  | 68 => ⟨S1000x1, .i32⟩
  | 69 => ⟨S1000x4, .f32⟩
  | 70 => ⟨S_, .i32⟩
  | 71 => ⟨S1000, .i32⟩
  | 72 => ⟨S1000, .i1⟩
  | 73 => ⟨S_, .i32⟩
  | 74 => ⟨S1000, .i32⟩
  | 75 => ⟨S1000, .i32⟩
  | 76 => ⟨S1000, .i32⟩
  | 77 => ⟨S1000x1, .i32⟩
  | 78 => ⟨S1000, .i32⟩
  | 79 => ⟨S_, .f32⟩
  | 80 => ⟨S1000, .f32⟩
  | 81 => ⟨S1000, .i1⟩
  | 82 => ⟨S1000, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S1000, .f32⟩
  | 90 => ⟨S1000, .f32⟩
  | 91 => ⟨S1000x1, .f32⟩
  | 92 => ⟨S1000x4, .f32⟩
  | 93 => ⟨S1000x4, .f32⟩
  | 94 => ⟨S1000x1, .f32⟩
  | 95 => ⟨S1000, .f32⟩
  | 96 => ⟨S1000x1, .f32⟩
  | 97 => ⟨S1000, .f32⟩
  | 98 => ⟨S1000, .f32⟩
  | 99 => ⟨S1000x1, .f32⟩
  | 100 => ⟨S1000, .f32⟩
  | 101 => ⟨S1000x1, .f32⟩
  | 102 => ⟨S1000, .f32⟩
  | 103 => ⟨S1000, .f32⟩
  | 104 => ⟨S1000, .f32⟩
  | 105 => ⟨S1000x1, .f32⟩
  | 106 => ⟨S1000, .f32⟩
  | 107 => ⟨S1000x1, .f32⟩
  | 108 => ⟨S1000, .f32⟩
  | 109 => ⟨S1000, .f32⟩
  | 110 => ⟨S1000x1, .f32⟩
  | 111 => ⟨S1000, .f32⟩
  | 112 => ⟨S1000x1, .f32⟩
  | 113 => ⟨S1000, .f32⟩
  | 114 => ⟨S1000, .f32⟩
  | 115 => ⟨S1000, .f32⟩
  | 116 => ⟨S1000x2, .f32⟩
  | 117 => ⟨S1000x1x2, .f32⟩
  | 118 => ⟨S1000x2, .f32⟩
  | 119 => ⟨S1x1000x2, .f32⟩
  | 120 => ⟨S1000x1000x2, .f32⟩
  | 121 => ⟨S1000x1000x2, .f32⟩
  | 122 => ⟨S1000x1000x2, .f32⟩
  | 123 => ⟨S1000x2, .f32⟩
  | 124 => ⟨S1000x1x2, .f32⟩
  | 125 => ⟨S1000x2, .f32⟩
  | 126 => ⟨S1x1000x2, .f32⟩
  | 127 => ⟨S1000x1000x2, .f32⟩
  | _ => ⟨S5000x91, .f32⟩

abbrev hbmTy0_2 (i : Nat) : BufTy := match i % 128 with
  | 0 => ⟨S1000x1000x2, .f32⟩
  | 1 => ⟨S1000x1000x2, .f32⟩
  | 2 => ⟨S1000x1000x2, .f32⟩
  | 3 => ⟨S_, .f32⟩
  | 4 => ⟨S_, .f32⟩
  | 5 => ⟨S1000x1000x2, .f32⟩
  | 6 => ⟨S1000x1000x2, .f32⟩
  | 7 => ⟨S1000x1000x1, .f32⟩
  | 8 => ⟨S1000x1000, .f32⟩
  | 9 => ⟨S1000x1000x1, .f32⟩
  | 10 => ⟨S1000x1000, .f32⟩
  | 11 => ⟨S1000x1000, .f32⟩
  | 12 => ⟨S1000x1, .f32⟩
  | 13 => ⟨S1x1000, .f32⟩
  | 14 => ⟨S1000x1000, .f32⟩
  | 15 => ⟨S1000x1000, .f32⟩
  | 16 => ⟨S1000x1000, .f32⟩
  | 17 => ⟨S1000x1000, .f32⟩
  | 18 => ⟨S_, .f32⟩
  | 19 => ⟨S1000x1000, .f32⟩
  | 20 => ⟨S1000x1000, .f32⟩
  | 21 => ⟨S1000x1000, .f32⟩
  | 22 => ⟨S1000, .i32⟩
  | 23 => ⟨S_, .i1⟩
  | 24 => ⟨S1000, .i1⟩
  | 25 => ⟨S_, .i32⟩
  | 26 => ⟨S_, .i32⟩
  | 27 => ⟨S1000x1000, .f32⟩
  | 28 => ⟨S1000, .i32⟩
  | 29 => ⟨S1000, .i1⟩
  | 30 => ⟨S_, .i32⟩
  | 31 => ⟨S_, .i32⟩
  | 32 => ⟨S1000, .i1⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S1x1000, .f32⟩
  | 52 => ⟨S1000, .f32⟩
  | 53 => ⟨S_, .f32⟩
  | 54 => ⟨S1000, .f32⟩
  | 55 => ⟨S1000, .i1⟩
  | 56 => ⟨S1000, .i1⟩
  | 57 => ⟨S_, .i32⟩
  | 58 => ⟨S1000, .i32⟩
  | 59 => ⟨S1000, .i1⟩
  | 60 => ⟨S1000, .i1⟩
  | 61 => ⟨S_, .i1⟩
  | 62 => ⟨S_, .i1⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S1, .i1⟩
  | 70 => ⟨S_, .i1⟩
  | 71 => ⟨S_, .i1⟩
  | 72 => ⟨S_, .i1⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S1, .i32⟩
  | 80 => ⟨S1000, .i1⟩
  | 81 => ⟨S_, .i32⟩
  | 82 => ⟨S_, .i32⟩
  | 83 => ⟨S_, .f32⟩
  | 84 => ⟨S_, .f32⟩
  | 85 => ⟨S1000, .f32⟩
  | 86 => ⟨S1000, .f32⟩
  | 87 => ⟨S100, .f32⟩
  | 88 => ⟨S100, .i32⟩
  | 89 => ⟨S_, .i32⟩
  | 90 => ⟨S100, .i32⟩
  | 91 => ⟨S100, .i1⟩
  | 92 => ⟨S_, .i32⟩
  | 93 => ⟨S100, .i32⟩
  | 94 => ⟨S100, .i32⟩
  | 95 => ⟨S100, .i32⟩
  | 96 => ⟨S100x1, .i32⟩
  | 97 => ⟨S100x4, .f32⟩
  | 98 => ⟨S100x1, .f32⟩
  | 99 => ⟨S100x5, .f32⟩
  | _ => ⟨S5000x91, .f32⟩

abbrev hbmTy (i : Nat) : BufTy := match i / 128 with
  | 0 => hbmTy0_0 i
  | 1 => hbmTy0_1 i
  | 2 => hbmTy0_2 i
  | _ => ⟨S5000x91, .f32⟩

abbrev bufTy : (tb : Table) → Fin (tcTables nBuf tb) → BufTy
  | .hbm, ⟨i, _⟩ => hbmTy i
  | _, _ => ⟨S5000x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_cst_7 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_8 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_cst_9 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_10 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_cst_11 : Ref sig .tc := ⟨.hbm, 95, rfl⟩
abbrev main_cst_12 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_call0_v3 : Ref sig .tc := ⟨.hbm, 100, rfl⟩
abbrev main_call0_v4 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_13 : Ref sig .tc := ⟨.hbm, 105, rfl⟩
abbrev main_cst_14 : Ref sig .tc := ⟨.hbm, 106, rfl⟩
abbrev main_call1_v0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_15 : Ref sig .tc := ⟨.hbm, 115, rfl⟩
abbrev main_cst_16 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_17 : Ref sig .tc := ⟨.hbm, 125, rfl⟩
abbrev main_cst_18 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_19 : Ref sig .tc := ⟨.hbm, 138, rfl⟩
abbrev main_v95 : Ref sig .tc := ⟨.hbm, 139, rfl⟩
abbrev main_cst_20 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_21 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_c : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_22 : Ref sig .tc := ⟨.hbm, 172, rfl⟩
abbrev main_v125 : Ref sig .tc := ⟨.hbm, 173, rfl⟩
abbrev main_v126 : Ref sig .tc := ⟨.hbm, 174, rfl⟩
abbrev main_cst_23 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_24 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_25 : Ref sig .tc := ⟨.hbm, 183, rfl⟩
abbrev main_call4_v0 : Ref sig .tc := ⟨.hbm, 184, rfl⟩
abbrev main_call4_v1 : Ref sig .tc := ⟨.hbm, 185, rfl⟩
abbrev main_v133 : Ref sig .tc := ⟨.hbm, 186, rfl⟩
abbrev main_values : Ref sig .tc := ⟨.hbm, 187, rfl⟩
abbrev main_indices : Ref sig .tc := ⟨.hbm, 188, rfl⟩
abbrev main_c_26 : Ref sig .tc := ⟨.hbm, 189, rfl⟩
abbrev main_v134 : Ref sig .tc := ⟨.hbm, 190, rfl⟩
abbrev main_v135 : Ref sig .tc := ⟨.hbm, 191, rfl⟩
abbrev main_c_27 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_c_28 : Ref sig .tc := ⟨.hbm, 198, rfl⟩
abbrev main_v141 : Ref sig .tc := ⟨.hbm, 199, rfl⟩
abbrev main_v142 : Ref sig .tc := ⟨.hbm, 200, rfl⟩
abbrev main_c_29 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_30 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_cst_31 : Ref sig .tc := ⟨.hbm, 211, rfl⟩
abbrev main_cst_32 : Ref sig .tc := ⟨.hbm, 212, rfl⟩
abbrev main_v151 : Ref sig .tc := ⟨.hbm, 213, rfl⟩
abbrev main_cst_33 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_cst_34 : Ref sig .tc := ⟨.hbm, 259, rfl⟩
abbrev main_call5_v0 : Ref sig .tc := ⟨.hbm, 260, rfl⟩
abbrev main_call5_v1 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_cst_35 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_c_36 : Ref sig .tc := ⟨.hbm, 279, rfl⟩
abbrev main_v212 : Ref sig .tc := ⟨.hbm, 280, rfl⟩
abbrev main_c_37 : Ref sig .tc := ⟨.hbm, 281, rfl⟩
abbrev main_c_38 : Ref sig .tc := ⟨.hbm, 282, rfl⟩
abbrev main_v213_0 : Ref sig .tc := ⟨.hbm, 283, rfl⟩
abbrev main_v213_1 : Ref sig .tc := ⟨.hbm, 284, rfl⟩
abbrev main_v213_2 : Ref sig .tc := ⟨.hbm, 285, rfl⟩
abbrev main_v213_3 : Ref sig .tc := ⟨.hbm, 286, rfl⟩
abbrev main_v213_4 : Ref sig .tc := ⟨.hbm, 287, rfl⟩
abbrev main_v213_5 : Ref sig .tc := ⟨.hbm, 288, rfl⟩
abbrev main_while0c_c_49 : Ref sig .tc := ⟨.hbm, 289, rfl⟩
abbrev main_while0c_v224 : Ref sig .tc := ⟨.hbm, 290, rfl⟩
abbrev main_while0b_c_49 : Ref sig .tc := ⟨.hbm, 291, rfl⟩
abbrev main_while0b_v224 : Ref sig .tc := ⟨.hbm, 292, rfl⟩
abbrev main_while0b_v225 : Ref sig .tc := ⟨.hbm, 293, rfl⟩
abbrev main_while0b_c_50 : Ref sig .tc := ⟨.hbm, 294, rfl⟩
abbrev main_while0b_v226 : Ref sig .tc := ⟨.hbm, 295, rfl⟩
abbrev main_while0b_c_51 : Ref sig .tc := ⟨.hbm, 296, rfl⟩
abbrev main_while0b_v227 : Ref sig .tc := ⟨.hbm, 297, rfl⟩
abbrev main_while0b_v228 : Ref sig .tc := ⟨.hbm, 298, rfl⟩
abbrev main_while0b_c_52 : Ref sig .tc := ⟨.hbm, 299, rfl⟩
abbrev main_while0b_c_53 : Ref sig .tc := ⟨.hbm, 300, rfl⟩
abbrev main_while0b_v229 : Ref sig .tc := ⟨.hbm, 301, rfl⟩
abbrev main_while0b_c_54 : Ref sig .tc := ⟨.hbm, 302, rfl⟩
abbrev main_while0b_c_55 : Ref sig .tc := ⟨.hbm, 303, rfl⟩
abbrev main_while0b_v230 : Ref sig .tc := ⟨.hbm, 304, rfl⟩
abbrev main_while0b_c_56 : Ref sig .tc := ⟨.hbm, 305, rfl⟩
abbrev main_while0b_v231 : Ref sig .tc := ⟨.hbm, 306, rfl⟩
abbrev main_while0b_v232 : Ref sig .tc := ⟨.hbm, 307, rfl⟩
abbrev main_while0b_v233 : Ref sig .tc := ⟨.hbm, 308, rfl⟩
abbrev main_while0b_cst_57 : Ref sig .tc := ⟨.hbm, 309, rfl⟩
abbrev main_while0b_v234 : Ref sig .tc := ⟨.hbm, 310, rfl⟩
abbrev main_while0b_v235 : Ref sig .tc := ⟨.hbm, 311, rfl⟩
abbrev main_while0b_v236 : Ref sig .tc := ⟨.hbm, 312, rfl⟩
abbrev main_while0b_v237 : Ref sig .tc := ⟨.hbm, 313, rfl⟩
abbrev main_while0b_v238 : Ref sig .tc := ⟨.hbm, 314, rfl⟩
abbrev main_while0b_v239 : Ref sig .tc := ⟨.hbm, 315, rfl⟩
abbrev main_while0b_v240 : Ref sig .tc := ⟨.hbm, 316, rfl⟩
abbrev main_while0b_c_58 : Ref sig .tc := ⟨.hbm, 317, rfl⟩
abbrev main_while0b_v241 : Ref sig .tc := ⟨.hbm, 318, rfl⟩
abbrev main_while0b_c_59 : Ref sig .tc := ⟨.hbm, 319, rfl⟩
abbrev main_while0b_v242 : Ref sig .tc := ⟨.hbm, 320, rfl⟩
abbrev main_while0b_v243 : Ref sig .tc := ⟨.hbm, 321, rfl⟩
abbrev main_while0b_c_60 : Ref sig .tc := ⟨.hbm, 322, rfl⟩
abbrev main_while0b_v244 : Ref sig .tc := ⟨.hbm, 323, rfl⟩
abbrev main_while0b_v245 : Ref sig .tc := ⟨.hbm, 324, rfl⟩
abbrev main_while0b_v246 : Ref sig .tc := ⟨.hbm, 325, rfl⟩
abbrev main_while0b_v247 : Ref sig .tc := ⟨.hbm, 326, rfl⟩
abbrev main_while0b_v248 : Ref sig .tc := ⟨.hbm, 327, rfl⟩
abbrev main_while0b_v249 : Ref sig .tc := ⟨.hbm, 328, rfl⟩
abbrev main_while0b_c_61 : Ref sig .tc := ⟨.hbm, 329, rfl⟩
abbrev main_while0b_v250 : Ref sig .tc := ⟨.hbm, 330, rfl⟩
abbrev main_while0b_c_62 : Ref sig .tc := ⟨.hbm, 331, rfl⟩
abbrev main_while0b_v251 : Ref sig .tc := ⟨.hbm, 332, rfl⟩
abbrev main_while0b_v252 : Ref sig .tc := ⟨.hbm, 333, rfl⟩
abbrev main_while0b_v253 : Ref sig .tc := ⟨.hbm, 334, rfl⟩
abbrev main_while0b_v254 : Ref sig .tc := ⟨.hbm, 335, rfl⟩
abbrev main_while0b_v255 : Ref sig .tc := ⟨.hbm, 336, rfl⟩
abbrev main_while0b_c_63 : Ref sig .tc := ⟨.hbm, 337, rfl⟩
abbrev main_while0b_v256 : Ref sig .tc := ⟨.hbm, 338, rfl⟩
abbrev main_cst_39 : Ref sig .tc := ⟨.hbm, 339, rfl⟩
abbrev main_call6_v0 : Ref sig .tc := ⟨.hbm, 340, rfl⟩
abbrev main_call6_v1 : Ref sig .tc := ⟨.hbm, 341, rfl⟩
abbrev main_v214 : Ref sig .tc := ⟨.hbm, 342, rfl⟩
abbrev main_values_40 : Ref sig .tc := ⟨.hbm, 343, rfl⟩
abbrev main_indices_41 : Ref sig .tc := ⟨.hbm, 344, rfl⟩
abbrev main_c_42 : Ref sig .tc := ⟨.hbm, 345, rfl⟩
abbrev main_v215 : Ref sig .tc := ⟨.hbm, 346, rfl⟩
abbrev main_v216 : Ref sig .tc := ⟨.hbm, 347, rfl⟩
abbrev main_c_43 : Ref sig .tc := ⟨.hbm, 348, rfl⟩
abbrev main_v217 : Ref sig .tc := ⟨.hbm, 349, rfl⟩
abbrev main_v218 : Ref sig .tc := ⟨.hbm, 350, rfl⟩
abbrev main_v219 : Ref sig .tc := ⟨.hbm, 351, rfl⟩
abbrev main_v220 : Ref sig .tc := ⟨.hbm, 352, rfl⟩
abbrev main_v221 : Ref sig .tc := ⟨.hbm, 353, rfl⟩
abbrev main_v222 : Ref sig .tc := ⟨.hbm, 354, rfl⟩
abbrev main_v223 : Ref sig .tc := ⟨.hbm, 355, rfl⟩

abbrev nD : Nat := 1
abbrev τ : Topo := Topo.v7x

variable {F : FTy → Type} [FloatOps F]

abbrev main_while0_count : Scf.Loop 32 := ⟨0#32, 1000#32, 1#32⟩
-- ==== Proof.Bodies.lean ====
/-
  The two kernel bodies run once on staging buffers held whole. `decodeRun` is the decode body: its run finds what each
  of the six result buffers holds at the end. `nmsRun` is the suppression body: its loop, which runs until a step
  changes nothing, is stepped by `suppress_call` from the hypothesis that some step changes nothing.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.RegionsLoop
public import Idealize.ShloMosaic.Lib.Tactic

@[expose] public section

set_option maxRecDepth 16384

noncomputable section

namespace Cert.Proof.Bodies

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra of the launch. -/
abbrev UU : Type := UR sig nD τ

local notation "𝕄" => MT nD τ sig Unit (Elt F) ℕ UU ℕ

/-- Memref `M`'s buffer on core `c`: the type of its contents. -/
abbrev Bf (c : Dev nD) {sp : Space} {S : Shape} {e : EltTy} (M : Memref sig .tc sp S e) : Type := Buf (Elt F) (M.view.loc (c : Thread nD τ))
/-- Memref `M`'s buffer on core `c` held whole at `f`. -/
abbrev pt (c : Dev nD) {sp : Space} {S : Shape} {e : EltTy} (M : Memref sig .tc sp S e) (f : Bf (F := F) c M) : sProp 𝕄 :=
  M.view.loc (c : Thread nD τ) ↦{fullShare} f

/-- The variants of the one loop that calls itself: the number of rounds still to go. -/
abbrev 𝒱₀ : Variants := Variants.nat

/-! ## The suppression loop -/

section Loop

variable (S : FVec F S1024x1024 .f32) (v : FVec F S1024x1 .f32)

/-- The loop's column after `n` rounds. -/
def column : ℕ → FVec F S1024x1 .f32
  | 0 => v
  | n + 1 => k1_pay2 S v (column n)

/-- The flag that round `n` leaves: whether it changed its column. -/
def changed (n : ℕ) : BitVec 1 := Scalar.cmpf .ogt (k1_pay3 S v (column S v n)) (Scalar.ofBits .f32 0x00000000#32)

/-- The flag under which round `n` is entered: the first unconditionally, each later one when the round before changed
    its column. -/
def entered : ℕ → BitVec 1
  | 0 => 1#1
  | n + 1 => changed S v n

open Classical in
/-- The column at the loop's exit: after the first round that changes nothing. -/
def settled : FVec F S1024x1 .f32 :=
  if h : ∃ n, changed S v n ≠ 1#1 then column S v (Nat.find h + 1) else v

/-- The loop entered before round `n`, with `d` rounds to go until the first that changes nothing has been run, ends at
    the settled column. -/
theorem loop_wp (h : ∃ n, changed S v n ≠ 1#1) (c : Dev nD) (E : Set ℕ) (Γ : PendingWaitsCtx sig Unit) (d : ℕ) : ∀ n, n + d = Nat.find h + 1 → ∀ (K : FVec F S1024x1 .f32 × BitVec 1 → sProp 𝕄),
    K (settled S v, entered S v (Nat.find h + 1)) ⊢ wp frame (wpE' (defs₀ (F := F)) 𝒱₀ (c : Thread nD τ) (some d) Γ) E (cc1_while1 S v (column S v n) (entered S v n)) K := by
  induction d generalizing Γ with
  | zero =>
    intro n hn K
    obtain rfl : n = Nat.find h + 1 := by omega
    have hb : entered S v (Nat.find h + 1) ≠ 1#1 := Nat.find_spec h
    rw [cc1_while1_eq_skeleton]; unfold cc1_while1_skel
    rw [if_neg hb]
    have e : settled S v = column S v (Nat.find h + 1) := by unfold settled; rw [dif_pos h]
    rw [e]
    exact BI.fupd_intro
  | succ d ih =>
    intro n hn K
    have hb : entered S v n = 1#1 := by
      cases n with
      | zero => rfl
      | succ n => exact not_not.mp (Nat.find_min h (m := n) (by omega))
    rw [cc1_while1_eq_skeleton]; unfold cc1_while1_skel
    rw [if_pos hb]
    refine BIBase.Entails.trans ?_ (wp_call (Γ := Γ) 𝒱₀ (c : Thread nD τ) (some (d + 1)) E d (by intro u hu; cases hu; exact Nat.lt_succ_self d))
    exact BIBase.Entails.trans BI.fupd_intro (ih _ (n + 1) (by omega) (fun x => wp frame (wpE' (defs₀ (F := F)) 𝒱₀ (c : Thread nD τ) (some (d + 1)) Γ) E (.ret x) K))

open Classical in
/-- The flag at the loop's exit. -/
def settledFlag : BitVec 1 := if h : ∃ n, changed S v n ≠ 1#1 then entered S v (Nat.find h + 1) else 0#1

/-- The call of the loop at the start column continues at the settled column. -/
theorem suppress_call (h : ∃ n, changed S v n ≠ 1#1) (c : Dev nD) (E : Set ℕ) {α : Type} (k : FVec F S1024x1 .f32 × BitVec 1 → Prog (TpuEff nD τ sig (Elt F) (Λ₀ F) .tc) α) (Q : α → sProp 𝕄) :
    wp frame (wpE (defs₀ (F := F)) 𝒱₀ (c : Thread nD τ) none) E (k (settled S v, settledFlag S v)) Q
      ⊢ wp frame (wpE (defs₀ (F := F)) 𝒱₀ (c : Thread nD τ) none) E (.op (.call (2 : (Λ₀ F).Label) ⟨S, v, v, 1#1⟩) k) Q := by
  refine BIBase.Entails.trans ?_ (wp_call 𝒱₀ (c : Thread nD τ) none E (Nat.find h + 1) (by intro u hu; cases hu))
  have := loop_wp S v h c E [] (Nat.find h + 1) 0 (by omega) (fun x => wp frame (wpE (defs₀ (F := F)) 𝒱₀ (c : Thread nD τ) none) E (k x) Q)
  have e : settledFlag S v = entered S v (Nat.find h + 1) := by unfold settledFlag; rw [dif_pos h]
  rw [e]
  exact this

end Loop

/-! ## The suppression body -/

/-- The suppression matrix of a block of boxes. -/
def supMat (x : Vec F S1024x8 .f32) : FVec F S1024x1024 .f32 := k1_pay18 (k1_pay16 x) (k1_pay17 x)

/-- The column of valid rows of a block. -/
def validCol (x : Vec F S1024x8 .f32) : FVec F S1024x1 .f32 := k1_pay19 (k1_pay4 x)

/-- The column of rows kept by the suppression. -/
def keepCol (x : Vec F S1024x8 .f32) : FVec F S1024x1 .f32 := settled (supMat x) (validCol x)

/-- What the suppression body leaves in its result buffer. -/
def nmsOut (x : Vec F S1024x8 .f32) : FVec F S128x8 .f32 :=
  k1_pay1 (k1_pay4 x) (keepCol x) (k1_pay21 (F := F)) (k1_pay22 (keepCol x)) (k1_pay23 (keepCol x)) (k1_pay24 (keepCol x)) (k1_pay25 (keepCol x)) (k1_pay26 (F := F))

/-- The suppression body run once: from its two buffers held whole it ends with the result buffer holding what it
    computes of the block. -/
def nmsRun (c : Dev nD) (arg0 : Memref sig .tc .vmem S1024x8 .f32) (harg0 : arg0.IsWhole) (arg1 : Memref sig .tc .vmem S128x8 .f32) (harg1 : arg1.IsWhole)
    (f0 : Bf (F := F) c arg0)
    (hterm : ∀ x : Vec F S1024x8 .f32, ∃ n, changed (supMat x) (validCol x) n ≠ 1#1) :
    { W : Bf (F := F) c arg1 // ∀ (f1 : Bf (F := F) c arg1) (E : Set ℕ) (Q : PUnit → sProp 𝕄),
      iprop(pt c arg0 f0 ∗ pt c arg1 f1 ∗ (pt c arg0 f0 ∗ pt c arg1 W -∗ Q ⟨⟩))
        ⊢ wp frame (wpE (defs₀ (F := F)) 𝒱₀ (c : Thread nD τ) none) E (cc1__nms_body arg0 harg0 arg1 harg1) Q } := by
  refine ⟨?_, fun f1 E Q => ?run⟩
  case run =>
    iintro ⟨H0, H1, Hk⟩
    rw [cc1__nms_body_eq_skeleton]
    unfold cc1__nms_body_skel
    rw [k1_part1_eq_skeleton, k1_part2_eq_skeleton]
    unfold k1_part1_skel k1_part2_skel
    sl_exec!
    iapply (suppress_call _ _ (hterm _) c E _ Q)
    sl_exec!
    sl_step
    iapply Hk
    isplitl [H0]; · iexact H0
    iexact H1

/-! ## The decode body -/

/-- One round of the extraction loop: the largest score of each row and its class are written at the round's column, and
    the class is struck out. -/
def trip (k : Fin k0_t1_loop.trips) (acc : FVec F S5000x91 .f32 × FVec F S5000x20 .f32 × IVec S5000x20 32) : FVec F S5000x91 .f32 × FVec F S5000x20 .f32 × IVec S5000x20 32 :=
  (k0_pay26 acc.1, k0_pay24 k acc.1 acc.2.1, k0_pay25 k acc.1 acc.2.2)

/-- What the extraction loop computes of a block of scores: the twenty largest of each row with their positions. -/
def extracted (w : FVec F S5000x91 .f32) : FVec F S5000x91 .f32 × FVec F S5000x20 .f32 × IVec S5000x20 32 :=
  Scf.fold trip (w, k0_pay20 (F := F), k0_pay21)

/-- The last part of the decode body with its loop run: the results stored. -/
theorem part3_eq (arg0 : Memref sig .tc .vmem S5000x91 .f32) (harg0 : arg0.IsWhole) (arg1 : Memref sig .tc .vmem S5000x91 .f32) (harg1 : arg1.IsWhole) (arg2 : Memref sig .tc .vmem S5000x91 .f32) (harg2 : arg2.IsWhole) (arg3 : Memref sig .tc .vmem S5000x91 .f32) (harg3 : arg3.IsWhole) (arg4 : Memref sig .tc .vmem S5000x91 .f32) (harg4 : arg4.IsWhole) (arg5 : Memref sig .tc .vmem S5000x4 .f32) (harg5 : arg5.IsWhole) (arg6 : Memref sig .tc .vmem S5000x20 .f32) (harg6 : arg6.IsWhole) (arg7 : Memref sig .tc .vmem S5000x20 .i32) (harg7 : arg7.IsWhole) (arg8 : Memref sig .tc .vmem S5000x91 .f32) (harg8 : arg8.IsWhole) (arg9 : Memref sig .tc .vmem S5000x91 .f32) (harg9 : arg9.IsWhole) (arg10 : Memref sig .tc .vmem S5000x91 .f32) (harg10 : arg10.IsWhole) (arg11 : Memref sig .tc .vmem S5000x91 .f32) (harg11 : arg11.IsWhole) (v9 : FVec F S5000x91 .f32) (v65 : FVec F S5000x91 .f32) (v72 : FVec F S5000x91 .f32) (v79 : FVec F S5000x91 .f32) (v84 : FVec F S5000x91 .f32) (v85 : FVec F S5000x91 .f32) :
    k0_part3 arg0 harg0 arg1 harg1 arg2 harg2 arg3 harg3 arg4 harg4 arg5 harg5 arg6 harg6 arg7 harg7 arg8 harg8 arg9 harg9 arg10 harg10 arg11 harg11 v9 v65 v72 v79 v84 v85 = (do
      let v99 : Vec F S5000x91 .f32 ← Prog.lift (.load arg8 (Rect.unit (s := S5000x91) ![0, 0] S5000x91.size inb_S5000x91_S5000x91_0_0).toLoadRect (View.loadsAt_vmem h_S5000x91))
      Prog.lift (.store arg8 (Rect.unit (s := S5000x91) ![0, 0] S5000x91.size inb_S5000x91_S5000x91_0_0) v65 Finset.univ (View.stores_vmem_bits_univ h_S5000x91 rfl) (.inl rfl))
      let v100 : Vec F S5000x91 .f32 ← Prog.lift (.load arg9 (Rect.unit (s := S5000x91) ![0, 0] S5000x91.size inb_S5000x91_S5000x91_0_0).toLoadRect (View.loadsAt_vmem h_S5000x91))
      Prog.lift (.store arg9 (Rect.unit (s := S5000x91) ![0, 0] S5000x91.size inb_S5000x91_S5000x91_0_0) v72 Finset.univ (View.stores_vmem_bits_univ h_S5000x91 rfl) (.inl rfl))
      let v101 : Vec F S5000x91 .f32 ← Prog.lift (.load arg10 (Rect.unit (s := S5000x91) ![0, 0] S5000x91.size inb_S5000x91_S5000x91_0_0).toLoadRect (View.loadsAt_vmem h_S5000x91))
      Prog.lift (.store arg10 (Rect.unit (s := S5000x91) ![0, 0] S5000x91.size inb_S5000x91_S5000x91_0_0) v79 Finset.univ (View.stores_vmem_bits_univ h_S5000x91 rfl) (.inl rfl))
      let v102 : Vec F S5000x91 .f32 ← Prog.lift (.load arg11 (Rect.unit (s := S5000x91) ![0, 0] S5000x91.size inb_S5000x91_S5000x91_0_0).toLoadRect (View.loadsAt_vmem h_S5000x91))
      Prog.lift (.store arg11 (Rect.unit (s := S5000x91) ![0, 0] S5000x91.size inb_S5000x91_S5000x91_0_0) (k0_pay18 v84 v85) Finset.univ (View.stores_vmem_bits_univ h_S5000x91 rfl) (.inl rfl))

      let v114 : Vec F S5000x20 .f32 ← Prog.lift (.load arg6 (Rect.unit (s := S5000x20) ![0, 0] S5000x20.size inb_S5000x20_S5000x20_0_0).toLoadRect (View.loadsAt_vmem h_S5000x20))
      Prog.lift (.store arg6 (Rect.unit (s := S5000x20) ![0, 0] S5000x20.size inb_S5000x20_S5000x20_0_0) (extracted (k0_pay19 v9 v65 v72 v79 v84 v85)).2.1 Finset.univ (View.stores_vmem_bits_univ h_S5000x20 rfl) (.inl rfl))
      let v115 : Vec F S5000x20 .i32 ← Prog.lift (.load arg7 (Rect.unit (s := S5000x20) ![0, 0] S5000x20.size inb_S5000x20_S5000x20_0_0).toLoadRect (View.loadsAt_vmem h_S5000x20))
      Prog.lift (.store arg7 (Rect.unit (s := S5000x20) ![0, 0] S5000x20.size inb_S5000x20_S5000x20_0_0) (extracted (k0_pay19 v9 v65 v72 v79 v84 v85)).2.2 Finset.univ (View.stores_vmem_bits_univ h_S5000x20 rfl) (.inl rfl))
      pure ⟨⟩) := by
  have hloop : ∀ w body, (∀ k acc, body k acc = Prog.ret (trip (F := F) k acc)) →
      Scf.Loop.for (E := TpuEff nD τ sig (Elt F) (Λ₀ F) .tc) k0_t1_loop k0_t1_ok (w, k0_pay20 (F := F), k0_pay21) body
        = .ret ((extracted w).1, (extracted w).2.1, (extracted w).2.2) := fun w body hb => Scf.for_pure _ _ _ _ _ body trip hb
  rw [k0_part3_eq_skeleton]
  unfold k0_part3_skel
  simp only [hloop _ (k0_t1_body arg0 harg0 arg1 harg1 arg2 harg2 arg3 harg3 arg4 harg4 arg5 harg5 arg6 harg6 arg7 harg7 arg8 harg8 arg9 harg9 arg10 harg10 arg11 harg11 v9 v65 v72 v79 v84 v85) (fun k acc => rfl)]
  rfl

/-- The decode body run once: from its twelve buffers held whole it ends with the six results at what it computes of the
    six operands. -/
def decodeRun (c : Dev nD) (arg0 : Memref sig .tc .vmem S5000x91 .f32) (harg0 : arg0.IsWhole) (arg1 : Memref sig .tc .vmem S5000x91 .f32) (harg1 : arg1.IsWhole) (arg2 : Memref sig .tc .vmem S5000x91 .f32) (harg2 : arg2.IsWhole) (arg3 : Memref sig .tc .vmem S5000x91 .f32) (harg3 : arg3.IsWhole) (arg4 : Memref sig .tc .vmem S5000x91 .f32) (harg4 : arg4.IsWhole) (arg5 : Memref sig .tc .vmem S5000x4 .f32) (harg5 : arg5.IsWhole) (arg6 : Memref sig .tc .vmem S5000x20 .f32) (harg6 : arg6.IsWhole) (arg7 : Memref sig .tc .vmem S5000x20 .i32) (harg7 : arg7.IsWhole) (arg8 : Memref sig .tc .vmem S5000x91 .f32) (harg8 : arg8.IsWhole) (arg9 : Memref sig .tc .vmem S5000x91 .f32) (harg9 : arg9.IsWhole) (arg10 : Memref sig .tc .vmem S5000x91 .f32) (harg10 : arg10.IsWhole) (arg11 : Memref sig .tc .vmem S5000x91 .f32) (harg11 : arg11.IsWhole)
    (f0 : Bf (F := F) c arg0) (f1 : Bf (F := F) c arg1) (f2 : Bf (F := F) c arg2) (f3 : Bf (F := F) c arg3) (f4 : Bf (F := F) c arg4) (f5 : Bf (F := F) c arg5) :
    { W : Bf (F := F) c arg6 × Bf (F := F) c arg7 × Bf (F := F) c arg8 × Bf (F := F) c arg9 × Bf (F := F) c arg10 × Bf (F := F) c arg11 // ∀ (f6 : Bf (F := F) c arg6) (f7 : Bf (F := F) c arg7) (f8 : Bf (F := F) c arg8) (f9 : Bf (F := F) c arg9) (f10 : Bf (F := F) c arg10) (f11 : Bf (F := F) c arg11) (E : Set ℕ) (Q : PUnit → sProp 𝕄),
      iprop(pt c arg0 f0 ∗ pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ (pt c arg0 f0 ∗ pt c arg1 f1 ∗ pt c arg2 f2 ∗ pt c arg3 f3 ∗ pt c arg4 f4 ∗ pt c arg5 f5 ∗ pt c arg6 W.1 ∗ pt c arg7 W.2.1 ∗ pt c arg8 W.2.2.1 ∗ pt c arg9 W.2.2.2.1 ∗ pt c arg10 W.2.2.2.2.1 ∗ pt c arg11 W.2.2.2.2.2 -∗ Q ⟨⟩))
        ⊢ wp frame (wpE (defs₀ (F := F)) 𝒱₀ (c : Thread nD τ) none) E (cc0__decode_body arg0 harg0 arg1 harg1 arg2 harg2 arg3 harg3 arg4 harg4 arg5 harg5 arg6 harg6 arg7 harg7 arg8 harg8 arg9 harg9 arg10 harg10 arg11 harg11) Q } := by
  refine ⟨⟨?_, ?_, ?_, ?_, ?_, ?_⟩, fun f6 f7 f8 f9 f10 f11 E Q => ?run⟩
  rotate_left 6
  on_goal 1 =>
    dsimp only
    iintro ⟨H0, H1, H2, H3, H4, H5, H6, H7, H8, H9, H10, H11, Hk⟩
    rw [cc0__decode_body_eq_skeleton]
    unfold cc0__decode_body_skel
    rw [k0_part1_eq_skeleton, k0_part2_eq_skeleton]
    unfold k0_part1_skel k0_part2_skel
    simp only [part3_eq]
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Proof.Bodies

end
-- ==== Proof.Regions.lean ====
/-
  The two pallas_calls of @main as regions, and @main's run. `region0` and `region1` are the records of the two calls
  over the buffers' contents at their entries; `run_main` says that every weakly fair execution of @main terminates with
  the arguments unchanged, every semaphore counter at zero and the result at its computed contents.
-/
module

public import proofs.«01_k».proof.Proof.Bodies
public import proofs.«01_k».proof.Proof.Gen.KernelIdeal.Regions

@[expose] public section

set_option maxRecDepth 16384

noncomputable section

namespace Cert.Proof.Run

open Cert.KernelIdeal Cert.KernelIdeal.Gen Cert.Proof.Bodies

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-- The rounds' algebra inside the launch's. -/
def EP : Emb UU (MT nD τ sig Unit (Elt F) ℕ UU ℕ) :=
  (Emb.refl _).trans (uEmb (nD := nD) (sig := sig) (Ix := Unit) (Val := Elt F) (Name := ℕ) (U := UU) (Lvl := ℕ)).toEmb

instance EP_landsIn : (EP : Emb UU 𝕄).LandsIn (upEmb : UEmb _ 𝕄) := by unfold EP; infer_instance

/-- The suppression loop ends on every block. -/
abbrev Settles (F : FTy → Type) [FloatOps F] : Prop := ∀ x : Vec F S1024x8 .f32, ∃ n, changed (supMat x) (validCol x) n ≠ 1#1

/-- The contents of every buffer on every core. -/
abbrev Contents (F : FTy → Type) [FloatOps F] : Type := (c : Dev nD) → (b : Ref sig .tc) → Buf (Elt F) ((c : Thread nD τ).loc b)

/-! ## The proof data of the two calls -/

/-! The operands' blocks of the first call as fetched from the contents `V`. -/

/-- Operand 0's block. -/
abbrev stgA0 (V : Contents F) (c : Dev nD) : (win0 0).block.Idx → Elt F (win0 0).elt := ((win0 0).blk t0_0).view.read (Elt F) (V c main_arg0)
/-- Operand 1's block. -/
abbrev stgA1 (V : Contents F) (c : Dev nD) : (win0 1).block.Idx → Elt F (win0 1).elt := ((win0 1).blk t0_0).view.read (Elt F) (V c main_v2)
/-- Operand 2's block. -/
abbrev stgA2 (V : Contents F) (c : Dev nD) : (win0 2).block.Idx → Elt F (win0 2).elt := ((win0 2).blk t0_0).view.read (Elt F) (V c main_v4)
/-- Operand 3's block. -/
abbrev stgA3 (V : Contents F) (c : Dev nD) : (win0 3).block.Idx → Elt F (win0 3).elt := ((win0 3).blk t0_0).view.read (Elt F) (V c main_v6)
/-- Operand 4's block. -/
abbrev stgA4 (V : Contents F) (c : Dev nD) : (win0 4).block.Idx → Elt F (win0 4).elt := ((win0 4).blk t0_0).view.read (Elt F) (V c main_v8)
/-- Operand 5's block. -/
abbrev stgA5 (V : Contents F) (c : Dev nD) : (win0 5).block.Idx → Elt F (win0 5).elt := ((win0 5).blk t0_0).view.read (Elt F) (V c main_arg2)

/-- The decode body's run on the fetched blocks. -/
abbrev runA (V : Contents F) (c : Dev nD) := decodeRun (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0) (stage0_9 0) (hstage0_9 0) (stage0_10 0) (hstage0_10 0) (stage0_11 0) (hstage0_11 0) (stgA0 V c) (stgA1 V c) (stgA2 V c) (stgA3 V c) (stgA4 V c) (stgA5 V c)

/-- The buffers the first call does not stage. -/
abbrev restA (c : Dev nD) : sProp 𝕄 := Pipeline.scopedRest (Ix := Unit) (Name := ℕ) (U := UU) (Lvl := ℕ) (Val := Elt F) spec0 c

/-- The first call's proof data from the contents `V`. -/
def datA (V : Contents F) (c : Dev nD) : Dat τ (Elt F) Unit ℕ UU ℕ (cfg0 (F := F)) c where
  A w := V c (Pipeline.arrRef spec0 w)
  after w _ := match w with
    | ⟨0, _⟩ => stgA0 V c
    | ⟨1, _⟩ => stgA1 V c
    | ⟨2, _⟩ => stgA2 V c
    | ⟨3, _⟩ => stgA3 V c
    | ⟨4, _⟩ => stgA4 V c
    | ⟨5, _⟩ => stgA5 V c
    | ⟨6, _⟩ => (runA V c).1.1
    | ⟨7, _⟩ => (runA V c).1.2.1
    | ⟨8, _⟩ => (runA V c).1.2.2.1
    | ⟨9, _⟩ => (runA V c).1.2.2.2.1
    | ⟨10, _⟩ => (runA V c).1.2.2.2.2.1
    | ⟨11, _⟩ => (runA V c).1.2.2.2.2.2
  Φ _ := restA c
  q _ := fullShare
  owed _ := 0

/-- The second call's block as fetched from the contents `V`. -/
abbrev stgB (V : Contents F) (c : Dev nD) : (win1 0).block.Idx → Elt F (win1 0).elt :=
  ((win1 0).blk t1_0).view.read (Elt F) (V c main_v66)

/-- The suppression body's run on the fetched block. -/
abbrev runB (hs : Settles F) (V : Contents F) (c : Dev nD) := nmsRun (F := F) c (stage1_0 0) (hstage1_0 0) (stage1_1 0) (hstage1_1 0) (stgB V c) hs

/-- The buffers the second call does not stage. -/
abbrev restB (c : Dev nD) : sProp 𝕄 := Pipeline.scopedRest (Ix := Unit) (Name := ℕ) (U := UU) (Lvl := ℕ) (Val := Elt F) spec1 c

/-- The second call's proof data from the contents `V`. -/
def datB (hs : Settles F) (V : Contents F) (c : Dev nD) : Dat τ (Elt F) Unit ℕ UU ℕ (cfg1 (F := F)) c where
  A w := V c (Pipeline.arrRef spec1 w)
  after w _ := match w with
    | ⟨0, _⟩ => stgB V c
    | ⟨1, _⟩ => (runB hs V c).1
  Φ _ := restB c
  q _ := fullShare
  owed _ := 0

/-- An operand's buffer holds the fetched block when the first body runs. -/
theorem beforeA_0 (V : Contents F) (c : Dev nD) (d : (win0 0).block.Idx → Elt F (win0 0).elt) : (datA V c).before 0 t0_0 d = stgA0 V c := by
  unfold Dat.before; rw [if_pos (fetch0_0 _)]; rfl
/-- Window 1 of the first call holds its whole array before the body runs. -/
theorem beforeA_1 (V : Contents F) (c : Dev nD) (d : (win0 1).block.Idx → Elt F (win0 1).elt) : (datA V c).before 1 t0_0 d = stgA1 V c := by
  unfold Dat.before; rw [if_pos (fetch0_1 _)]; rfl
/-- Window 2 of the first call holds its whole array before the body runs. -/
theorem beforeA_2 (V : Contents F) (c : Dev nD) (d : (win0 2).block.Idx → Elt F (win0 2).elt) : (datA V c).before 2 t0_0 d = stgA2 V c := by
  unfold Dat.before; rw [if_pos (fetch0_2 _)]; rfl
/-- Window 3 of the first call holds its whole array before the body runs. -/
theorem beforeA_3 (V : Contents F) (c : Dev nD) (d : (win0 3).block.Idx → Elt F (win0 3).elt) : (datA V c).before 3 t0_0 d = stgA3 V c := by
  unfold Dat.before; rw [if_pos (fetch0_3 _)]; rfl
/-- Window 4 of the first call holds its whole array before the body runs. -/
theorem beforeA_4 (V : Contents F) (c : Dev nD) (d : (win0 4).block.Idx → Elt F (win0 4).elt) : (datA V c).before 4 t0_0 d = stgA4 V c := by
  unfold Dat.before; rw [if_pos (fetch0_4 _)]; rfl
/-- Window 5 of the first call holds its whole array before the body runs. -/
theorem beforeA_5 (V : Contents F) (c : Dev nD) (d : (win0 5).block.Idx → Elt F (win0 5).elt) : (datA V c).before 5 t0_0 d = stgA5 V c := by
  unfold Dat.before; rw [if_pos (fetch0_5 _)]; rfl

/-- The operand's buffer holds the fetched block when the second body runs. -/
theorem beforeB (hs : Settles F) (V : Contents F) (c : Dev nD) (d : (win1 0).block.Idx → Elt F (win1 0).elt) : (datB hs V c).before 0 t1_0 d = stgB V c := by
  unfold Dat.before; rw [if_pos (fetch1_0 _)]; rfl

set_option maxHeartbeats 4000000 in
/-- The first call's body obligation. -/
theorem bodyA (V : Contents F) (c : Dev nD) : BodyObligation (datA V c) (defs₀ (F := F)) 𝒱₀ () Set.univ := fun t => by
  obtain rfl := fin_N0 t
  rw [bigSep_W0, bigSep_W0]
  simp only [owns_whole_eq]
  rw [show (datA V c).Φ t0_0.castSucc = restA c from rfl, show (datA V c).Φ t0_0.succ = restA c from rfl,
    show (datA V c).owesAt () t0_0.succ = (datA V c).owesAt () t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩⟩
  rw [beforeA_0] at hf0
  subst hf0
  rw [beforeA_1] at hf1
  subst hf1
  rw [beforeA_2] at hf2
  subst hf2
  rw [beforeA_3] at hf3
  subst hf3
  rw [beforeA_4] at hf4
  subst hf4
  rw [beforeA_5] at hf5
  subst hf5
  iapply ((runA V c).2 f6 f7 f8 f9 f10 f11 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Howes]; · iexact Howes
  isplitl [H0]; · iexists _; isplitr; swap; (· iexact H0); ipureintro; dsimp only [datA]
  isplitl [H1]; · iexists _; isplitr; swap; (· iexact H1); ipureintro; dsimp only [datA]
  isplitl [H2]; · iexists _; isplitr; swap; (· iexact H2); ipureintro; dsimp only [datA]
  isplitl [H3]; · iexists _; isplitr; swap; (· iexact H3); ipureintro; dsimp only [datA]
  isplitl [H4]; · iexists _; isplitr; swap; (· iexact H4); ipureintro; dsimp only [datA]
  isplitl [H5]; · iexists _; isplitr; swap; (· iexact H5); ipureintro; dsimp only [datA]
  isplitl [H6]; · iexists _; isplitr; swap; (· iexact H6); ipureintro; dsimp only [datA]
  isplitl [H7]; · iexists _; isplitr; swap; (· iexact H7); ipureintro; dsimp only [datA]
  isplitl [H8]; · iexists _; isplitr; swap; (· iexact H8); ipureintro; dsimp only [datA]
  isplitl [H9]; · iexists _; isplitr; swap; (· iexact H9); ipureintro; dsimp only [datA]
  isplitl [H10]; · iexists _; isplitr; swap; (· iexact H10); ipureintro; dsimp only [datA]
  iexists _; isplitr; swap; (· iexact H11); ipureintro; dsimp only [datA]

/-- The second call's body obligation. -/
theorem bodyB (hs : Settles F) (V : Contents F) (c : Dev nD) : BodyObligation (datB hs V c) (defs₀ (F := F)) 𝒱₀ () Set.univ := fun t => by
  obtain rfl := fin_N1 t
  rw [bigSep_W1, bigSep_W1]
  simp only [owns_whole_eq]
  rw [show (datB hs V c).Φ t1_0.castSucc = restB c from rfl, show (datB hs V c).Φ t1_0.succ = restB c from rfl,
    show (datB hs V c).owesAt () t1_0.succ = (datB hs V c).owesAt () t1_0.castSucc from rfl]
  iintro ⟨HΦ, Howes, ⟨%d0, %f0, %hf0, H0⟩, ⟨%d1, %f1, -, H1⟩⟩
  rw [beforeB] at hf0
  subst hf0
  iapply ((runB hs V c).2 f1 Set.univ _)
  isplitl [H0]; · iexact H0
  isplitl [H1]; · iexact H1
  iintro ⟨H0, H1⟩
  isplitl [HΦ]; · iexact HΦ
  isplitl [Howes]; · iexact Howes
  isplitl [H0]; · iexists _; isplitr; swap; (· iexact H0); ipureintro; dsimp only [datB]
  iexists _; isplitr; swap; (· iexact H1); ipureintro; dsimp only [datB]

/-! ## The two calls over the thread state -/

/-- No core owes another anything: no level is assigned. -/
abbrev L : GSem nD τ sig → Finset Unit := fun _ => ∅
/-- All semaphores lie on one level. -/
abbrev lv : GSem nD τ sig → Unit → ℕ := fun _ _ => 0

/-- The proof data of both calls, the first from the contents `V`, the second from `V'`. -/
def pdats (hs : Settles F) (V V' : Contents F) : (p : Fin 2) → (c : Dev nD) → Dat τ (Elt F) Unit ℕ UU ℕ ((cfgs (F := F)) p) c
  | ⟨0, _⟩ => fun c => datA V c
  | ⟨1, _⟩ => fun c => datB hs V' c

/-- What rides along with the buffers: the core owes nothing. -/
abbrev rest (c : Dev nD) : sProp 𝕄 := iprop(∃ W, owes (c : Thread nD τ) (0 : CellTallies nD τ sig Unit) W)

set_option backward.isDefEq.respectTransparency.types false in
/-- Call 0 as a region: entered with every unscoped buffer at its entry contents, left with them at `Vp`, which has each result's array
    as the call leaves it and everything else unchanged. -/
def region0 (hs : Settles F) (V V' Vp : Contents F)
    (hout : ∀ c (w : Fin 12), 6 ≤ w.val → Vp c (Pipeline.arrRef spec0 w) = (datA V c).arrAt w (cfg0 (F := F)).N)
    (hne : ∀ c (b : Ref sig .tc), b ∉ ([main_v9_0, main_v9_1, main_v9_2, main_v9_3, main_v9_4, main_v9_5] : List (Ref sig .tc)) → Vp c b = V c b) : RegionSeg (pcfgs (F := F)) adm (pdats hs V V') () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (bodyA V c).loose
  hwaits := Pipeline.hwaits_of_owed_zero _ _ _ _ L lv 0 fun _ _ => rfl
  pre c := iprop(unscopedBufs c (V c) ∗ rest c)
  post c := iprop(unscopedBufs c (Vp c) ∗ rest c)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm (pdats hs V V') (launch0 (F := F)).win (launch0 (F := F)).arr_whole c
      ((pdats hs V V' 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats hs V V' 0 c).Φ 0 = restA c from rfl]
    iintro ⟨-, -, Hr⟩; iexact Hr
  hout c := by
    rw [Pipeline.ownSems0_none, show (pdats hs V V' 0 c).Φ (Fin.last _) = restA c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) (launch0 (F := F)).win (launch0 (F := F)).arr_whole c
      (pdats hs V V') ((pdats hs V V' 0 c).share_full fun _ => rfl) (V c) (Vp c) ((pdats hs V V' 0 c).arrAt · (cfg0 (F := F)).N)
      (fun w => by
        fin_cases w
        · exact ((datA V c).arrAt_in 0 rfl _).trans (hne c main_arg0 (by decide)).symm
        · exact ((datA V c).arrAt_in 1 rfl _).trans (hne c main_v2 (by decide)).symm
        · exact ((datA V c).arrAt_in 2 rfl _).trans (hne c main_v4 (by decide)).symm
        · exact ((datA V c).arrAt_in 3 rfl _).trans (hne c main_v6 (by decide)).symm
        · exact ((datA V c).arrAt_in 4 rfl _).trans (hne c main_v8 (by decide)).symm
        · exact ((datA V c).arrAt_in 5 rfl _).trans (hne c main_arg2 (by decide)).symm
        · exact (hout c 6 (by decide)).symm
        · exact (hout c 7 (by decide)).symm
        · exact (hout c 8 (by decide)).symm
        · exact (hout c 9 (by decide)).symm
        · exact (hout c 10 (by decide)).symm
        · exact (hout c 11 (by decide)).symm)
      (fun b hb => hne c b fun h => by
        simp only [List.mem_cons, List.not_mem_nil, or_false] at h
        rcases h with rfl | rfl | rfl | rfl | rfl | rfl
        · exact hb (Finset.mem_image.mpr ⟨6, Finset.mem_univ _, rfl⟩)
        · exact hb (Finset.mem_image.mpr ⟨7, Finset.mem_univ _, rfl⟩)
        · exact hb (Finset.mem_image.mpr ⟨8, Finset.mem_univ _, rfl⟩)
        · exact hb (Finset.mem_image.mpr ⟨9, Finset.mem_univ _, rfl⟩)
        · exact hb (Finset.mem_image.mpr ⟨10, Finset.mem_univ _, rfl⟩)
        · exact hb (Finset.mem_image.mpr ⟨11, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Call 1 as a region: entered with every unscoped buffer at its entry contents, left with them at `Vp`, which has each result's array
    as the call leaves it and everything else unchanged. -/
def region1 (hs : Settles F) (V V' Vp : Contents F)
    (hout : ∀ c (w : Fin 2), 1 ≤ w.val → Vp c (Pipeline.arrRef spec1 w) = (datB hs V' c).arrAt w (cfg1 (F := F)).N)
    (hne : ∀ c (b : Ref sig .tc), b ∉ ([main_v67] : List (Ref sig .tc)) → Vp c b = V' c b) : RegionSeg (pcfgs (F := F)) adm (pdats hs V V') () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (bodyB hs V' c).loose
  hwaits := Pipeline.hwaits_of_owed_zero _ _ _ _ L lv 1 fun _ _ => rfl
  pre c := iprop(unscopedBufs c (V' c) ∗ rest c)
  post c := iprop(unscopedBufs c (Vp c) ∗ rest c)
  X _ := BI.emp
  Y _ := BI.emp
  Z c := Pipeline.unscopedRest (Ix := Unit) (Name := ℕ) (U := UU) (Lvl := ℕ) spec1 c (V' c)
  hentry c := by
    rw [Pipeline.ownSems0_none]
    have hsplit := Pipeline.arrays_of_unscopedBufs (p := 1) (pcfgs (F := F)) adm (pdats hs V V') (launch1 (F := F)).win (launch1 (F := F)).arr_whole c
      ((pdats hs V V' 1 c).share_full fun _ => rfl) (V' c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats hs V V' 1 c).Φ 0 = restB c from rfl]
    iintro ⟨-, -, Hr⟩; iexact Hr
  hout c := by
    rw [Pipeline.ownSems0_none, show (pdats hs V V' 1 c).Φ (Fin.last _) = restB c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) (launch1 (F := F)).win (launch1 (F := F)).arr_whole c
      (pdats hs V V') ((pdats hs V V' 1 c).share_full fun _ => rfl) (V' c) (Vp c) ((pdats hs V V' 1 c).arrAt · (cfg1 (F := F)).N)
      (fun w => by
        fin_cases w
        · exact ((datB hs V' c).arrAt_in 0 rfl _).trans (hne c main_v66 (by decide)).symm
        · exact (hout c 1 (by decide)).symm)
      (fun b hb => hne c b fun h => by
        simp only [List.mem_cons, List.not_mem_nil, or_false] at h
        rcases h with rfl
        · exact hb (Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.Proof.Run

end
-- ==== Proof.Main.lean ====
/-
  @main's run at any float values: every weakly fair execution terminates with the arguments unchanged, every semaphore
  counter at zero and the result at its computed contents.
-/
module

public import proofs.«01_k».proof.Proof.Regions

@[expose] public section

set_option maxRecDepth 16384

noncomputable section

namespace Cert.Proof.Run

open Cert.KernelIdeal Cert.KernelIdeal.Gen Cert.Proof.Bodies

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ UU ℕ

/-! ## @main -/

section Main

variable (hs : Settles F) (m : (ℓ : Loc nD τ sig) → Buf (Elt F) ℓ) (ρ : Dev nD → PrngReg)

/-- The contents the first call is entered with. -/
abbrev contA : Contents F := fun c b => V1 m c b

/-- What the first call leaves. -/
def outsA : Outs (F := F) := fun _ r c =>
  if h : r = main_v9_0 then h ▸ (datA (contA m) c).arrAt 6 (cfg0 (F := F)).N else
  if h : r = main_v9_1 then h ▸ (datA (contA m) c).arrAt 7 (cfg0 (F := F)).N else
  if h : r = main_v9_2 then h ▸ (datA (contA m) c).arrAt 8 (cfg0 (F := F)).N else
  if h : r = main_v9_3 then h ▸ (datA (contA m) c).arrAt 9 (cfg0 (F := F)).N else
  if h : r = main_v9_4 then h ▸ (datA (contA m) c).arrAt 10 (cfg0 (F := F)).N else
  if h : r = main_v9_5 then h ▸ (datA (contA m) c).arrAt 11 (cfg0 (F := F)).N else
  m ((c : Thread nD τ).loc r)

/-- The contents the second call is entered with. -/
abbrev contB : Contents F := fun c b => V5 m (outsA m) c b

/-- What the two calls leave. -/
def outs : Outs (F := F) := fun j r c =>
  if h : r = main_v67 then h ▸ (datB hs (contB m) c).arrAt 1 (cfg1 (F := F)).N else outsA m j r c

/-- The first call's result 0. -/
theorem outs_0 (c : Dev nD) : outs hs m 2 main_v9_0 c = (datA (contA m) c).arrAt 6 (cfg0 (F := F)).N := by
  unfold outs outsA
  rw [dif_neg (by decide), dif_pos rfl]
/-- The first call's result 1. -/
theorem outs_1 (c : Dev nD) : outs hs m 2 main_v9_1 c = (datA (contA m) c).arrAt 7 (cfg0 (F := F)).N := by
  unfold outs outsA
  rw [dif_neg (by decide), dif_neg (by decide), dif_pos rfl]
/-- The first call's result 2. -/
theorem outs_2 (c : Dev nD) : outs hs m 2 main_v9_2 c = (datA (contA m) c).arrAt 8 (cfg0 (F := F)).N := by
  unfold outs outsA
  rw [dif_neg (by decide), dif_neg (by decide), dif_neg (by decide), dif_pos rfl]
/-- The first call's result 3. -/
theorem outs_3 (c : Dev nD) : outs hs m 2 main_v9_3 c = (datA (contA m) c).arrAt 9 (cfg0 (F := F)).N := by
  unfold outs outsA
  rw [dif_neg (by decide), dif_neg (by decide), dif_neg (by decide), dif_neg (by decide), dif_pos rfl]
/-- The first call's result 4. -/
theorem outs_4 (c : Dev nD) : outs hs m 2 main_v9_4 c = (datA (contA m) c).arrAt 10 (cfg0 (F := F)).N := by
  unfold outs outsA
  rw [dif_neg (by decide), dif_neg (by decide), dif_neg (by decide), dif_neg (by decide), dif_neg (by decide), dif_pos rfl]
/-- The first call's result 5. -/
theorem outs_5 (c : Dev nD) : outs hs m 2 main_v9_5 c = (datA (contA m) c).arrAt 11 (cfg0 (F := F)).N := by
  unfold outs outsA
  rw [dif_neg (by decide), dif_neg (by decide), dif_neg (by decide), dif_neg (by decide), dif_neg (by decide), dif_neg (by decide), dif_pos rfl]
/-- The second call's result. -/
theorem outs_v67 (c : Dev nD) : outs hs m 6 main_v67 c = (datB hs (contB m) c).arrAt 1 (cfg1 (F := F)).N := by
  unfold outs
  rw [dif_pos rfl]

/-- What the second call finds does not depend on what it will write. -/
theorem V5_outs (c : Dev nD) : V5 m (outs hs m) c = V5 m (outsA m) c := by
  have h : ∀ r : Ref sig .tc, r ≠ main_v67 → outs hs m 2 r c = outsA m 2 r c := fun r hr => by unfold outs; rw [dif_neg hr]
  unfold V5 V4 V3 V2
  rw [h _ (by decide), h _ (by decide), h _ (by decide), h _ (by decide), h _ (by decide), h _ (by decide)]

/-- The launch's ghost resource. -/
def u₀ : UU := initOf (Pipeline.cells (cfgs (F := F)) cellOf_inj) (Pipeline.launchToks (cfgs (F := F)) cellOf_inj)

/-- The first call's record. -/
def R0 : RegionSeg (pcfgs (F := F)) adm (pdats hs (contA m) (contB m)) () defs₀ 𝒱₀ L lv 0 :=
  region0 hs (contA m) (contB m) (fun c b => V2 m (outs hs m) c b)
    (fun c w hw => by
      fin_cases w
      all_goals first | exact absurd hw (by decide) | skip
      · exact (show V2 m (outs hs m) c main_v9_0 = outs hs m 2 main_v9_0 c from by
          unfold V2
          rw [Function.update_of_ne (by decide), Function.update_of_ne (by decide), Function.update_of_ne (by decide), Function.update_of_ne (by decide), Function.update_of_ne (by decide), Function.update_self]).trans (outs_0 hs m c)
      · exact (show V2 m (outs hs m) c main_v9_1 = outs hs m 2 main_v9_1 c from by
          unfold V2
          rw [Function.update_of_ne (by decide), Function.update_of_ne (by decide), Function.update_of_ne (by decide), Function.update_of_ne (by decide), Function.update_self]).trans (outs_1 hs m c)
      · exact (show V2 m (outs hs m) c main_v9_2 = outs hs m 2 main_v9_2 c from by
          unfold V2
          rw [Function.update_of_ne (by decide), Function.update_of_ne (by decide), Function.update_of_ne (by decide), Function.update_self]).trans (outs_2 hs m c)
      · exact (show V2 m (outs hs m) c main_v9_3 = outs hs m 2 main_v9_3 c from by
          unfold V2
          rw [Function.update_of_ne (by decide), Function.update_of_ne (by decide), Function.update_self]).trans (outs_3 hs m c)
      · exact (show V2 m (outs hs m) c main_v9_4 = outs hs m 2 main_v9_4 c from by
          unfold V2
          rw [Function.update_of_ne (by decide), Function.update_self]).trans (outs_4 hs m c)
      · exact (show V2 m (outs hs m) c main_v9_5 = outs hs m 2 main_v9_5 c from by
          unfold V2
          rw [Function.update_self]).trans (outs_5 hs m c)
    )
    (fun c b hb => V2_of m (outs hs m) c b hb)

/-- The second call's record. -/
def R1 : RegionSeg (pcfgs (F := F)) adm (pdats hs (contA m) (contB m)) () defs₀ 𝒱₀ L lv 1 :=
  region1 hs (contA m) (contB m) (fun c b => V6 m (outs hs m) c b)
    (fun c w hw => by
      fin_cases w
      · exact absurd hw (by decide)
      · exact (show V6 m (outs hs m) c main_v67 = outs hs m 6 main_v67 c from by unfold V6; rw [Function.update_self]).trans (outs_v67 hs m c))
    (fun c b hb => (V6_of m (outs hs m) c b hb).trans (by rw [V5_outs]))

/-- The buffers held at a valuation, as one resource. -/
theorem held_eq (c : Dev nD) (W : Valuation τ sig (Elt F)) :
    (StableHlo.held (c : Thread nD τ) (Pipeline.ucRefs τ sig) W : sProp 𝕄) = unscopedBufs c (fun b => W b) :=
  (Pipeline.unscopedBufs_held (Ix := Unit) (Name := ℕ) (U := UU) (Lvl := ℕ) c W).symm

/-- The state before the first call is what that call asks for. -/
theorem pre0 (c : Dev nD) : iprop(StableHlo.held (c : Thread nD τ) (Pipeline.ucRefs τ sig) (V1 m c) ∗ rest c) ⊢ (R0 hs m).pre c := by
  rw [held_eq]; exact .rfl
/-- What the first call leaves is the state after it. -/
theorem post0 (c : Dev nD) : (R0 hs m).post c ⊢ iprop(StableHlo.held (c : Thread nD τ) (Pipeline.ucRefs τ sig) (V2 m (outs hs m) c) ∗ rest c) := by
  rw [held_eq]; exact .rfl
/-- The state before the second call is what that call asks for. -/
theorem pre1 (c : Dev nD) : iprop(StableHlo.held (c : Thread nD τ) (Pipeline.ucRefs τ sig) (V5 m (outs hs m) c) ∗ rest c) ⊢ (R1 hs m).pre c := by
  rw [V5_outs, held_eq]; exact .rfl
/-- What the second call leaves is the state after it. -/
theorem post1 (c : Dev nD) : (R1 hs m).post c ⊢ iprop(StableHlo.held (c : Thread nD τ) (Pipeline.ucRefs τ sig) (V6 m (outs hs m) c) ∗ rest c) := by
  rw [held_eq]; exact .rfl

/-- The launch's initial tokens. -/
theorem launchOwn : (ownU (u₀ (F := F)) : sProp 𝕄) ⊢ |={Set.univ}=> iprop(BI.own (EP (initOf (Pipeline.cells (cfgs (F := F)) cellOf_inj) (Pipeline.launchToks (cfgs (F := F)) cellOf_inj))) ∗ bigSep Finset.univ fun _ : Dev nD => (BI.emp : sProp 𝕄)) := by
  rw [show (ownU (u₀ (F := F)) : sProp 𝕄) = BI.own (EP (initOf (Pipeline.cells (cfgs (F := F)) cellOf_inj) (Pipeline.launchToks (cfgs (F := F)) cellOf_inj))) from rfl]
  iintro Hu
  imodintro
  isplitl [Hu]; · iexact Hu
  iapply (show (BI.emp : sProp 𝕄) ⊢ bigSep Finset.univ (fun _ : Dev nD => (BI.emp : sProp 𝕄)) from by rw [BI.bigSep_emp_const])
  iempintro

set_option maxHeartbeats 1000000 in
set_option backward.isDefEq.respectTransparency.types false in
/-- Every weakly fair execution of @main terminates, with the arguments unchanged, every semaphore counter at zero and
    the result at what the last host operation leaves. -/
theorem run_main : θ_run defs (onTc (τ := τ) (main (F := F))) ⟨m, fun _ => 0, ρ⟩ (fun r => (∀ c : Dev nD,
      r.2.mem ((c.tc : Thread nD τ).loc main_v68) = V7 m (outs hs m) c main_v68
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats hs (contA m) (contB m)) () cellOf_inj EP defs₀ 𝒱₀ L lv m ρ main
    (segs m (outs hs m) 𝒱₀ L lv (fun _ => rest) () (pdats hs (contA m) (contB m)) (R0 hs m) (R1 hs m))
    (fun c Q => by
      rewrite [main_chain c, Seg.run_eq_chain,
        show (segs m (outs hs m) 𝒱₀ L lv (fun _ => rest) () (pdats hs (contA m) (contB m)) (R0 hs m) (R1 hs m) c).map Seg.prog = [
          StableHlo.seq hostOps0, Prog.lift (.customCall (Pipeline.entry 0) ()),
          StableHlo.seq hostOps1, StableHlo.seq hostOps1_1, StableHlo.seq hostOps1_2,
          Prog.lift (.customCall (Pipeline.entry 1) ()), StableHlo.seq hostOps2 ] from rfl]
      dsimp (config := { failIfUnchanged := false }) only
      exact .rfl)
    (fun c => by simp only [segs, Seg.pipes_host, Seg.pipes_region, Seg.pipes_nil]; decide) (O₀ := 0) (fun _ _ => rfl) (G := fun _ => iprop(emp)) (u₀ := u₀ (F := F))
    (hu₀ := launchOwn)
    (T₀ := fun c => iprop(StableHlo.held (c : Thread nD τ) (Pipeline.ucRefs τ sig) (V0 m c) ∗ rest c))
    (Tₙ := fun c => StableHlo.held (c : Thread nD τ) (Pipeline.ucRefs τ sig) (V7 m (outs hs m) c))
    (hch := fun c => ⟨.rfl, pre0 hs m c, post0 hs m c, .rfl, .rfl, pre1 hs m c, post1 hs m c, .rfl⟩)
    (hinit := ?_)
    (QY := fun c s => s.mem ((c.tc : Thread nD τ).loc main_v68) = V7 m (outs hs m) c main_v68
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  · refine Pipeline.initEach L lv fun c => ?_
    rw [show unscopedBufs c (fun b => m ((c : Thread nD τ).loc b)) = StableHlo.held (c : Thread nD τ) (Pipeline.ucRefs τ sig) (V0 m c) from
      Pipeline.unscopedBufs_held (Ix := Unit) (Name := ℕ) (U := UU) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V7 m (outs hs m) c) s') $$ [Hh HSI]
    · isplitl [Hh] <;> iassumption
    icases Hr with ⟨%h, HSI⟩
    imodintro
    isplitr
    · ipureintro
      exact ⟨h (Proc.devRef .tc main_v68) (Finset.mem_filter.mpr ⟨StableHlo.devRef_mem_tcRefs main_v68, by decide⟩),
        (h (Proc.devRef .tc main_arg0) (Finset.mem_filter.mpr ⟨StableHlo.devRef_mem_tcRefs main_arg0, by decide⟩)).trans (V7_main_arg0 m (outs hs m) c),
        (h (Proc.devRef .tc main_arg1) (Finset.mem_filter.mpr ⟨StableHlo.devRef_mem_tcRefs main_arg1, by decide⟩)).trans (V7_main_arg1 m (outs hs m) c),
        (h (Proc.devRef .tc main_arg2) (Finset.mem_filter.mpr ⟨StableHlo.devRef_mem_tcRefs main_arg2, by decide⟩)).trans (V7_main_arg2 m (outs hs m) c)⟩
    · iexact HSI

end Main

end Cert.Proof.Run

end
-- ==== Proof.Spec.lean ====
/-
  The mathematics behind the two programs, free of both: greedy suppression in order of rank, the agreement of two
  rankings on the positive entries, the rank of an entry after suppression, and the extraction of a row's largest
  entries one by one.
-/
module

public import Idealize.ShloMosaic.Lib.Pointwise

@[expose] public section

noncomputable section

namespace Cert.Proof.Spec

open Classical

/-! ## Greedy suppression -/

/-- Entry `i` is kept when it is valid and no kept entry before it suppresses it. -/
def kept (val : ℕ → Prop) (sup : ℕ → ℕ → Prop) (i : ℕ) : Prop := val i ∧ ∀ j, (_h : j < i) → sup i j → ¬ kept val sup j
  termination_by i
  decreasing_by exact _h

/-- The greedy rule, unfolded once. -/
theorem kept_iff (val : ℕ → Prop) (sup : ℕ → ℕ → Prop) (i : ℕ) : kept val sup i ↔ val i ∧ ∀ j, j < i → sup i j → ¬ kept val sup j := by
  rw [kept]

/-- A predicate that satisfies the recursion below `n` is the greedy one there. -/
theorem kept_unique (val : ℕ → Prop) (sup : ℕ → ℕ → Prop) (n : ℕ) (k : ℕ → Prop)
    (hk : ∀ i, i < n → (k i ↔ val i ∧ ∀ j, j < i → sup i j → ¬ k j)) : ∀ i, i < n → (k i ↔ kept val sup i) := by
  intro i
  induction i using Nat.strong_induction_on with
  | _ i ih =>
    intro hi
    rw [hk i hi, kept_iff]
    refine and_congr_right fun _ => forall_congr' fun j => forall_congr' fun hj => ?_
    rw [ih j hj (by omega)]

/-- Only what suppresses among valid entries matters. -/
theorem kept_congr (val val' : ℕ → Prop) (sup sup' : ℕ → ℕ → Prop) (n : ℕ) (hv : ∀ i, i < n → (val i ↔ val' i))
    (hs : ∀ i j, j < i → i < n → val i → val j → (sup i j ↔ sup' i j)) : ∀ i, i < n → (kept val sup i ↔ kept val' sup' i) := by
  refine kept_unique val' sup' n (kept val sup) fun i hi => ?_
  rw [kept_iff, ← hv i hi]
  refine and_congr_right fun hvi => forall_congr' fun j => forall_congr' fun hj => ?_
  constructor
  · intro h hs' hk
    exact h ((hs i j hj hi hvi ((kept_iff _ _ _).1 hk).1).2 hs') hk
  · intro h hs' hk
    exact h ((hs i j hj hi hvi ((kept_iff _ _ _).1 hk).1).1 hs') hk

/-- The rounds of suppression from the valid entries: each drops what an entry of the round before suppresses. -/
def round (val : ℕ → Prop) (sup : ℕ → ℕ → Prop) : ℕ → ℕ → Prop
  | 0 => val
  | n + 1 => fun i => val i ∧ ∀ j, j < i → sup i j → ¬ round val sup n j

/-- After `n` rounds the first `n` entries are settled. -/
theorem round_kept (val : ℕ → Prop) (sup : ℕ → ℕ → Prop) : ∀ n i, i < n → (round val sup n i ↔ kept val sup i) := by
  intro n
  induction n with
  | zero => intro i hi; omega
  | succ n ih =>
    intro i hi
    rw [kept_iff]
    refine and_congr_right fun _ => forall_congr' fun j => forall_congr' fun hj => ?_
    rw [ih j (by omega)]

/-! ## Two rankings that agree on positive entries -/

/-- `σ` lists the entries by decreasing value, equal values by increasing position. -/
def Ranks {n : ℕ} (σ : Fin n → Fin n) (v : Fin n → EReal) : Prop :=
  Function.Bijective σ ∧ ∀ i j, i < j → v (σ j) < v (σ i) ∨ (v (σ i) = v (σ j) ∧ σ i < σ j)

/-- Later ranks have no greater values. -/
theorem Ranks.le {n : ℕ} {σ : Fin n → Fin n} {v : Fin n → EReal} (h : Ranks σ v) {i j : Fin n} (hij : i ≤ j) : v (σ j) ≤ v (σ i) := by
  rcases eq_or_lt_of_le hij with rfl | hij
  · exact le_rfl
  · rcases h.2 i j hij with h | h
    · exact h.le
    · exact h.1.symm.le

/-- Slots `s` with values `v` and entries `f` with values `M`: where the slots hold all positive entries, each once and
    equal ones in order, the two rankings agree on every place that either fills with a positive value. -/
theorem rank_agree {n N : ℕ} {σ : Fin n → Fin n} {v : Fin n → EReal} (hσ : Ranks σ v) {τ : Fin N → Fin N} {M : Fin N → EReal} (hτ : Ranks τ M)
    (φ : Fin n → Fin N) (ha : ∀ s, 0 < v s → M (φ s) = v s) (hb : ∀ f, 0 < M f → ∃ s, 0 < v s ∧ φ s = f)
    (hc : ∀ s s', s < s' → 0 < v s → v s' = v s → φ s < φ s') :
    ∀ (i : ℕ) (h : i < n) (h' : i < N), (0 < v (σ ⟨i, h⟩) ∨ 0 < M (τ ⟨i, h'⟩)) → 0 < v (σ ⟨i, h⟩) ∧ φ (σ ⟨i, h⟩) = τ ⟨i, h'⟩ := by
  have inj : ∀ s s', 0 < v s → 0 < v s' → φ s = φ s' → s = s' := by
    intro s s' hs hs' he
    have hv : v s = v s' := by rw [← ha s hs, ← ha s' hs', he]
    rcases lt_trichotomy s s' with h | h | h
    · exact absurd he (hc s s' h hs hv.symm).ne
    · exact h
    · exact absurd he.symm (hc s' s h hs' hv).ne
  intro i
  induction i using Nat.strong_induction_on with
  | _ i ih =>
    intro h h' hpos
    -- an entry before place `i` is not at place `i`
    have back : ∀ l (hl : l < n), 0 < v (σ ⟨l, hl⟩) → φ (σ ⟨l, hl⟩) = τ ⟨i, h'⟩ → ¬ l < i := by
      intro l hl hv he hli
      have hl' : l < N := by omega
      have := (ih l hli hl hl' (Or.inl hv)).2
      rw [this] at he
      have := congrArg Fin.val (hτ.1.1 he)
      simp at this
      omega
    by_cases hvi : 0 < v (σ ⟨i, h⟩)
    · refine ⟨hvi, ?_⟩
      obtain ⟨⟨k, hk⟩, hk'⟩ := hτ.1.2 (φ (σ ⟨i, h⟩))
      have hMk : M (τ ⟨k, hk⟩) = v (σ ⟨i, h⟩) := by rw [hk', ha _ hvi]
      rcases lt_trichotomy k i with hki | rfl | hki
      · exfalso
        have hkn : k < n := by omega
        obtain ⟨h1, h2⟩ := ih k hki hkn hk (Or.inr (by rw [hMk]; exact hvi))
        have := inj _ _ h1 hvi (h2.trans hk')
        have := congrArg Fin.val (hσ.1.1 this)
        simp at this
        omega
      · exact hk'.symm
      · exfalso
        have hMi : 0 < M (τ ⟨i, h'⟩) := lt_of_lt_of_le (by rw [hMk]; exact hvi) (hτ.le (i := ⟨i, h'⟩) (j := ⟨k, hk⟩) (by simp; omega))
        obtain ⟨s, hs, hsf⟩ := hb _ hMi
        obtain ⟨⟨l, hl⟩, rfl⟩ := hσ.1.2 s
        have hli := back l hl hs hsf
        have hil : i ≠ l := by
          rintro rfl
          have := congrArg Fin.val (hτ.1.1 (hk'.trans hsf))
          simp at this
          omega
        have hMl : M (τ ⟨i, h'⟩) = v (σ ⟨l, hl⟩) := by rw [← hsf, ha _ hs]
        rcases hσ.2 ⟨i, h⟩ ⟨l, hl⟩ (by simp; omega) with h1 | ⟨h1, h2⟩
        · rw [← hMl, ← hMk] at h1
          exact absurd h1 (not_lt.2 (hτ.le (by simp; omega)))
        · rcases hτ.2 ⟨i, h'⟩ ⟨k, hk⟩ (by simp; omega) with h3 | ⟨h3, h4⟩
          · rw [hMk, hMl, h1] at h3
            exact lt_irrefl _ h3
          · have := hc _ _ h2 hvi h1.symm
            rw [hsf, ← hk'] at this
            exact lt_asymm this h4
    · exfalso
      rcases hpos with hp | hp
      · exact hvi hp
      obtain ⟨s, hs, hsf⟩ := hb _ hp
      obtain ⟨⟨l, hl⟩, rfl⟩ := hσ.1.2 s
      have hli := back l hl hs hsf
      exact hvi (lt_of_lt_of_le hs (hσ.le (i := ⟨i, h⟩) (j := ⟨l, hl⟩) (by simp; omega)))

/-- Where at least `m` entries are positive, the first `m` places hold positive entries. -/
theorem positive_first {N : ℕ} {τ : Fin N → Fin N} {M : Fin N → EReal} (hτ : Ranks τ M) (m : ℕ)
    (hm : m ≤ (Finset.univ.filter fun f => 0 < M f).card) (i : Fin N) (hi : i.val < m) : 0 < M (τ i) := by
  by_contra hn
  have hsub : (Finset.univ.filter fun f => 0 < M f) ⊆ (Finset.univ.filter fun j : Fin N => j < i).image τ := by
    intro f hf
    rw [Finset.mem_filter] at hf
    obtain ⟨j, rfl⟩ := hτ.1.2 f
    refine Finset.mem_image.2 ⟨j, Finset.mem_filter.2 ⟨Finset.mem_univ _, ?_⟩, rfl⟩
    by_contra hj
    exact hn (lt_of_lt_of_le hf.2 (hτ.le (not_lt.1 hj)))
  have h1 := (Finset.card_le_card hsub).trans Finset.card_image_le
  have h2 : (Finset.univ.filter fun j : Fin N => j < i).card = i.val := by
    rw [show (Finset.univ.filter fun j : Fin N => j < i) = Finset.Iio i from by ext; simp, Fin.card_Iio]
  omega

/-! ## The place of an entry after suppression -/

/-- The place of entry `i` when the kept entries come first, each part in order. -/
def place (n : ℕ) (K : ℕ → Prop) (i : ℕ) : ℕ := if K i then Nat.count K i else Nat.count K n + Nat.count (fun j => ¬ K j) i

/-- The number of entries before place `t` of a ranking is `t`. -/
theorem card_before {n : ℕ} {σ : Fin n → Fin n} {v : Fin n → EReal} (hσ : Ranks σ v) (t : Fin n) :
    (Finset.univ.filter fun a => v (σ t) < v a ∨ (v a = v (σ t) ∧ a < σ t)).card = t.val := by
  have : (Finset.univ.filter fun a => v (σ t) < v a ∨ (v a = v (σ t) ∧ a < σ t)) = (Finset.Iio t).image σ := by
    ext a
    obtain ⟨s, rfl⟩ := hσ.1.2 a
    simp only [Finset.mem_filter, Finset.mem_univ, true_and, Finset.mem_image, Finset.mem_Iio]
    constructor
    · intro h
      refine ⟨s, ?_, rfl⟩
      by_contra hst
      rcases eq_or_lt_of_le (not_lt.1 hst) with rfl | hts
      · rcases h with h | h
        · exact lt_irrefl _ h
        · exact lt_irrefl _ h.2
      · rcases hσ.2 t s hts with h' | h' <;> rcases h with h | h
        · exact lt_asymm h h'
        · exact h'.ne h.1
        · exact h.ne h'.1
        · exact lt_asymm h.2 h'.2
    · rintro ⟨s', hs', he⟩
      obtain rfl := hσ.1.1 he
      rcases hσ.2 s' t hs' with h | h
      · exact Or.inl h
      · exact Or.inr h
  rw [this, Finset.card_image_of_injective _ hσ.1.1, Fin.card_Iio]

/-- The number of positions below `n` with a property. -/
theorem card_count {n : ℕ} (p : ℕ → Prop) [DecidablePred p] : (Finset.univ.filter fun a : Fin n => p a.val).card = Nat.count p n := by
  rw [Nat.count_eq_card_filter_range]
  refine Finset.card_bij (fun a _ => a.val) ?_ ?_ ?_
  · intro a ha
    rw [Finset.mem_filter] at ha
    exact Finset.mem_filter.2 ⟨Finset.mem_range.2 a.isLt, ha.2⟩
  · intro a _ b _ h
    exact Fin.ext h
  · intro b hb
    rw [Finset.mem_filter, Finset.mem_range] at hb
    exact ⟨⟨b, hb.1⟩, Finset.mem_filter.2 ⟨Finset.mem_univ _, hb.2⟩, rfl⟩

/-- … and below `i` as well. -/
theorem card_count_lt {n : ℕ} (p : ℕ → Prop) [DecidablePred p] (i : ℕ) (hi : i ≤ n) : (Finset.univ.filter fun a : Fin n => p a.val ∧ a.val < i).card = Nat.count p i := by
  rw [Nat.count_eq_card_filter_range]
  refine Finset.card_bij (fun a _ => a.val) ?_ ?_ ?_
  · intro a ha
    rw [Finset.mem_filter] at ha
    exact Finset.mem_filter.2 ⟨Finset.mem_range.2 ha.2.2, ha.2.1⟩
  · intro a _ b _ h
    exact Fin.ext h
  · intro b hb
    rw [Finset.mem_filter, Finset.mem_range] at hb
    exact ⟨⟨b, by omega⟩, Finset.mem_filter.2 ⟨Finset.mem_univ _, hb.2, hb.1⟩, rfl⟩

/-- The ranking by score of the kept entries puts entry `i` at its place. -/
theorem place_rank {n : ℕ} {σ : Fin n → Fin n} {s : Fin n → EReal} {K : ℕ → Prop} (hK : ∀ i : Fin n, K i → 0 < s i)
    (hs : ∀ i j : Fin n, i ≤ j → s j ≤ s i) {w : EReal} (hw : w ≤ 0) (hσ : Ranks σ fun i => if K i then s i else w) (t : Fin n) :
    place n K (σ t) = t.val := by
  rw [← card_before hσ t]
  generalize σ t = i
  unfold place
  by_cases hi : K i
  · simp only [if_pos hi]
    rw [← card_count_lt (n := n) K i i.isLt.le]
    congr 1
    refine Finset.filter_congr fun a _ => ?_
    by_cases ha : K a
    · simp only [if_pos ha, ha, true_and]
      constructor
      · intro h
        rcases eq_or_lt_of_le (hs a i (Fin.le_def.2 h.le)) with h' | h'
        · exact Or.inr ⟨h'.symm, Fin.lt_def.2 h⟩
        · exact Or.inl h'
      · rintro (h | h)
        · by_contra hn
          exact absurd h (not_lt.2 (hs i a (Fin.le_def.2 (not_lt.1 hn))))
        · exact Fin.lt_def.1 h.2
    · simp only [ha, if_false, false_and, false_iff]
      have := hK i hi
      rintro (h | h)
      · exact absurd (this.trans h) (not_lt.2 hw)
      · rw [← h.1] at this
        exact absurd this (not_lt.2 hw)
  · simp only [if_neg hi]
    rw [← card_count (n := n) K, ← card_count_lt (n := n) (fun j => ¬ K j) i i.isLt.le, ← Finset.card_union_of_disjoint]
    · congr 1
      ext a
      simp only [Finset.mem_union, Finset.mem_filter, Finset.mem_univ, true_and]
      by_cases ha : K a
      · simp only [if_pos ha, ha, true_or, true_iff]
        exact Or.inl (lt_of_le_of_lt hw (hK a ha))
      · simp only [ha, if_false, false_or, not_false_eq_true, true_and, lt_irrefl]
        exact Fin.lt_def.symm
    · rw [Finset.disjoint_filter]
      intro a _ h1 h2
      exact h2.1 h1

/-! ## A row's largest entries one by one -/

/-- Rounds that take a largest entry of the row and strike it out to `low`, which is below every entry: with fewer than
    `m` positive entries, `m` rounds take every positive one, and each entry at most once. -/
theorem extract {n m : ℕ} (hmn : m ≤ n) (W : ℕ → Fin n → EReal) (C : ℕ → Fin n) (low : EReal)
    (hlow : ∀ c, low < W 0 c) (hmax : ∀ k, k < m → ∀ c, W k c ≤ W k (C k))
    (hstep : ∀ k, k < m → ∀ c, W (k + 1) c = if c = C k then low else W k c)
    (hfew : ∀ s : Finset (Fin n), (∀ c ∈ s, 0 < W 0 c) → s.card < m) :
    (∀ k, k < m → W k (C k) = W 0 (C k)) ∧ (∀ k k', k < m → k' < m → C k = C k' → k = k') ∧ (∀ c, 0 < W 0 c → ∃ k, k < m ∧ C k = c) := by
  have inv : ∀ k, k ≤ m → ∀ c, W k c = if c ∈ (Finset.range k).image C then low else W 0 c := by
    intro k
    induction k with
    | zero => intro _ c; simp
    | succ k ih =>
      intro hk c
      rw [hstep k (by omega), ih (by omega)]
      rw [Finset.range_add_one, Finset.image_insert]
      by_cases h : c = C k
      · simp [h]
      · simp [h]
  have fresh : ∀ k, k < m → C k ∉ (Finset.range k).image C := by
    intro k hk hmem
    have h1 := inv k hk.le (C k)
    rw [if_pos hmem] at h1
    have hcard : ((Finset.range k).image C).card < (Finset.univ : Finset (Fin n)).card := by
      rw [Finset.card_fin]
      exact lt_of_le_of_lt (Finset.card_image_le.trans_eq (Finset.card_range k)) (by omega)
    obtain ⟨c, -, hc⟩ := Finset.exists_mem_notMem_of_card_lt_card hcard
    have h2 := inv k hk.le c
    rw [if_neg hc] at h2
    have h3 := hmax k hk c
    rw [h1, h2] at h3
    exact absurd (hlow c) (not_lt.2 h3)
  have val : ∀ k, k < m → W k (C k) = W 0 (C k) := fun k hk => by rw [inv k hk.le, if_neg (fresh k hk)]
  have inj : ∀ k k', k < m → k' < m → C k = C k' → k = k' := by
    intro k k' hk hk' he
    rcases lt_trichotomy k k' with h | h | h
    · exact absurd (Finset.mem_image.2 ⟨k, Finset.mem_range.2 h, he⟩) (fresh k' hk')
    · exact h
    · exact absurd (Finset.mem_image.2 ⟨k', Finset.mem_range.2 h, he.symm⟩) (fresh k hk)
  refine ⟨val, inj, fun c hc => ?_⟩
  by_contra hne
  push Not at hne
  have hall : ∀ k, k < m → 0 < W 0 (C k) := by
    intro k hk
    have h1 := hmax k hk c
    rw [inv k hk.le c, if_neg (by
      rw [Finset.mem_image]; rintro ⟨k', hk', he⟩
      exact hne k' (by rw [Finset.mem_range] at hk'; omega) he), val k hk] at h1
    exact lt_of_lt_of_le hc h1
  have h1 := hfew ((Finset.range m).image C) (by
    intro c' hc'
    obtain ⟨k, hk, rfl⟩ := Finset.mem_image.1 hc'
    exact hall k (Finset.mem_range.1 hk))
  rw [Finset.card_image_of_injOn (by
    intro k hk k' hk' he
    exact inj k k' (by simpa using hk) (by simpa using hk') he), Finset.card_range] at h1
  exact lt_irrefl _ h1

end Cert.Proof.Spec

end
-- ==== Proof.Suppress.lean ====
/-
  The suppression call over the reals: its loop reaches a round that changes nothing, the column it ends at is the
  greedy suppression, and the result places every row of the block by its rank after suppression.
-/
module

public import proofs.«01_k».proof.Proof.Bodies
public import proofs.«01_k».proof.Proof.Spec
public import Idealize.ShloMosaic.Lib.Pointwise
public import Idealize.ShloMosaic.Lib.WordCmp

@[expose] public section

set_option maxRecDepth 16384

noncomputable section

namespace Cert.Proof.Suppress

open Cert.KernelIdeal Cert.KernelIdeal.Gen Cert.Proof.Bodies Cert.Proof.Spec
open Idealize.ShloMosaic Idealize.ShloMosaic.TcCoe Idealize.ShloMosaic.Tactic

open Classical

/-! ## Literals -/

/-- The word of one half. -/
theorem lit_half : Ideal.ofBits .f32 0x3F000000#32 = (((1 : ℝ) / 2 : ℝ) : EReal) := by
  simp [Ideal.ofBits, Ideal.ieee, -EReal.coe_mul]; norm_num

/-- The word of −∞. -/
theorem lit_bot : Ideal.ofBits .f32 0xFF800000#32 = ⊥ := by simp [Ideal.ofBits, Ideal.ieee]

/-- The word of −1. -/
theorem lit_neg_one : Ideal.ofBits .f32 0xBF800000#32 = ((-(1 : ℝ) : ℝ) : EReal) := by
  simp [Ideal.ofBits, Ideal.ieee, -EReal.coe_mul, -EReal.coe_neg]; norm_num

/-- The word of 2048. -/
theorem lit_2048 : Ideal.ofBits .f32 0x45000000#32 = ((2048 : ℝ) : EReal) := by
  simp [Ideal.ofBits, Ideal.ieee, -EReal.coe_mul]; norm_num

/-! ## Sums of indicators -/

/-- A sum of indicators counts. -/
theorem sum_ind {ι : Type} [Fintype ι] (p : ι → Prop) [DecidablePred p] : (∑ k, if p k then (1 : EReal) else 0) = (((Finset.univ.filter p).card : ℝ) : EReal) := by
  rw [Finset.sum_boole]
  exact EReal.coe_natCast.symm

/-- A sum of products of indicators exceeds one half exactly where one of the products is one. -/
theorem half_lt_sum {ι : Type} [Fintype ι] (p q : ι → Prop) [DecidablePred p] [DecidablePred q] :
    (Ideal.ofBits .f32 0x3F000000#32 < ∑ k, (if p k then (1 : EReal) else 0) * (if q k then 1 else 0)) ↔ ∃ k, p k ∧ q k := by
  have e : ∀ k, (if p k then (1 : EReal) else 0) * (if q k then 1 else 0) = if p k ∧ q k then 1 else 0 := by
    intro k
    by_cases hp : p k <;> by_cases hq : q k <;> simp [hp, hq]
  simp only [e]
  rw [sum_ind, lit_half, EReal.coe_lt_coe_iff]
  constructor
  · intro h
    have : (Finset.univ.filter fun k => p k ∧ q k).card ≠ 0 := by
      intro h0
      rw [h0] at h
      norm_num at h
    obtain ⟨k, hk⟩ := Finset.card_pos.1 (Nat.pos_of_ne_zero this)
    exact ⟨k, (Finset.mem_filter.1 hk).2⟩
  · rintro ⟨k, hk⟩
    have : 0 < (Finset.univ.filter fun k => p k ∧ q k).card := Finset.card_pos.2 ⟨k, Finset.mem_filter.2 ⟨Finset.mem_univ _, hk⟩⟩
    have h1 : (1 : ℝ) ≤ ((Finset.univ.filter fun k => p k ∧ q k).card : ℝ) := by exact_mod_cast this
    linarith

/-! ## The loop -/

section Loop

variable (S : FVec Ideal S1024x1024 .f32) (v : FVec Ideal S1024x1 .f32)

/-- One round of the loop at a row. -/
theorem round_at (a : FVec Ideal S1024x1 .f32) (i : Fin 1024) :
    k1_pay2 S v a (ix2 i 0) = if Ideal.ofBits .f32 0x3F000000#32 < ∑ x, S (ix2 i x) * a (ix2 x 0) then 0 else v (ix2 i 0) := by
  pointwise [k1_pay2]

/-- The flag of a round: the largest of the changes. -/
theorem flag_at (a : FVec Ideal S1024x1 .f32) :
    k1_pay3 S v a = Finset.fold max (Ideal.ofBits .f32 0xFF800000#32) (fun x : Fin 1024 × Fin 1 => if k1_pay2 S v a (ix2 x.1 0) ≠ a (ix2 x.1 0) then (1 : EReal) else 0) Finset.univ := by
  unfold k1_pay3
  generalize k1_pay2 S v a = b
  pointwise

/-- A round changes nothing exactly where its column is the one it was entered with. -/
theorem unchanged_iff (n : ℕ) : changed S v n ≠ 1#1 ↔ ∀ i : Fin 1024, column S v (n + 1) (ix2 i 0) = column S v n (ix2 i 0) := by
  have hz : (Scalar.ofBits .f32 0x00000000#32 : Ideal .f32) = (0 : EReal) := Ideal.ofBits_zero_f32
  have e : changed S v n = BitVec.ofBool (decide ((0 : EReal) < k1_pay3 S v (column S v n))) := by
    unfold changed
    rw [hz]
    rfl
  rw [e, flag_at, lit_bot]
  have h1 : ∀ b : Bool, BitVec.ofBool b ≠ 1#1 ↔ b = false := by decide
  rw [h1, decide_eq_false_iff_not, Finset.lt_fold_max]
  simp only [not_lt_bot, false_or, Finset.mem_univ, true_and, not_exists]
  constructor
  · intro h i
    have := h (i, 0)
    by_contra hne
    exact this (by rw [if_pos (by exact hne)]; exact zero_lt_one)
  · intro h x
    rw [if_neg (by rw [not_not]; exact h x.1)]
    exact lt_irrefl _

variable {val : ℕ → Prop} {sup : ℕ → ℕ → Prop}
  (hS : ∀ i j : Fin 1024, S (ix2 i j) = if j.val < i.val ∧ sup i j then 1 else 0) (hv : ∀ i : Fin 1024, v (ix2 i 0) = if val i then 1 else 0)

include hS hv

/-- The column after `n` rounds. -/
theorem column_at (n : ℕ) (i : Fin 1024) : column S v n (ix2 i 0) = if round val sup n i then 1 else 0 := by
  induction n generalizing i with
  | zero => exact hv i
  | succ n ih =>
    show k1_pay2 S v (column S v n) (ix2 i 0) = _
    rw [round_at]
    simp only [hS, ih, hv]
    have hh := half_lt_sum (fun x : Fin 1024 => x.val < i.val ∧ sup i x) (fun x : Fin 1024 => round val sup n x)
    by_cases h : ∃ x : Fin 1024, (x.val < i.val ∧ sup i x) ∧ round val sup n x
    · rw [if_pos (hh.2 h), if_neg]
      obtain ⟨x, hx, hr⟩ := h
      exact fun hn => hn.2 x hx.1 hx.2 hr
    · rw [if_neg (fun h' => h (hh.1 h'))]
      by_cases hvi : val i
      · rw [if_pos hvi, if_pos]
        exact ⟨hvi, fun j hj hs hr => h ⟨⟨j, by omega⟩, ⟨hj, hs⟩, hr⟩⟩
      · rw [if_neg hvi, if_neg]
        exact fun hn => hvi hn.1

/-- Some round changes nothing. -/
theorem settles : ∃ n, changed S v n ≠ 1#1 := by
  refine ⟨1024, (unchanged_iff S v 1024).2 fun i => ?_⟩
  rw [column_at S v hS hv, column_at S v hS hv]
  have h1 := round_kept val sup 1024 i i.isLt
  have h2 := round_kept val sup 1025 i (by omega)
  by_cases h : kept val sup i
  · rw [if_pos (h1.2 h), if_pos (h2.2 h)]
  · rw [if_neg (fun h' => h (h1.1 h')), if_neg (fun h' => h (h2.1 h'))]

/-- The loop ends at the greedy suppression. -/
theorem settled_at (i : Fin 1024) : settled S v (ix2 i 0) = if kept val sup i then 1 else 0 := by
  have h := settles S v hS hv
  have hf := (unchanged_iff S v _).1 (Nat.find_spec h)
  generalize Nat.find h = n at hf
  have e : settled S v = column S v (Nat.find h + 1) := by unfold settled; rw [dif_pos h]
  have hf := (unchanged_iff S v _).1 (Nat.find_spec h)
  rw [e]
  generalize Nat.find h = n at hf ⊢
  rw [column_at S v hS hv]
  have key : ∀ i : Fin 1024, round val sup (n + 1) i ↔ round val sup n i := by
    intro i
    have := hf i
    rw [column_at S v hS hv, column_at S v hS hv] at this
    by_cases h1 : round val sup (n + 1) i <;> by_cases h2 : round val sup n i <;> simp [h1, h2] at this ⊢
  have fix : ∀ i, i < 1024 → (round val sup (n + 1) i ↔ val i ∧ ∀ j, j < i → sup i j → ¬ round val sup (n + 1) j) := by
    intro i hi
    refine and_congr_right fun _ => forall_congr' fun j => forall_congr' fun hj => ?_
    rw [key ⟨j, by omega⟩]
  have := kept_unique val sup 1024 _ fix i i.isLt
  by_cases h : kept val sup i
  · rw [if_pos (this.2 h), if_pos h]
  · rw [if_neg (fun h' => h (this.1 h')), if_neg h]

end Loop

/-! ## The block's validity and suppression -/

variable (x : Vec Ideal S1024x8 .f32)

/-- Row `i` of the block has a positive score. -/
def valid (i : ℕ) : Prop := ∃ h : i < 1024, 0 < x (ix2 (⟨i, h⟩ : Fin 1024) (4 : Fin 8))

/-- The overlap of rows `i` and `j` exceeds one half. -/
def overlap (i j : Fin 1024) : Prop :=
  Ideal.ofBits .f32 0x3F000000#32 < Ideal.div (k1_pay16 x (ix2 i j)) (k1_pay17 x (ix2 i j) + Ideal.ofBits .f32 0x3089705F#32)

/-- … at natural numbers. -/
def overlaps (i j : ℕ) : Prop := ∃ (hi : i < 1024) (hj : j < 1024), overlap x ⟨i, hi⟩ ⟨j, hj⟩

/-- The suppression matrix is one where an earlier candidate overlaps. -/
theorem supMat_at (i j : Fin 1024) : supMat x (ix2 i j) = if j.val < i.val ∧ overlaps x i j then 1 else 0 := by
  have e : supMat x (ix2 i j) = Scalar.select (IntOp.andi (BitVec.ofBool (decide (overlap x i j))) (IntOp.cmpi .slt (BitVec.ofNat 32 j.val) (BitVec.ofNat 32 i.val))) (1 : EReal) 0 := by
    unfold supMat overlap
    generalize k1_pay16 x = a
    generalize k1_pay17 x = b
    pointwise [k1_pay18]
    congr
  have ho : overlaps x i j ↔ overlap x i j := ⟨fun ⟨_, _, h⟩ => h, fun h => ⟨i.isLt, j.isLt, h⟩⟩
  rw [e, WordCmp.cmpi_slt_ofNat (by have := j.isLt; omega) (by have := i.isLt; omega), ho]
  by_cases h1 : overlap x i j <;> by_cases h2 : j.val < i.val <;> simp [h1, h2, Scalar.select, IntOp.andi]

/-- The column of valid flags. -/
theorem validCol_at (i : Fin 1024) : validCol x (ix2 i 0) = if valid x i then 1 else 0 := by
  have e : validCol x (ix2 i 0) = if 0 < x (ix2 i 4) then 1 else 0 := by
    pointwise [validCol, k1_pay19, k1_pay4]
  have ho : valid x i ↔ 0 < x (ix2 i (4 : Fin 8)) := ⟨fun ⟨_, h⟩ => h, fun h => ⟨i.isLt, h⟩⟩
  rw [e]
  by_cases h : 0 < x (ix2 i (4 : Fin 8))
  · rw [if_pos h, if_pos (ho.2 h)]
  · rw [if_neg h, if_neg (fun h' => h (ho.1 h'))]

/-- The loop of the suppression call ends, whatever the block. -/
theorem settles_block : ∃ n, changed (supMat x) (validCol x) n ≠ 1#1 :=
  settles _ _ (supMat_at x) (validCol_at x)

/-- Row `i` of the block is kept. -/
abbrev keep (i : ℕ) : Prop := kept (valid x) (overlaps x) i

/-- The column of kept flags. -/
theorem keepCol_at (i : Fin 1024) : keepCol x (ix2 i 0) = if keep x i then 1 else 0 :=
  settled_at _ _ (supMat_at x) (validCol_at x) i

/-! ## The result's rows -/

/-- What the result holds of row `i` of the block: the box, the score where the row is kept and −1 elsewhere, zeros. -/
def rowOut (i : Fin 1024) (c : Fin 8) : EReal :=
  if c.val < 4 then x (ix2 i c) else if c.val = 4 then (if keep x i then x (ix2 i 4) else ((-(1 : ℝ) : ℝ) : EReal)) else 0

/-- The number of kept rows up to row `i`. -/
theorem pay22_at (k : FVec Ideal S1024x1 .f32) (K : ℕ → Prop) (hk : ∀ i : Fin 1024, k (ix2 i 0) = if K i then 1 else 0) (i : Fin 1024) :
    k1_pay22 k (ix2 i 0) = ((Nat.count K (i + 1) : ℝ) : EReal) := by
  have e : k1_pay22 k (ix2 i 0) = ∑ x : Fin 1024, Scalar.select (IntOp.cmpi CmpIPredicate.sle (BitVec.ofNat 32 x) (BitVec.ofNat 32 i)) (k (ix2 x 0)) 0 := by
    pointwise [k1_pay22, k1_pay20]
  rw [e, ← card_count_lt (n := 1024) K (i + 1) (by omega), ← sum_ind]
  refine Finset.sum_congr rfl fun y _ => ?_
  rw [WordCmp.cmpi_sle_ofNat (by have := y.isLt; omega) (by have := i.isLt; omega), hk]
  by_cases h1 : y.val ≤ i.val <;> by_cases h2 : K y <;> simp [h1, h2, Scalar.select, Nat.lt_succ_iff]

/-- The number of rows up to row `i` that are not kept, of the rows with an entry. -/
theorem pay23_at (k : FVec Ideal S1024x1 .f32) (K : ℕ → Prop) (hk : ∀ i : Fin 1024, k (ix2 i 0) = if K i then 1 else 0) (i : Fin 1024) :
    k1_pay23 k (ix2 i 0) = ((Nat.count (fun j => j < 1000 ∧ ¬ K j) (i + 1) : ℝ) : EReal) := by
  have e : k1_pay23 k (ix2 i 0) = ∑ x : Fin 1024, Scalar.select (IntOp.cmpi CmpIPredicate.sle (BitVec.ofNat 32 x) (BitVec.ofNat 32 i)) (k1_pay21 (F := Ideal) (ix2 x 0) * (1 - k (ix2 x 0))) 0 := by
    unfold k1_pay23
    generalize k1_pay21 (F := Ideal) = q
    pointwise [k1_pay20]
  have hr : ∀ y : Fin 1024, k1_pay21 (F := Ideal) (ix2 y 0) = if y.val < 1000 then 1 else 0 := by
    intro y
    have e : k1_pay21 (F := Ideal) (ix2 y 0) = Scalar.select (IntOp.cmpi CmpIPredicate.slt (BitVec.ofNat 32 y) (BitVec.ofNat 32 1000)) (1 : EReal) 0 := by
      pointwise [k1_pay21]
    rw [e, WordCmp.cmpi_slt_ofNat (by have := y.isLt; omega) (by omega)]
    by_cases h : y.val < 1000 <;> simp [h, Scalar.select]
  rw [e, ← card_count_lt (n := 1024) (fun j => j < 1000 ∧ ¬ K j) (i + 1) (by omega), ← sum_ind]
  refine Finset.sum_congr rfl fun y _ => ?_
  rw [WordCmp.cmpi_sle_ofNat (by have := y.isLt; omega) (by have := i.isLt; omega), hk, hr]
  have h0 : (1 : EReal) - 1 = 0 := by rw [← EReal.coe_one, ← EReal.coe_sub, sub_self, EReal.coe_zero]
  by_cases h1 : y.val ≤ i.val <;> by_cases h2 : K y <;> by_cases h3 : y.val < 1000 <;> simp [h1, h2, h3, h0, Scalar.select, Nat.lt_succ_iff]

/-- The number of kept rows. -/
theorem pay24_at (k : FVec Ideal S1024x1 .f32) (K : ℕ → Prop) (hk : ∀ i : Fin 1024, k (ix2 i 0) = if K i then 1 else 0) :
    k1_pay24 k = ((Nat.count K 1024 : ℝ) : EReal) := by
  have e : k1_pay24 k = ∑ x : Fin 1024, ∑ _y : Fin 1, k (ix2 x 0) := by
    unfold k1_pay24
    pointwise
  rw [e, ← card_count (n := 1024) K, ← sum_ind]
  refine Finset.sum_congr rfl fun y _ => ?_
  rw [hk]
  simp

/-- An indicator is above one half exactly where its condition holds. -/
theorem half_lt_ind (p : Prop) [Decidable p] : (Ideal.ofBits .f32 0x3F000000#32 < if p then (1 : EReal) else 0) ↔ p := by
  rw [lit_half]
  by_cases h : p
  · simp only [h, if_true, iff_true]
    rw [← EReal.coe_one, EReal.coe_lt_coe_iff]; norm_num
  · simp only [h, if_false, iff_false, not_lt]
    rw [← EReal.coe_zero, EReal.coe_le_coe_iff]; norm_num

/-- The rank that the call gives row `i`. -/
theorem rank_at (K : ℕ → Prop) (k : FVec Ideal S1024x1 .f32) (hk : ∀ i : Fin 1024, k (ix2 i 0) = if K i then 1 else 0) (hK : ∀ i, 1000 ≤ i → i < 1024 → ¬ K i) (i : Fin 1024) :
    (if Ideal.ofBits FTy.f32 0x3F000000#32 < k1_pay21 (F := Ideal) (ix2 i 0) then
        Scalar.select (k1_pay25 k (ix2 i 0)) (k1_pay22 k (ix2 i 0) - k1_pay26 (F := Ideal) (ix2 i 0)) (k1_pay24 k + k1_pay23 k (ix2 i 0) - 1)
      else Ideal.ofBits FTy.f32 0x45000000#32) = (((if i.val < 1000 then place 1000 K i else 2048 : ℕ) : ℝ) : EReal) := by
  have hr : k1_pay21 (F := Ideal) (ix2 i 0) = if i.val < 1000 then 1 else 0 := by
    have e : k1_pay21 (F := Ideal) (ix2 i 0) = Scalar.select (IntOp.cmpi CmpIPredicate.slt (BitVec.ofNat 32 i) (BitVec.ofNat 32 1000)) (1 : EReal) 0 := by
      pointwise [k1_pay21]
    rw [e, WordCmp.cmpi_slt_ofNat (by have := i.isLt; omega) (by omega)]
    by_cases h : i.val < 1000 <;> simp [h, Scalar.select]
  have h25 : k1_pay25 k (ix2 i 0) = BitVec.ofBool (decide (K i)) := by
    have e : k1_pay25 k (ix2 i 0) = BitVec.ofBool (decide (Ideal.ofBits FTy.f32 0x3F000000#32 < k (ix2 i 0))) := by
      pointwise [k1_pay25]
    rw [e, hk]
    congr 1
    exact decide_eq_decide.2 (half_lt_ind _)
  have h26 : k1_pay26 (F := Ideal) (ix2 i 0) = 1 := by pointwise [k1_pay26]
  have c1000 : Nat.count K 1024 = Nat.count K 1000 := by
    rw [show 1024 = 1000 + 24 from rfl, Nat.count_add]
    have : Nat.count (fun k => K (1000 + k)) 24 = 0 := by
      rw [Nat.count_eq_card_filter_range, Finset.card_eq_zero, Finset.filter_eq_empty_iff]
      intro j hj
      exact hK _ (by omega) (by have := Finset.mem_range.1 hj; omega)
    omega
  rw [pay22_at k K hk, pay23_at k K hk, pay24_at k K hk, h25, h26, hr]
  by_cases h : i.val < 1000
  · rw [if_pos ((half_lt_ind _).2 h), if_pos h]
    unfold place
    by_cases hi : K i
    · rw [if_pos hi, Nat.count_succ, if_pos hi]
      simp only [hi, decide_true, BitVec.ofBool_true, Scalar.select, if_true]
      rw [← EReal.coe_one, ← EReal.coe_sub]
      congr 1
      push_cast
      ring
    · rw [if_neg hi, Nat.count_succ (fun j => j < 1000 ∧ ¬ K j), if_pos ⟨h, hi⟩, c1000]
      have e : Nat.count (fun j => j < 1000 ∧ ¬ K j) i = Nat.count (fun j => ¬ K j) i := by
        rw [Nat.count_eq_card_filter_range, Nat.count_eq_card_filter_range]
        congr 1
        refine Finset.filter_congr fun j hj => ?_
        have := Finset.mem_range.1 hj
        exact ⟨fun h => h.2, fun h => ⟨by omega, h⟩⟩
      rw [e]
      simp only [hi, decide_false, BitVec.ofBool_false, Scalar.select]
      rw [← EReal.coe_one, ← EReal.coe_add, if_neg (by decide), ← EReal.coe_sub]
      congr 1
      push_cast
      ring
  · rw [if_neg (fun h' => h ((half_lt_ind _).1 h')), if_neg h, lit_2048]
    norm_num

/-- The last product: each result entry is the sum over the rows whose place it is. -/
theorem pay1_at (b : FVec Ideal S1024x8 .f32) (a1 a2 a3 a4 : FVec Ideal S1024x1 .f32) (s : EReal) (q : IVec S1024x1 1) (o : FVec Ideal S1024x1 .f32) (t : Fin 128) (c : Fin 8) :
    k1_pay1 b a1 a2 a3 a4 s q o (ix2 t c) = ∑ x : Fin 1024,
      (if (if Ideal.ofBits FTy.f32 1056964608#32 < a2 (ix2 x 0) then
              Scalar.select (q (ix2 x 0)) (a3 (ix2 x 0) - o (ix2 x 0)) (s + a4 (ix2 x 0) - 1)
            else Ideal.ofBits FTy.f32 1157627904#32) = FloatOps.sitofp FTy.f32 (BitVec.ofNat 32 t.val) then (1 : EReal) else 0) *
        if h : c.val < 4 then b (ix2 x c)
        else if h : c.val - 4 < 1 then
            if Ideal.ofBits FTy.f32 1056964608#32 < a1 (ix2 x ⟨c.val - 4, h⟩) then b (ix2 x ⟨4 + (c.val - 4), by omega⟩)
            else Ideal.ofBits FTy.f32 3212836864#32
          else 0 := by
  pointwise [k1_pay1]

/-- The result's row `t` is the block's row `r` of rank `t`. -/
theorem nmsOut_at (hK : ∀ i, 1000 ≤ i → ¬ valid x i) (t : Fin 128) (r : Fin 1024) (hr : r.val < 1000) (hrt : ∀ i, i < 1000 → (place 1000 (keep x) i = t.val ↔ i = r.val)) (c : Fin 8) :
    nmsOut x (ix2 t c) = rowOut x r c := by
  unfold nmsOut
  rw [pay1_at]
  have ht : FloatOps.sitofp (F := Ideal) FTy.f32 (BitVec.ofNat 32 t.val) = ((t.val : ℝ) : EReal) := by
    show (((BitVec.ofNat 32 t.val).toInt : ℝ) : EReal) = _
    rw [WordCmp.toInt_ofNat_of_lt (by have := t.isLt; omega)]
    push_cast; rfl
  rw [ht]
  have hk4 : ∀ (i : Fin 1024) (c : Fin 8), k1_pay4 x (ix2 i c) = x (ix2 i c) := by
    intro i c
    pointwise [k1_pay4]
  rw [Finset.sum_eq_single r]
  · rw [rank_at (keep x) _ (keepCol_at x) (fun i hi _ h => hK i hi ((kept_iff _ _ _).1 h).1) r, if_pos hr, (hrt r hr).2 rfl, if_pos rfl, one_mul]
    unfold rowOut
    by_cases h4 : c.val < 4
    · rw [dif_pos h4, if_pos h4, hk4]
    · rw [dif_neg h4, if_neg h4]
      by_cases h5 : c.val = 4
      · rw [dif_pos (by omega), if_pos h5]
        have e1 : (⟨c.val - 4, by omega⟩ : Fin 1) = 0 := by ext; simp; omega
        have e2 : (⟨4 + (c.val - 4), by omega⟩ : Fin 8) = 4 := by ext; simp; omega
        rw [e1, e2, keepCol_at, hk4, lit_neg_one]
        by_cases h : keep x r
        · rw [if_pos ((half_lt_ind _).2 h), if_pos h]
        · rw [if_neg (fun h' => h ((half_lt_ind _).1 h')), if_neg h]
      · rw [dif_neg (by omega), if_neg h5]
  · intro i _ hi
    rw [rank_at (keep x) _ (keepCol_at x) (fun i hi _ h => hK i hi ((kept_iff _ _ _).1 h).1) i, if_neg, zero_mul]
    rw [EReal.coe_eq_coe_iff, Nat.cast_inj]
    by_cases h : i.val < 1000
    · rw [if_pos h, hrt i h]
      exact fun h => hi (Fin.ext h)
    · rw [if_neg h]
      have := t.isLt
      omega
  · intro h
    exact absurd (Finset.mem_univ _) h

end Cert.Proof.Suppress

end
-- ==== Proof.RefRun.lean ====
/-
  The reference's run: it ends with the result and every buffer at the loop's fold, the arguments unchanged and no
  semaphore counter to speak of; and what the loop's entry and its trips leave of the buffers they do not write.
-/
module

public import proofs.«01_k».proof.Proof.Gen.ReferenceIdeal.Run
public import Idealize.ShloMosaic.Lib.Quiescent

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F] [∀ e, Nonempty (Elt F e)]
variable (m : (ℓ : Loc nD τ sig) → Buf (Elt F) ℓ) (ρ : Dev nD → PrngReg)

/-- The buffers that the operations after the loop write. -/
abbrev post_W : List (Ref sig .tc) := [main_cst_39, main_call6_v0, main_call6_v1, main_v214, main_values_40, main_indices_41, main_c_42, main_v215, main_v216,
  main_c_43, main_v217, main_v218, main_v219, main_v220, main_v221, main_v222, main_v223]

/-- What the first block after the loop writes. -/
theorem post13 : (hostOps0_13 : List (HloOp τ sig (Elt F))).Forall fun op => op.writes ⊆ (([main_cst_39] : List (Ref sig .tc)).map (Proc.devRef (τ := τ) .tc)).toFinset :=
  StableHlo.forall_writes_sub_of_map rfl
/-- What the second block after the loop writes. -/
theorem post14 : (hostOps0_14 : List (HloOp τ sig (Elt F))).Forall fun op => op.writes ⊆ (([main_call6_v0, main_call6_v1, main_v214] : List (Ref sig .tc)).map (Proc.devRef (τ := τ) .tc)).toFinset :=
  StableHlo.forall_writes_sub_of_map rfl
/-- What the last block after the loop writes. -/
theorem post15 : (hostOps0_15 : List (HloOp τ sig (Elt F))).Forall fun op => op.writes ⊆ (([main_values_40, main_indices_41, main_c_42, main_v215, main_v216,
    main_c_43, main_v217, main_v218, main_v219, main_v220, main_v221, main_v222, main_v223] : List (Ref sig .tc)).map (Proc.devRef (τ := τ) .tc)).toFinset :=
  StableHlo.forall_writes_sub_of_map rfl

/-- A buffer that the loop does not write keeps its contents through it. -/
theorem atK_keep (r : Ref sig .tc) (h1 : r ∉ while0Ops0_W) (h2 : r ∉ condOps_W) (k : ℕ) (c : Dev nD) :
    atK m k c (Proc.devRef .tc r) = entryContents preI m c (Proc.devRef .tc r) := by
  induction k with
  | zero => rfl
  | succ k ih =>
    rw [← ih]
    show after while0Ops0 (after condOps (atK m k c)) (Proc.devRef .tc r) = _
    rw [after_of_writes_sub while0Ops0 _ while0Ops0_writes h1, after_of_writes_sub condOps _ condOps_writes h2]

/-- An argument is not written before the loop. -/
theorem entry_arg (r : Ref sig .tc) (h : r = main_arg0 ∨ r = main_arg1 ∨ r = main_arg2) (c : Dev nD) :
    entryContents preI m c (Proc.devRef .tc r) = m ((c.tc : Thread nD τ).loc r) := by
  simp only [entryContents, afterL_cons, afterL_nil]
  rw [after_of_writes_sub hostOps0_12 _ hostOps0_12_writes (by rcases h with rfl | rfl | rfl <;> decide),
    after_of_writes_sub hostOps0_11 _ hostOps0_11_writes (by rcases h with rfl | rfl | rfl <;> decide),
    after_of_writes_sub hostOps0_10 _ hostOps0_10_writes (by rcases h with rfl | rfl | rfl <;> decide),
    after_of_writes_sub hostOps0_9 _ hostOps0_9_writes (by rcases h with rfl | rfl | rfl <;> decide),
    after_of_writes_sub hostOps0_8 _ hostOps0_8_writes (by rcases h with rfl | rfl | rfl <;> decide),
    after_of_writes_sub hostOps0_7 _ hostOps0_7_writes (by rcases h with rfl | rfl | rfl <;> decide),
    after_of_writes_sub hostOps0_6 _ hostOps0_6_writes (by rcases h with rfl | rfl | rfl <;> decide),
    after_of_writes_sub hostOps0_5 _ hostOps0_5_writes (by rcases h with rfl | rfl | rfl <;> decide),
    after_of_writes_sub hostOps0_4 _ hostOps0_4_writes (by rcases h with rfl | rfl | rfl <;> decide),
    after_of_writes_sub hostOps0_3 _ hostOps0_3_writes (by rcases h with rfl | rfl | rfl <;> decide),
    after_of_writes_sub hostOps0_2 _ hostOps0_2_writes (by rcases h with rfl | rfl | rfl <;> decide),
    after_of_writes_sub hostOps0_1 _ hostOps0_1_writes (by rcases h with rfl | rfl | rfl <;> decide),
    after_of_writes_sub hostOps0 _ hostOps0_writes (by rcases h with rfl | rfl | rfl <;> decide)]

/-- An argument is not written at all. -/
theorem final_arg (r : Ref sig .tc) (h : r = main_arg0 ∨ r = main_arg1 ∨ r = main_arg2) (c : Dev nD) :
    finalContents condOps preI bodyI postI 1000 m c (Proc.devRef .tc r) = m ((c.tc : Thread nD τ).loc r) := by
  rw [← entry_arg m r h c, ← atK_keep m r (by rcases h with rfl | rfl | rfl <;> decide) (by rcases h with rfl | rfl | rfl <;> decide) 1000 c]
  simp only [finalContents, afterL_cons, afterL_nil]
  rw [after_of_writes_sub hostOps0_15 _ post15 (by rcases h with rfl | rfl | rfl <;> decide),
    after_of_writes_sub hostOps0_14 _ post14 (by rcases h with rfl | rfl | rfl <;> decide),
    after_of_writes_sub hostOps0_13 _ post13 (by rcases h with rfl | rfl | rfl <;> decide),
    after_of_writes_sub condOps _ condOps_writes (by rcases h with rfl | rfl | rfl <;> decide)]

/-- Every weakly fair execution of the reference terminates with the result at the fold, the arguments unchanged and
    every semaphore counter at zero. -/
theorem run_ref : θ_run (defs (F := F)) (onTc (τ := τ) (main (F := F))) ⟨m, fun _ => 0, ρ⟩ (fun r => (∀ c : Dev nD,
      r.2.mem ((c.tc : Thread nD τ).loc main_v223) = finalContents condOps preI bodyI postI 1000 m c (Proc.devRef .tc main_v223)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨h c main_v223 rfl, (h c main_arg0 rfl).trans (final_arg m _ (.inl rfl) c),
    (h c main_arg1 rfl).trans (final_arg m _ (.inr (.inl rfl)) c), (h c main_arg2 rfl).trans (final_arg m _ (.inr (.inr rfl)) c)⟩,
    sem_eq_zero_of_no_sems rfl r.2⟩) (run_fold m ρ)

end Cert.Proof.Ref

end
-- ==== Proof.RunValues.lean ====
/-
  What the two calls leave in their result arrays, as vector functions of the arrays that they read.
-/
module

public import proofs.«01_k».proof.Proof.Main
public import Idealize.ShloMosaic.Lib.LaneScatter.Tiles
public import Idealize.ShloMosaic.Lib.Pipeline.ValueKit

@[expose] public section

set_option maxRecDepth 16384

noncomputable section

namespace Cert.Proof.Run

open Cert.KernelIdeal Cert.KernelIdeal.Gen Cert.Proof.Bodies

open Idealize.ShloMosaic
open Idealize.ShloMosaic.TcCoe Idealize.ShloMosaic.Tactic
open Idealize.ShloMosaic.Pipeline (Dat Cfg Window)

variable {F : FTy → Type} [FloatOps F]

/-- The offsets of a load or store of a whole block are zero. -/
theorem offs2 : ∀ a, (![0, 0] : Fin 2 → ℕ) a = 0 := fun a => by fin_cases a <;> rfl

/-- A load of a whole block reads all that its view reads. -/
theorem readAt_zero {sig : RefSig} {κ : Kind} {sp : Space} {s : Shape} {e : EltTy} {Val : EltTy → Type} (v : View sig κ sp s e) (f : v.ty.Contents Val)
    {off : Fin s.rank → ℕ} (h : ∀ a, off a = 0) (inb : ∀ a, off a + s.size a ≤ s.size a) :
    v.readAt Val (Rect.unit off s.size inb).toLoadRect f = v.read Val f := by
  funext y
  exact congrArg (v.read Val f) (funext fun a => Fin.ext (by
    show off a + 1 * (y a).val = (y a).val
    have := h a; omega))

/-- The second call's block is its whole operand. -/
theorem stgB_eq (V : Contents F) (c : Dev nD) : stgB V c = V c main_v66 := by
  funext y
  refine congrArg (V c main_v66) (funext fun a => Fin.ext ?_)
  have h0 : win1_0.index t1_0 0 = 0 := by decide +kernel
  have h1 : win1_0.index t1_0 1 = 0 := by decide +kernel
  fin_cases a
  · blk_simp
    rw [h0]; exact (Nat.zero_mul 1024).symm ▸ Nat.zero_add _
  · blk_simp
    rw [h1]; exact (Nat.zero_mul 8).symm ▸ Nat.zero_add _

/-- What the second call's body leaves in its block. -/
theorem runB_eq (hs : Settles F) (V : Contents F) (c : Dev nD) : (runB hs V c).1 = nmsOut (F := F) (V c main_v66) := by
  unfold runB nmsRun
  refine (LaneScatter.read_whole_store (Val := Elt F) (stage1_1 0).view _ (off := ![0, 0]) offs2 _ _).trans ?_
  have e : View.readAt (Elt F) (stage1_0 0).view (Rect.unit ![0, 0] S1024x8.size inb_S1024x8_S1024x8_0_0).toLoadRect (stgB V c) = V c main_v66 :=
    (readAt_zero (Val := Elt F) (stage1_0 0).view (stgB V c) (off := ![0, 0]) offs2 inb_S1024x8_S1024x8_0_0).trans (stgB_eq V c)
  rw [e]
  rfl

/-- Operand 0's block is the whole operand. -/
theorem stgA0_eq (V : Contents F) (c : Dev nD) : stgA0 V c = V c main_arg0 := by
  funext y
  refine congrArg (V c main_arg0) (funext fun a => Fin.ext ?_)
  have h0 : win0_0.index t0_0 0 = 0 := by decide +kernel
  have h1 : win0_0.index t0_0 1 = 0 := by decide +kernel
  fin_cases a
  · blk_simp
    rw [h0]; exact (Nat.zero_mul 5000).symm ▸ Nat.zero_add _
  · blk_simp
    rw [h1]; exact (Nat.zero_mul 91).symm ▸ Nat.zero_add _

/-- Operand 1's block is the whole operand. -/
theorem stgA1_eq (V : Contents F) (c : Dev nD) : stgA1 V c = V c main_v2 := by
  funext y
  refine congrArg (V c main_v2) (funext fun a => Fin.ext ?_)
  have h0 : win0_1.index t0_0 0 = 0 := by decide +kernel
  have h1 : win0_1.index t0_0 1 = 0 := by decide +kernel
  fin_cases a
  · blk_simp
    rw [h0]; exact (Nat.zero_mul 5000).symm ▸ Nat.zero_add _
  · blk_simp
    rw [h1]; exact (Nat.zero_mul 91).symm ▸ Nat.zero_add _

/-- Operand 2's block is the whole operand. -/
theorem stgA2_eq (V : Contents F) (c : Dev nD) : stgA2 V c = V c main_v4 := by
  funext y
  refine congrArg (V c main_v4) (funext fun a => Fin.ext ?_)
  have h0 : win0_2.index t0_0 0 = 0 := by decide +kernel
  have h1 : win0_2.index t0_0 1 = 0 := by decide +kernel
  fin_cases a
  · blk_simp
    rw [h0]; exact (Nat.zero_mul 5000).symm ▸ Nat.zero_add _
  · blk_simp
    rw [h1]; exact (Nat.zero_mul 91).symm ▸ Nat.zero_add _

/-- Operand 3's block is the whole operand. -/
theorem stgA3_eq (V : Contents F) (c : Dev nD) : stgA3 V c = V c main_v6 := by
  funext y
  refine congrArg (V c main_v6) (funext fun a => Fin.ext ?_)
  have h0 : win0_3.index t0_0 0 = 0 := by decide +kernel
  have h1 : win0_3.index t0_0 1 = 0 := by decide +kernel
  fin_cases a
  · blk_simp
    rw [h0]; exact (Nat.zero_mul 5000).symm ▸ Nat.zero_add _
  · blk_simp
    rw [h1]; exact (Nat.zero_mul 91).symm ▸ Nat.zero_add _

/-- Operand 4's block is the whole operand. -/
theorem stgA4_eq (V : Contents F) (c : Dev nD) : stgA4 V c = V c main_v8 := by
  funext y
  refine congrArg (V c main_v8) (funext fun a => Fin.ext ?_)
  have h0 : win0_4.index t0_0 0 = 0 := by decide +kernel
  have h1 : win0_4.index t0_0 1 = 0 := by decide +kernel
  fin_cases a
  · blk_simp
    rw [h0]; exact (Nat.zero_mul 5000).symm ▸ Nat.zero_add _
  · blk_simp
    rw [h1]; exact (Nat.zero_mul 91).symm ▸ Nat.zero_add _

/-- Operand 5's block is the whole operand. -/
theorem stgA5_eq (V : Contents F) (c : Dev nD) : stgA5 V c = V c main_arg2 := by
  funext y
  refine congrArg (V c main_arg2) (funext fun a => Fin.ext ?_)
  have h0 : win0_5.index t0_0 0 = 0 := by decide +kernel
  have h1 : win0_5.index t0_0 1 = 0 := by decide +kernel
  fin_cases a
  · blk_simp
    rw [h0]; exact (Nat.zero_mul 5000).symm ▸ Nat.zero_add _
  · blk_simp
    rw [h1]; exact (Nat.zero_mul 4).symm ▸ Nat.zero_add _

/-! ## The decode body's results of its operands: the scores, the four columns of coordinates, the extracted scores and their positions -/

section Decode

variable (x0 x1 x2 x3 x4 : Vec F S5000x91 .f32) (x5 : Vec F S5000x4 .f32)

/-- Left edges. -/
def decX1 : FVec F S5000x91 .f32 := k0_pay13 (k0_pay2 x5) (k0_pay4 x5) (k0_pay6 x1) (k0_pay8 x3)
/-- Top edges. -/
def decY1 : FVec F S5000x91 .f32 := k0_pay14 (k0_pay3 x5) (k0_pay5 x5) (k0_pay7 x2) x4
/-- Right edges. -/
def decX2 : FVec F S5000x91 .f32 := k0_pay15 (k0_pay2 x5) (k0_pay4 x5) (k0_pay6 x1) (k0_pay8 x3)
/-- Bottom edges before the last clip. -/
def decY2 : FVec F S5000x91 .f32 := k0_pay16 (k0_pay3 x5) (k0_pay5 x5) (k0_pay7 x2) x4
/-- The scores from which the rounds extract: one of a candidate that is not valid is below zero. -/
def decWork : FVec F S5000x91 .f32 := k0_pay19 (k0_pay1 x0) (decX1 x1 x3 x5) (decY1 x2 x4 x5) (decX2 x1 x3 x5) (decY2 x2 x4 x5) (k0_pay17 (F := F))

end Decode

/-- An element of a whole buffer by its coordinates. -/
theorem whole_elem (b : Ref sig .tc) (g : b.ty.shape.Idx → Elt F b.ty.elt) (j : b.ty.shape.Idx) (h : Elt F b.ty.elt = Elt F b.ty.elt)
    (p : ∀ a, (j a).val < b.ty.shape.size a) : _root_.cast h (g fun a => ⟨(j a).val, p a⟩) = g ((View.whole b).emb j) := rfl

section Pieces

variable (c : Dev nD)
variable (arg0 : Memref sig .tc .vmem S5000x91 .f32) (arg1 : Memref sig .tc .vmem S5000x91 .f32) (arg2 : Memref sig .tc .vmem S5000x91 .f32) (arg3 : Memref sig .tc .vmem S5000x91 .f32) (arg4 : Memref sig .tc .vmem S5000x91 .f32) (arg5 : Memref sig .tc .vmem S5000x4 .f32) (f0 : Bf (F := F) c arg0) (f1 : Bf (F := F) c arg1) (f2 : Bf (F := F) c arg2) (f3 : Bf (F := F) c arg3) (f4 : Bf (F := F) c arg4) (f5 : Bf (F := F) c arg5)

/-- The body's one store into result 0. -/
theorem piece6 : decodeRun.sl.H6_1 c arg0 arg1 arg2 arg3 arg4 arg5 f0 f1 f2 f3 f4 f5
    = [⟨Rect.unit ![0, 0] S5000x20.size inb_S5000x20_S5000x20_0_0, (extracted (decWork (View.readAt (Elt F) arg0.view (Rect.unit ![0, 0] S5000x91.size inb_S5000x91_S5000x91_0_0).toLoadRect f0) (View.readAt (Elt F) arg1.view (Rect.unit ![0, 0] S5000x91.size inb_S5000x91_S5000x91_0_0).toLoadRect f1) (View.readAt (Elt F) arg2.view (Rect.unit ![0, 0] S5000x91.size inb_S5000x91_S5000x91_0_0).toLoadRect f2) (View.readAt (Elt F) arg3.view (Rect.unit ![0, 0] S5000x91.size inb_S5000x91_S5000x91_0_0).toLoadRect f3) (View.readAt (Elt F) arg4.view (Rect.unit ![0, 0] S5000x91.size inb_S5000x91_S5000x91_0_0).toLoadRect f4) (View.readAt (Elt F) arg5.view (Rect.unit ![0, 0] S5000x4.size inb_S5000x4_S5000x4_0_0).toLoadRect f5))).2.1⟩] := by
  rfl

/-- The body's one store into result 1. -/
theorem piece7 : decodeRun.sl.H7_1 c arg0 arg1 arg2 arg3 arg4 arg5 f0 f1 f2 f3 f4 f5
    = [⟨Rect.unit ![0, 0] S5000x20.size inb_S5000x20_S5000x20_0_0, (extracted (decWork (View.readAt (Elt F) arg0.view (Rect.unit ![0, 0] S5000x91.size inb_S5000x91_S5000x91_0_0).toLoadRect f0) (View.readAt (Elt F) arg1.view (Rect.unit ![0, 0] S5000x91.size inb_S5000x91_S5000x91_0_0).toLoadRect f1) (View.readAt (Elt F) arg2.view (Rect.unit ![0, 0] S5000x91.size inb_S5000x91_S5000x91_0_0).toLoadRect f2) (View.readAt (Elt F) arg3.view (Rect.unit ![0, 0] S5000x91.size inb_S5000x91_S5000x91_0_0).toLoadRect f3) (View.readAt (Elt F) arg4.view (Rect.unit ![0, 0] S5000x91.size inb_S5000x91_S5000x91_0_0).toLoadRect f4) (View.readAt (Elt F) arg5.view (Rect.unit ![0, 0] S5000x4.size inb_S5000x4_S5000x4_0_0).toLoadRect f5))).2.2⟩] := by
  rfl

/-- The body's one store into result 2. -/
theorem piece8 : decodeRun.sl.H8_1 c arg0 arg1 arg2 arg3 arg4 arg5 f0 f1 f2 f3 f4 f5
    = [⟨Rect.unit ![0, 0] S5000x91.size inb_S5000x91_S5000x91_0_0, decX1 (View.readAt (Elt F) arg1.view (Rect.unit ![0, 0] S5000x91.size inb_S5000x91_S5000x91_0_0).toLoadRect f1) (View.readAt (Elt F) arg3.view (Rect.unit ![0, 0] S5000x91.size inb_S5000x91_S5000x91_0_0).toLoadRect f3) (View.readAt (Elt F) arg5.view (Rect.unit ![0, 0] S5000x4.size inb_S5000x4_S5000x4_0_0).toLoadRect f5)⟩] := by
  rfl

/-- The body's one store into result 3. -/
theorem piece9 : decodeRun.sl.H9_1 c arg0 arg1 arg2 arg3 arg4 arg5 f0 f1 f2 f3 f4 f5
    = [⟨Rect.unit ![0, 0] S5000x91.size inb_S5000x91_S5000x91_0_0, decY1 (View.readAt (Elt F) arg2.view (Rect.unit ![0, 0] S5000x91.size inb_S5000x91_S5000x91_0_0).toLoadRect f2) (View.readAt (Elt F) arg4.view (Rect.unit ![0, 0] S5000x91.size inb_S5000x91_S5000x91_0_0).toLoadRect f4) (View.readAt (Elt F) arg5.view (Rect.unit ![0, 0] S5000x4.size inb_S5000x4_S5000x4_0_0).toLoadRect f5)⟩] := by
  rfl

/-- The body's one store into result 4. -/
theorem piece10 : decodeRun.sl.H10_1 c arg0 arg1 arg2 arg3 arg4 arg5 f0 f1 f2 f3 f4 f5
    = [⟨Rect.unit ![0, 0] S5000x91.size inb_S5000x91_S5000x91_0_0, decX2 (View.readAt (Elt F) arg1.view (Rect.unit ![0, 0] S5000x91.size inb_S5000x91_S5000x91_0_0).toLoadRect f1) (View.readAt (Elt F) arg3.view (Rect.unit ![0, 0] S5000x91.size inb_S5000x91_S5000x91_0_0).toLoadRect f3) (View.readAt (Elt F) arg5.view (Rect.unit ![0, 0] S5000x4.size inb_S5000x4_S5000x4_0_0).toLoadRect f5)⟩] := by
  rfl

/-- The body's one store into result 5. -/
theorem piece11 : decodeRun.sl.H11_1 c arg0 arg1 arg2 arg3 arg4 arg5 f0 f1 f2 f3 f4 f5
    = [⟨Rect.unit ![0, 0] S5000x91.size inb_S5000x91_S5000x91_0_0, k0_pay18 (decY2 (View.readAt (Elt F) arg2.view (Rect.unit ![0, 0] S5000x91.size inb_S5000x91_S5000x91_0_0).toLoadRect f2) (View.readAt (Elt F) arg4.view (Rect.unit ![0, 0] S5000x91.size inb_S5000x91_S5000x91_0_0).toLoadRect f4) (View.readAt (Elt F) arg5.view (Rect.unit ![0, 0] S5000x4.size inb_S5000x4_S5000x4_0_0).toLoadRect f5)) (k0_pay17 (F := F))⟩] := by
  rfl

end Pieces

/-- One store of a whole buffer leaves the stored vector. -/
theorem store_whole (b : Ref sig .tc) (f : b.ty.Contents (Elt F)) {off : Fin b.ty.shape.rank → ℕ} (h : ∀ a, off a = 0)
    (inb : ∀ a, off a + b.ty.shape.size a ≤ b.ty.shape.size a) (w : b.ty.shape.Idx → Elt F b.ty.elt) :
    (View.whole b).writes (Elt F) f [⟨Rect.unit off b.ty.shape.size inb, w⟩] = w :=
  LaneScatter.read_whole_store (Val := Elt F) (View.whole b) f h inb w

section Blocks

variable (V : Contents F) (c : Dev nD)

/-- What the body loads of operand 0. -/
theorem load0 : View.readAt (Elt F) (stage0_0 0).view (Rect.unit ![0, 0] S5000x91.size inb_S5000x91_S5000x91_0_0).toLoadRect (stgA0 V c) = V c main_arg0 :=
  (readAt_zero (Val := Elt F) (stage0_0 0).view (stgA0 V c) (off := ![0, 0]) offs2 inb_S5000x91_S5000x91_0_0).trans (stgA0_eq V c)

/-- What the body loads of operand 1. -/
theorem load1 : View.readAt (Elt F) (stage0_1 0).view (Rect.unit ![0, 0] S5000x91.size inb_S5000x91_S5000x91_0_0).toLoadRect (stgA1 V c) = V c main_v2 :=
  (readAt_zero (Val := Elt F) (stage0_1 0).view (stgA1 V c) (off := ![0, 0]) offs2 inb_S5000x91_S5000x91_0_0).trans (stgA1_eq V c)

/-- What the body loads of operand 2. -/
theorem load2 : View.readAt (Elt F) (stage0_2 0).view (Rect.unit ![0, 0] S5000x91.size inb_S5000x91_S5000x91_0_0).toLoadRect (stgA2 V c) = V c main_v4 :=
  (readAt_zero (Val := Elt F) (stage0_2 0).view (stgA2 V c) (off := ![0, 0]) offs2 inb_S5000x91_S5000x91_0_0).trans (stgA2_eq V c)

/-- What the body loads of operand 3. -/
theorem load3 : View.readAt (Elt F) (stage0_3 0).view (Rect.unit ![0, 0] S5000x91.size inb_S5000x91_S5000x91_0_0).toLoadRect (stgA3 V c) = V c main_v6 :=
  (readAt_zero (Val := Elt F) (stage0_3 0).view (stgA3 V c) (off := ![0, 0]) offs2 inb_S5000x91_S5000x91_0_0).trans (stgA3_eq V c)

/-- What the body loads of operand 4. -/
theorem load4 : View.readAt (Elt F) (stage0_4 0).view (Rect.unit ![0, 0] S5000x91.size inb_S5000x91_S5000x91_0_0).toLoadRect (stgA4 V c) = V c main_v8 :=
  (readAt_zero (Val := Elt F) (stage0_4 0).view (stgA4 V c) (off := ![0, 0]) offs2 inb_S5000x91_S5000x91_0_0).trans (stgA4_eq V c)

/-- What the body loads of operand 5. -/
theorem load5 : View.readAt (Elt F) (stage0_5 0).view (Rect.unit ![0, 0] S5000x4.size inb_S5000x4_S5000x4_0_0).toLoadRect (stgA5 V c) = V c main_arg2 :=
  (readAt_zero (Val := Elt F) (stage0_5 0).view (stgA5 V c) (off := ![0, 0]) offs2 inb_S5000x4_S5000x4_0_0).trans (stgA5_eq V c)

/-- What the body leaves in result 0. -/
theorem runA_6 : (runA V c).1.1 = (extracted (decWork (V c main_arg0) (V c main_v2) (V c main_v4) (V c main_v6) (V c main_v8) (V c main_arg2))).2.1 := by
  unfold runA decodeRun
  dsimp only
  rw [piece6]
  refine (store_whole cc0_stg6_0 _ (off := ![0, 0]) offs2 inb_S5000x20_S5000x20_0_0 _).trans ?_
  rw [load0, load1, load2, load3, load4, load5]

/-- What the body leaves in result 1. -/
theorem runA_7 : (runA V c).1.2.1 = (extracted (decWork (V c main_arg0) (V c main_v2) (V c main_v4) (V c main_v6) (V c main_v8) (V c main_arg2))).2.2 := by
  unfold runA decodeRun
  dsimp only
  rw [piece7]
  refine (store_whole cc0_stg7_0 _ (off := ![0, 0]) offs2 inb_S5000x20_S5000x20_0_0 _).trans ?_
  rw [load0, load1, load2, load3, load4, load5]

/-- What the body leaves in result 2. -/
theorem runA_8 : (runA V c).1.2.2.1 = decX1 (V c main_v2) (V c main_v6) (V c main_arg2) := by
  unfold runA decodeRun
  dsimp only
  rw [piece8]
  refine (store_whole cc0_stg8_0 _ (off := ![0, 0]) offs2 inb_S5000x91_S5000x91_0_0 _).trans ?_
  rw [load1, load3, load5]

/-- What the body leaves in result 3. -/
theorem runA_9 : (runA V c).1.2.2.2.1 = decY1 (V c main_v4) (V c main_v8) (V c main_arg2) := by
  unfold runA decodeRun
  dsimp only
  rw [piece9]
  refine (store_whole cc0_stg9_0 _ (off := ![0, 0]) offs2 inb_S5000x91_S5000x91_0_0 _).trans ?_
  rw [load2, load4, load5]

/-- What the body leaves in result 4. -/
theorem runA_10 : (runA V c).1.2.2.2.2.1 = decX2 (V c main_v2) (V c main_v6) (V c main_arg2) := by
  unfold runA decodeRun
  dsimp only
  rw [piece10]
  refine (store_whole cc0_stg10_0 _ (off := ![0, 0]) offs2 inb_S5000x91_S5000x91_0_0 _).trans ?_
  rw [load1, load3, load5]

/-- What the body leaves in result 5. -/
theorem runA_11 : (runA V c).1.2.2.2.2.2 = k0_pay18 (decY2 (V c main_v4) (V c main_v8) (V c main_arg2)) (k0_pay17 (F := F)) := by
  unfold runA decodeRun
  dsimp only
  rw [piece11]
  refine (store_whole cc0_stg11_0 _ (off := ![0, 0]) offs2 inb_S5000x91_S5000x91_0_0 _).trans ?_
  rw [load2, load4, load5]

end Blocks

/-! ## The arrays after the calls -/

variable (hs : Settles F) (m : (ℓ : Loc nD τ sig) → Buf (Elt F) ℓ)

/-- The second call's result. -/
theorem nms_value (c : Dev nD) : outs hs m 6 main_v67 c = nmsOut (F := F) (V5 m (outsA m) c main_v66) := by
  rw [outs_v67]
  refine ((datB hs (contB m) c).arrAt_eq_of_after_last 1 t1_0 (show win1_1.WholeAt _ from by decide +kernel) _ fun _ => rfl).trans (runB_eq hs (contB m) c)

/-- Result 0's buffer after the body. -/
theorem after_0 (V : Contents F) (c : Dev nD) : (datA V c).after 6 t0_0 = (runA V c).1.1 := by dsimp only [datA]; rfl

/-- The one write-back of result 0 leaves what the body left. -/
theorem array_0 (c : Dev nD) (d : Dat τ (Elt F) Unit ℕ UU ℕ (cfg0 (F := F)) c) (g : S5000x20.Idx → Elt F .f32) (hg : d.after 6 t0_0 = g) :
    d.arrAt 6 (cfg0 (F := F)).N = g := by
  refine d.arrAt_eq_of_after_last 6 t0_0 (show win0_6.WholeAt t0_0 by decide +kernel) g ?_
  intro j
  rw [hg]
  exact whole_elem main_v9_0 g j _ _

/-- Result 0 of the first call. -/
theorem decode_value_0 (c : Dev nD) : outs hs m 2 main_v9_0 c = (extracted (decWork (contA m c main_arg0) (contA m c main_v2) (contA m c main_v4) (contA m c main_v6) (contA m c main_v8) (contA m c main_arg2))).2.1 := by
  rw [outs_0]
  exact array_0 c (datA (contA m) c) _ ((after_0 (contA m) c).trans (runA_6 (contA m) c))

/-- Result 1's buffer after the body. -/
theorem after_1 (V : Contents F) (c : Dev nD) : (datA V c).after 7 t0_0 = (runA V c).1.2.1 := by dsimp only [datA]; rfl

/-- The one write-back of result 1 leaves what the body left. -/
theorem array_1 (c : Dev nD) (d : Dat τ (Elt F) Unit ℕ UU ℕ (cfg0 (F := F)) c) (g : S5000x20.Idx → Elt F .i32) (hg : d.after 7 t0_0 = g) :
    d.arrAt 7 (cfg0 (F := F)).N = g := by
  refine d.arrAt_eq_of_after_last 7 t0_0 (show win0_7.WholeAt t0_0 by decide +kernel) g ?_
  intro j
  rw [hg]
  exact whole_elem main_v9_1 g j _ _

/-- Result 1 of the first call. -/
theorem decode_value_1 (c : Dev nD) : outs hs m 2 main_v9_1 c = (extracted (decWork (contA m c main_arg0) (contA m c main_v2) (contA m c main_v4) (contA m c main_v6) (contA m c main_v8) (contA m c main_arg2))).2.2 := by
  rw [outs_1]
  exact array_1 c (datA (contA m) c) _ ((after_1 (contA m) c).trans (runA_7 (contA m) c))

/-- Result 2's buffer after the body. -/
theorem after_2 (V : Contents F) (c : Dev nD) : (datA V c).after 8 t0_0 = (runA V c).1.2.2.1 := by dsimp only [datA]; rfl

/-- The one write-back of result 2 leaves what the body left. -/
theorem array_2 (c : Dev nD) (d : Dat τ (Elt F) Unit ℕ UU ℕ (cfg0 (F := F)) c) (g : S5000x91.Idx → Elt F .f32) (hg : d.after 8 t0_0 = g) :
    d.arrAt 8 (cfg0 (F := F)).N = g := by
  refine d.arrAt_eq_of_after_last 8 t0_0 (show win0_8.WholeAt t0_0 by decide +kernel) g ?_
  intro j
  rw [hg]
  exact whole_elem main_v9_2 g j _ _

/-- Result 2 of the first call. -/
theorem decode_value_2 (c : Dev nD) : outs hs m 2 main_v9_2 c = decX1 (contA m c main_v2) (contA m c main_v6) (contA m c main_arg2) := by
  rw [outs_2]
  exact array_2 c (datA (contA m) c) _ ((after_2 (contA m) c).trans (runA_8 (contA m) c))

/-- Result 3's buffer after the body. -/
theorem after_3 (V : Contents F) (c : Dev nD) : (datA V c).after 9 t0_0 = (runA V c).1.2.2.2.1 := by dsimp only [datA]; rfl

/-- The one write-back of result 3 leaves what the body left. -/
theorem array_3 (c : Dev nD) (d : Dat τ (Elt F) Unit ℕ UU ℕ (cfg0 (F := F)) c) (g : S5000x91.Idx → Elt F .f32) (hg : d.after 9 t0_0 = g) :
    d.arrAt 9 (cfg0 (F := F)).N = g := by
  refine d.arrAt_eq_of_after_last 9 t0_0 (show win0_9.WholeAt t0_0 by decide +kernel) g ?_
  intro j
  rw [hg]
  exact whole_elem main_v9_3 g j _ _

/-- Result 3 of the first call. -/
theorem decode_value_3 (c : Dev nD) : outs hs m 2 main_v9_3 c = decY1 (contA m c main_v4) (contA m c main_v8) (contA m c main_arg2) := by
  rw [outs_3]
  exact array_3 c (datA (contA m) c) _ ((after_3 (contA m) c).trans (runA_9 (contA m) c))

/-- Result 4's buffer after the body. -/
theorem after_4 (V : Contents F) (c : Dev nD) : (datA V c).after 10 t0_0 = (runA V c).1.2.2.2.2.1 := by dsimp only [datA]; rfl

/-- The one write-back of result 4 leaves what the body left. -/
theorem array_4 (c : Dev nD) (d : Dat τ (Elt F) Unit ℕ UU ℕ (cfg0 (F := F)) c) (g : S5000x91.Idx → Elt F .f32) (hg : d.after 10 t0_0 = g) :
    d.arrAt 10 (cfg0 (F := F)).N = g := by
  refine d.arrAt_eq_of_after_last 10 t0_0 (show win0_10.WholeAt t0_0 by decide +kernel) g ?_
  intro j
  rw [hg]
  exact whole_elem main_v9_4 g j _ _

/-- Result 4 of the first call. -/
theorem decode_value_4 (c : Dev nD) : outs hs m 2 main_v9_4 c = decX2 (contA m c main_v2) (contA m c main_v6) (contA m c main_arg2) := by
  rw [outs_4]
  exact array_4 c (datA (contA m) c) _ ((after_4 (contA m) c).trans (runA_10 (contA m) c))

/-- Result 5's buffer after the body. -/
theorem after_5 (V : Contents F) (c : Dev nD) : (datA V c).after 11 t0_0 = (runA V c).1.2.2.2.2.2 := by dsimp only [datA]; rfl

/-- The one write-back of result 5 leaves what the body left. -/
theorem array_5 (c : Dev nD) (d : Dat τ (Elt F) Unit ℕ UU ℕ (cfg0 (F := F)) c) (g : S5000x91.Idx → Elt F .f32) (hg : d.after 11 t0_0 = g) :
    d.arrAt 11 (cfg0 (F := F)).N = g := by
  refine d.arrAt_eq_of_after_last 11 t0_0 (show win0_11.WholeAt t0_0 by decide +kernel) g ?_
  intro j
  rw [hg]
  exact whole_elem main_v9_5 g j _ _

/-- Result 5 of the first call. -/
theorem decode_value_5 (c : Dev nD) : outs hs m 2 main_v9_5 c = k0_pay18 (decY2 (contA m c main_v4) (contA m c main_v8) (contA m c main_arg2)) (k0_pay17 (F := F)) := by
  rw [outs_5]
  exact array_5 c (datA (contA m) c) _ ((after_5 (contA m) c).trans (runA_11 (contA m) c))

end Cert.Proof.Run

end
-- ==== Proof.Boxes.lean ====
/-
  The quantities both programs compute from the three arguments, written entry by entry: the class scores of a proposal, the
  four clipped edges of a class's box, which candidates count, and the overlap of two boxes.
-/
module

public import Idealize.ShloMosaic.Lib.Pointwise

@[expose] public section

noncomputable section

namespace Cert.Proof.Boxes

open Idealize.ShloMosaic

open Classical

/-- The largest class logit of a proposal. -/
def top (L : FVec Ideal ⟨2, ![5000, 91]⟩ .f32) (r : Fin 5000) : EReal := (Finset.univ : Finset (Fin 91)).fold max (Ideal.ofBits .f32 0xFF800000#32) fun x => L (ix2 r x)

/-- The softmax score of a class of a proposal. -/
def score (L : FVec Ideal ⟨2, ![5000, 91]⟩ .f32) (r : Fin 5000) (c : Fin 91) : EReal :=
  Ideal.div (Ideal.exp (L (ix2 r c) - top L r)) (∑ x, Ideal.exp (L (ix2 r x) - top L r))

/-- The centre of a decoded side: offset `d`, proposal side from `a` to `b`. -/
def centre (d a b : EReal) : EReal := Ideal.div d (Ideal.ofBits .f32 0x41200000#32) * (b - a) + (a + Ideal.ofBits .f32 0x3F000000#32 * (b - a))

/-- Half the length of a decoded side: log scale `s`, proposal side from `a` to `b`. -/
def halfSide (s a b : EReal) : EReal :=
  Ideal.ofBits .f32 0x3F000000#32 * (Ideal.exp (min (Ideal.div s (Ideal.ofBits .f32 0x40A00000#32)) (Ideal.ofBits .f32 0x40845349#32)) * (b - a))

/-- An edge clipped to the image. -/
def clip (e : EReal) : EReal := min (Ideal.ofBits .f32 0x44480000#32) (max 0 e)

variable (L : FVec Ideal ⟨2, ![5000, 91]⟩ .f32) (R : FVec Ideal ⟨2, ![5000, 364]⟩ .f32) (Q : FVec Ideal ⟨2, ![5000, 4]⟩ .f32)

/-- The box of a class of a proposal: left, top, right, bottom. -/
def box (r : Fin 5000) (c : Fin 91) : Fin 4 → EReal
  | 0 => clip (centre (R (ix2 r ⟨c.val * 4, by omega⟩)) (Q (ix2 r 0)) (Q (ix2 r 2)) - halfSide (R (ix2 r ⟨c.val * 4 + 2, by omega⟩)) (Q (ix2 r 0)) (Q (ix2 r 2)))
  | 1 => clip (centre (R (ix2 r ⟨c.val * 4 + 1, by omega⟩)) (Q (ix2 r 1)) (Q (ix2 r 3)) - halfSide (R (ix2 r ⟨c.val * 4 + 3, by omega⟩)) (Q (ix2 r 1)) (Q (ix2 r 3)))
  | 2 => clip (centre (R (ix2 r ⟨c.val * 4, by omega⟩)) (Q (ix2 r 0)) (Q (ix2 r 2)) + halfSide (R (ix2 r ⟨c.val * 4 + 2, by omega⟩)) (Q (ix2 r 0)) (Q (ix2 r 2)))
  | 3 => clip (centre (R (ix2 r ⟨c.val * 4 + 1, by omega⟩)) (Q (ix2 r 1)) (Q (ix2 r 3)) + halfSide (R (ix2 r ⟨c.val * 4 + 3, by omega⟩)) (Q (ix2 r 1)) (Q (ix2 r 3)))

/-- A candidate counts: its score passes the threshold and neither side of its box is too short. -/
def Good (r : Fin 5000) (c : Fin 91) : Prop :=
  Ideal.ofBits .f32 0x3D4CCCCD#32 < score L r c ∧ Ideal.ofBits .f32 0x3C23D70A#32 ≤ box R Q r c 2 - box R Q r c 0
    ∧ Ideal.ofBits .f32 0x3C23D70A#32 ≤ box R Q r c 3 - box R Q r c 1

/-- The proposal and the class of a position in the flattened list of candidates. -/
def rowOf (f : Fin 450000) : Fin 5000 := ⟨f.val / 90, by omega⟩
/-- The class of a flat candidate. -/
def colOf (f : Fin 450000) : Fin 91 := ⟨1 + f.val % 90, by omega⟩

/-- The score of a flattened candidate, `-1` where it does not count. -/
def masked (f : Fin 450000) : EReal := if Good L R Q (rowOf f) (colOf f) then score L (rowOf f) (colOf f) else ((-(1 : ℝ) : ℝ) : EReal)

/-- The area two boxes share. -/
def inter (p q : Fin 4 → EReal) : EReal := max (min (p 2) (q 2) - max (p 0) (q 0)) 0 * max (min (p 3) (q 3) - max (p 1) (q 1)) 0

/-- The area of a box. -/
def area (p : Fin 4 → EReal) : EReal := (p 2 - p 0) * (p 3 - p 1)

/-- Intersection over union of two boxes. -/
def iou (p q : Fin 4 → EReal) : EReal := Ideal.div (inter p q) (area p + area q - inter p q + Ideal.ofBits .f32 0x3089705F#32)

/-- A box moved by its label, so that boxes of different labels do not meet. -/
def shifted (b : Fin 4 → EReal) (l : EReal) : Fin 4 → EReal := fun k => b k + l * ((801 : ℝ) : EReal)

end Cert.Proof.Boxes

end
-- ==== Proof.Sorting.lean ====
/-
  The library operation that takes the greatest entries of a line, as a ranking: the positions it returns are the first of
  a permutation under which the entries go down, equal ones in the order of their positions.
-/
module

public import proofs.«01_k».proof.Proof.Spec
public import Idealize.ShloMosaic.Lib.SortFacts
public import Idealize.ShloMosaic.Lib.Pointwise
public import Idealize.ShloMosaic.PureOps.Ideal.Laws

@[expose] public section

noncomputable section

namespace Cert.Proof.Sorting

open Idealize.ShloMosaic Cert.Proof.Spec

/-- A stable sort of positions in increasing order does the same when ties are broken by position. -/
theorem stableSort_refine {n : ℕ} (R R' : Fin n → Fin n → Bool) (h : ∀ a b, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The sorting permutation under "greater" is a ranking. -/
theorem sorted_ranks {n : ℕ} (v : Fin n → EReal) (R : Fin n → Fin n → Bool) (hR : ∀ a b, R a b = decide (v b < v a)) :
    Ranks (sortedFrom R) v := by
  classical
  let R' : Fin n → Fin n → Bool := fun a b => decide (v b < v a ∨ (v a = v b ∧ a < b))
  have e : sortedFrom R = sortedFrom R' := by
    have : sortPositions n R = sortPositions n R' :=
      stableSort_refine R R' (fun a b hab => by
        rw [hR]
        simp only [R', decide_eq_decide]
        exact ⟨.inl, fun h => h.elim id fun h => absurd h.2 (not_lt.2 hab.le)⟩) _ (List.pairwise_lt_finRange n)
    funext k
    unfold sortedFrom
    simp only [List.get_eq_getElem, this]
    rfl
  have bij : Function.Bijective (sortedFrom R) := ⟨sortedFrom_injective R, sortedFrom_surjective R⟩
  refine ⟨bij, fun i j hij => ?_⟩
  have hne : sortedFrom R i ≠ sortedFrom R j := fun h => hij.ne (bij.1 h)
  have := sortedFrom_noInversion R' R' (fun a b h => by
      simp only [R', decide_eq_true_eq] at h
      simp only [R', decide_eq_false_iff_not, not_or, not_and]
      rcases h with h | h
      · exact ⟨not_lt.2 h.le, fun h' => absurd h' h.ne⟩
      · exact ⟨h.1 ▸ lt_irrefl _, fun _ => not_lt.2 h.2.le⟩) (fun _ _ h => h) (fun a b c hab hbc => by
      simp only [R', decide_eq_false_iff_not, not_or, not_and, not_lt] at hab hbc ⊢
      refine ⟨hab.1.trans hbc.1, fun h => ?_⟩
      have h1 : v a = v b := le_antisymm hab.1 (hbc.1.trans h.symm.le)
      exact (hbc.2 (h1 ▸ h)).trans (hab.2 h1)) i j hij
  rw [← e] at this
  simp only [R', decide_eq_false_iff_not, not_or, not_and, not_lt] at this
  rcases this.1.lt_or_eq with h | h
  · exact .inl h
  · exact .inr ⟨h.symm, lt_of_le_of_ne (this.2 h) hne⟩

/-- The greatest `k` of `n` entries: values and positions are those of a ranking's first `k`. -/
theorem topK_ranks {n k : ℕ} (hk : k ≤ n) (x : FVec Ideal ⟨1, ![n]⟩ .f32) (h : (⟨1, ![n]⟩ : Shape).Slices (fun _ => 0) ⟨1, ![k]⟩) :
    ∃ σ : Fin n → Fin n, Ranks σ (fun i => x (ix1 i)) ∧ ∀ (i : ℕ) (hi : i < k),
      (Host.topK ⟨1, ![k]⟩ 0 (FloatOps.cmpfTotal .gt) x h).1 (ix1 ⟨i, hi⟩) = x (ix1 (σ ⟨i, hi.trans_le hk⟩))
      ∧ (Host.topK ⟨1, ![k]⟩ 0 (FloatOps.cmpfTotal .gt) x h).2 (ix1 ⟨i, hi⟩) = BitVec.ofNat 32 (σ ⟨i, hi.trans_le hk⟩).val := by
  refine ⟨_, sorted_ranks (fun i => x (ix1 i)) (fun a b => FloatOps.cmpfTotal (F := Ideal) .gt (x (ix1 a)) (x (ix1 b)) == 1#1)
    (fun a b => ?_), fun i hi => ?_⟩
  · show (BitVec.ofBool (decide (x (ix1 b) < x (ix1 a))) == 1#1) = _
    cases decide (x (ix1 b) < x (ix1 a)) <;> rfl
  · have al : ∀ (j : (⟨1, ![n]⟩ : Shape).Idx) (hd : 0 < (⟨1, ![n]⟩ : Shape).rank) (q : Fin n), j.along ⟨0, hd⟩ q = ix1 q := fun j hd q => by
      funext d; have : d = 0 := Subsingleton.elim _ _
      subst this; unfold Shape.Idx.along; exact (Function.update_self ..).trans (Fin.ext rfl)
    unfold Host.topK Host.sort2
    simp only [extractStridedSlice]
    constructor
    · simp only [Nat.zero_lt_one, dite_true]
      refine (congrArg x (al _ _ _)).trans (congrArg (fun q => x (ix1 q)) ?_)
      refine congr (congrArg sortedFrom (funext fun a => funext fun b => ?_)) (Fin.ext (Nat.zero_add _))
      exact congrArg₂ (fun p q => FloatOps.cmpfTotal (F := Ideal) .gt (x p) (x q) == 1#1) (al _ _ _) (al _ _ _)
    · simp only [Nat.zero_lt_one, dite_true]
      refine (congrArg (iotaInDim ⟨1, ![n]⟩ 32 ⟨0, Nat.zero_lt_one⟩) (al _ _ _)).trans (congrArg (fun q : Fin n => BitVec.ofNat 32 q.val) ?_)
      refine congr (congrArg sortedFrom (funext fun a => funext fun b => ?_)) (Fin.ext (Nat.zero_add _))
      exact congrArg₂ (fun p q => FloatOps.cmpfTotal (F := Ideal) .gt (x p) (x q) == 1#1) (al _ _ _) (al _ _ _)

end Cert.Proof.Sorting

end
-- ==== Proof.KerTail.lean ====
/-
  The kernel's operations between and after its two calls: the block the suppression reads, row by row.
-/
module

public import proofs.«01_k».proof.Proof.RunValues
public import proofs.«01_k».proof.Proof.Boxes
public import proofs.«01_k».proof.Proof.Sorting
public import proofs.«01_k».proof.Proof.Suppress
public import Idealize.ShloMosaic.Lib.Routing.OpsSet
public import Idealize.ShloMosaic.Lib.StableHlo.ReadAt

@[expose] public section

set_option maxRecDepth 16384

noncomputable section

namespace Cert.Proof.KerTail

open Cert.KernelIdeal Cert.KernelIdeal.Gen Cert.Proof.Spec Cert.Proof.Boxes Cert.Proof.Sorting
open Idealize.ShloMosaic Idealize.ShloMosaic.TcCoe Idealize.ShloMosaic.Tactic Idealize.ShloMosaic.StableHlo

open Classical

variable (X : Valuation τ sig (Elt Ideal))

/-- The contents when the block for the suppression is ready, from those after the decode call. -/
abbrev staged : Valuation τ sig (Elt Ideal) := after (hostOps1_2 (F := Ideal)) (after hostOps1_1 (after hostOps1 X))

/-- The scores and the candidates' numbers of the decode call's slots, one row of proposals after the other. -/
def slots : FVec Ideal S100000 .f32 := shapeCast S100000 (X (Proc.devRef .tc main_v9_0) : FVec Ideal S5000x20 .f32) shapeCasts_S5000x20_S100000
/-- The slots' candidate indices, flat. -/
def slotIds : IVec S100000 32 := shapeCast S100000 (X (Proc.devRef .tc main_v9_1) : IVec S5000x20 32) shapeCasts_S5000x20_S100000

/-- The first ranking: the thousand best slots. -/
abbrev best := Host.topK S1000 0 (FloatOps.cmpfTotal (F := Ideal) .gt) (slots X) sliceFits_S100000_S1000

/-- The indices of the best slots, one per row. -/
def rows : IVec S1000x1 32 := broadcastInDim S1000x1 ![0] bcast_S1000_S1000x1_0
  (select (cmpi .slt (best X).2 (broadcastInDim S1000 ![] bcast_S_S1000 (constantI S_ 32 0#32)))
    (addi (best X).2 (broadcastInDim S1000 ![] bcast_S_S1000 (constantI S_ 32 100000#32))) (best X).2)

/-- The candidates of the ranked slots. -/
def ids : IVec S1000 32 := Host.gather gather_S100000_S1000x1_S1000_n_0_n_n_0_1_1 (slotIds X) (rows X)

/-- The candidate indices of the best slots, one per row. -/
def idRows : IVec S1000x1 32 := broadcastInDim S1000x1 ![0] bcast_S1000_S1000x1_0
  (select (cmpi .slt (ids X) (broadcastInDim S1000 ![] bcast_S_S1000 (constantI S_ 32 0#32)))
    (addi (ids X) (broadcastInDim S1000 ![] bcast_S_S1000 (constantI S_ 32 450000#32))) (ids X))

/-- The boxes of all candidates, and those of the ranked slots. -/
abbrev flatBox : FVec Ideal S450000x4 .f32 := after (hostOps1 (F := Ideal)) X (Proc.devRef .tc main_v25)
/-- The boxes of the best slots. -/
def gBox : FVec Ideal S1000x4 .f32 := Host.gather gather_S450000x4_S1000x1_S1000x4_1_0_n_n_0_1_14 (flatBox X) (idRows X)

/-- An index that is not negative is left as it is. -/
theorem norm_index (n f : ℕ) (hf : f < 2 ^ 31) (w : BitVec 32) (h : w = BitVec.ofNat 32 f) : Scalar.select (IntOp.cmpi .slt w 0#32) (IntOp.addi w (BitVec.ofNat 32 n)) w = BitVec.ofNat 32 f := by
  subst h
  have hn : (BitVec.ofNat 32 f).toInt = (f : ℤ) := WordCmp.toInt_ofNat_of_lt hf
  have hlt : IntOp.cmpi .slt (BitVec.ofNat 32 f) 0#32 = 0#1 := by
    simp only [IntOp.cmpi, BitVec.slt, hn]
    rw [show (0#32 : BitVec 32).toInt = 0 from rfl, decide_eq_false (by omega)]
    rfl
  rw [hlt]
  rfl

/-- Slot `s` lies in row `s / 20` at place `s % 20`. -/
theorem slots_at (s : Fin 100000) : slots X (ix1 s) = (X (Proc.devRef .tc main_v9_0) : FVec Ideal S5000x20 .f32) (ix2 ⟨s.val / 20, by omega⟩ ⟨s.val % 20, by omega⟩) := by
  unfold slots
  pointwise

/-- The index of slot `s` lies in row `s / 20` at place `s % 20`. -/
theorem slotIds_at (s : Fin 100000) : slotIds X (ix1 s) = (X (Proc.devRef .tc main_v9_1) : IVec S5000x20 32) (ix2 ⟨s.val / 20, by omega⟩ ⟨s.val % 20, by omega⟩) := by
  unfold slotIds
  pointwise

/-- The row index of best slot `i`. -/
theorem rows_at (i : Fin 1000) (s : Fin 100000) (h : (best X).2 (ix1 i) = BitVec.ofNat 32 s.val) : rows X (ix2 i 0) = BitVec.ofNat 32 s.val := by
  unfold rows
  pointwise
  exact norm_index 100000 s.val (by omega) _ h

/-- The candidate index of best slot `i`. -/
theorem ids_at (i : Fin 1000) (s : Fin 100000) (h : (best X).2 (ix1 i) = BitVec.ofNat 32 s.val) : ids X (ix1 i) = slotIds X (ix1 s) :=
  Routing.gather_take1 gather_S100000_S1000x1_S1000_n_0_n_n_0_1_1 rfl rfl rfl rfl _ (rows X) i s (rows_at X i s h) (by decide)

/-- The candidate index of best slot `i`, as a row. -/
theorem idRows_at (i : Fin 1000) (f : Fin 450000) (h : ids X (ix1 i) = BitVec.ofNat 32 f.val) : idRows X (ix2 i 0) = BitVec.ofNat 32 f.val := by
  unfold idRows
  pointwise
  exact norm_index 450000 f.val (by omega) _ h

/-- The box of best slot `i` is that of its candidate. -/
theorem gBox_at (i : Fin 1000) (f : Fin 450000) (h : ids X (ix1 i) = BitVec.ofNat 32 f.val) (k : Fin 4) : gBox X (ix2 i k) = flatBox X (ix2 f k) :=
  Routing.gather_row gather_S450000x4_S1000x1_S1000x4_1_0_n_n_0_1_14 rfl rfl rfl rfl rfl _ (idRows X) i k f (idRows_at X i f h) (by decide)

/-- Edge 0 of flat candidate `f`. -/
theorem flat0 (f : Fin 450000) : flatBox X (ix2 f 0) = (X (Proc.devRef .tc main_v9_2) : FVec Ideal S5000x91 .f32) (ix2 (rowOf f) (colOf f)) := by
  unfold flatBox
  after_reads_at
  after_reads_at
  rfl
/-- Edge 1 of flat candidate `f`. -/
theorem flat1 (f : Fin 450000) : flatBox X (ix2 f 1) = (X (Proc.devRef .tc main_v9_3) : FVec Ideal S5000x91 .f32) (ix2 (rowOf f) (colOf f)) := by
  unfold flatBox
  after_reads_at
  after_reads_at
  rfl
/-- Edge 2 of flat candidate `f`. -/
theorem flat2 (f : Fin 450000) : flatBox X (ix2 f 2) = (X (Proc.devRef .tc main_v9_4) : FVec Ideal S5000x91 .f32) (ix2 (rowOf f) (colOf f)) := by
  unfold flatBox
  after_reads_at
  after_reads_at
  rfl
/-- Edge 3 of flat candidate `f`. -/
theorem flat3 (f : Fin 450000) : flatBox X (ix2 f 3) = (X (Proc.devRef .tc main_v9_5) : FVec Ideal S5000x91 .f32) (ix2 (rowOf f) (colOf f)) := by
  unfold flatBox
  after_reads_at
  after_reads_at
  rfl

/-- The contents when the labels have been taken from the candidates' numbers. -/
abbrev mid : Valuation τ sig (Elt Ideal) := after (hostOps1_1 (F := Ideal)) (after hostOps1 X)

/-- The host's gathered boxes. -/
theorem v32_eq : (mid X (Proc.devRef .tc main_v32) : FVec Ideal S1000x4 .f32) = gBox X := by
  unfold gBox idRows ids rows best slots slotIds flatBox
  after_reads_simp
  rfl

/-- The host's gathered indices. -/
theorem v18_eq : (after hostOps1 X (Proc.devRef .tc main_v18) : IVec S1000 32) = ids X := by
  unfold ids rows best slots slotIds
  after_reads_simp
  rfl

/-- The host's best scores. -/
theorem values_at (i : Fin 1000) : (mid X (Proc.devRef .tc main_values) : FVec Ideal S1000 .f32) (ix1 i) = (best X).1 (ix1 i) := by
  unfold best slots
  after_reads_simp
  rfl

/-- The block handed to the suppression, from the contents before its rows are put together. -/
abbrev blk (Y : Valuation τ sig (Elt Ideal)) : FVec Ideal S1024x8 .f32 := after (hostOps1_2 (F := Ideal)) Y (Proc.devRef .tc main_v66)

/-- Column 0 of the block is edge 0 of the box. -/
theorem row0 (i : Fin 1000) : blk X (ix2 ⟨i.val, by omega⟩ 0) = (X (Proc.devRef .tc main_v32) : FVec Ideal S1000x4 .f32) (ix2 i 0) := by
  after_reads_at
  after_reads_at
  after_reads_at
/-- Column 1 of the block is edge 1 of the box. -/
theorem row1 (i : Fin 1000) : blk X (ix2 ⟨i.val, by omega⟩ 1) = (X (Proc.devRef .tc main_v32) : FVec Ideal S1000x4 .f32) (ix2 i 1) := by
  after_reads_at
  after_reads_at
  after_reads_at
/-- Column 2 of the block is edge 2 of the box. -/
theorem row2 (i : Fin 1000) : blk X (ix2 ⟨i.val, by omega⟩ 2) = (X (Proc.devRef .tc main_v32) : FVec Ideal S1000x4 .f32) (ix2 i 2) := by
  after_reads_at
  after_reads_at
  after_reads_at
/-- Column 3 of the block is edge 3 of the box. -/
theorem row3 (i : Fin 1000) : blk X (ix2 ⟨i.val, by omega⟩ 3) = (X (Proc.devRef .tc main_v32) : FVec Ideal S1000x4 .f32) (ix2 i 3) := by
  after_reads_at
  after_reads_at
  after_reads_at
/-- Column 4 of the block is the score. -/
theorem row4 (i : Fin 1000) : blk X (ix2 ⟨i.val, by omega⟩ 4) = (X (Proc.devRef .tc main_values) : FVec Ideal S1000 .f32) (ix1 i) := by
  after_reads_at
  after_reads_at
  after_reads_at
/-- Column 4 of the padding is −1. -/
theorem row4_pad (i : Fin 1024) (hi : 1000 ≤ i.val) : blk X (ix2 i 4) = Ideal.ofBits .f32 0xBF800000#32 := by
  after_reads_at
  after_reads_at
  rw [dif_neg (by omega)]
  after_reads_at
/-- Column 5 of the block is the class label as a float. -/
theorem row5 (i : Fin 1000) : blk X (ix2 ⟨i.val, by omega⟩ 5) = FloatOps.sitofp (F := Ideal) .f32 (IntOp.addi ((X (Proc.devRef .tc main_v33) : IVec S1000 32) (ix1 i)) 1#32) := by
  after_reads_at
  after_reads_at
  after_reads_at
/-- The remainder by 90 of a word is that of its number. -/
theorem rem_word (n : ℕ) (hn : n < 450000) : IntOp.remsi ArithUnit.host (BitVec.ofNat 32 n) 90#32 = BitVec.ofNat 32 (n % 90) := by
  apply BitVec.eq_of_toNat_eq
  rw [show (90#32 : BitVec 32) = BitVec.ofNat 32 90 from rfl, IntOp.toNat_remsi ArithUnit.host (by rw [BitVec.toNat_ofNat, Nat.mod_eq_of_lt (by omega)]; omega) 90 (by omega) (by omega),
    BitVec.toNat_ofNat, BitVec.toNat_ofNat, Nat.mod_eq_of_lt (show n < 2 ^ 32 by omega), Nat.mod_eq_of_lt (show n % 90 < 2 ^ 32 by omega)]
/-- The class of best slot `i`, counted from zero. -/
theorem v33_at (i : Fin 1000) (f : Fin 450000) (h : ids X (ix1 i) = BitVec.ofNat 32 f.val) : (mid X (Proc.devRef .tc main_v33) : IVec S1000 32) (ix1 i) = BitVec.ofNat 32 (f.val % 90) := by
  have key : ∀ (w : BitVec 32), ids X (ix1 i) = w → (mid X (Proc.devRef .tc main_v33) : IVec S1000 32) (ix1 i) =
      Scalar.select (IntOp.andi (IntOp.cmpi .ne (IntOp.cmpi .slt (IntOp.remsi ArithUnit.host w 90#32) 0#32) 0#1) (IntOp.cmpi .ne (IntOp.remsi ArithUnit.host w 90#32) 0#32))
        (IntOp.addi (IntOp.remsi ArithUnit.host w 90#32) 90#32) (IntOp.remsi ArithUnit.host w 90#32) := by
    intro w hw
    subst hw
    rw [← v18_eq]
    after_reads_at
    rfl
  rw [key _ h, rem_word _ f.isLt]
  have hs : IntOp.cmpi .slt (BitVec.ofNat 32 (f.val % 90)) 0#32 = 0#1 := by
    have hn : (BitVec.ofNat 32 (f.val % 90)).toInt = ((f.val % 90 : ℕ) : ℤ) := WordCmp.toInt_ofNat_of_lt (show f.val % 90 < 2 ^ (32 - 1) by omega)
    simp only [IntOp.cmpi, BitVec.slt, hn]
    rw [show (0#32 : BitVec 32).toInt = 0 from rfl, decide_eq_false (by omega)]
    rfl
  rw [hs]
  generalize IntOp.cmpi .ne (BitVec.ofNat 32 (f.val % 90)) 0#32 = b
  have : IntOp.andi (IntOp.cmpi .ne (0#1) 0#1) b = 0#1 := by revert b; decide
  rw [this]
  rfl

/-- The result is the first 100 rows and 5 columns of what the second call wrote. -/
theorem out_at (t : Fin 100) (c : Fin 5) : (after (hostOps2 (F := Ideal)) X (Proc.devRef .tc main_v68) : FVec Ideal S100x5 .f32) (ix2 t c) =
    (X (Proc.devRef .tc main_v67) : FVec Ideal S128x8 .f32) (ix2 ⟨t.val, by omega⟩ ⟨c.val, by omega⟩) := by
  after_reads_at

end Cert.Proof.KerTail

end
-- ==== Proof.DecodeValues.lean ====
/-
  The decode call's arrays, entry by entry: the clipped boxes, and the scores with every class that does not count masked.
-/
module

public import proofs.«01_k».proof.Proof.RunValues
public import proofs.«01_k».proof.Proof.Boxes
public import proofs.«01_k».proof.Proof.Suppress
public import Idealize.ShloMosaic.Lib.StableHlo.ReadAt

@[expose] public section

set_option maxRecDepth 16384

noncomputable section

namespace Cert.Proof.DecodeValues

open Cert.KernelIdeal Cert.KernelIdeal.Gen Cert.Proof.Run Cert.Proof.Bodies Cert.Proof.Spec Cert.Proof.Boxes
open Idealize.ShloMosaic Idealize.ShloMosaic.TcCoe Idealize.ShloMosaic.Tactic Idealize.ShloMosaic.StableHlo

open Classical

variable (L : FVec Ideal S5000x91 .f32) (R : FVec Ideal S5000x364 .f32) (Q : FVec Ideal S5000x4 .f32)
variable (d0 d1 d2 d3 : FVec Ideal S5000x91 .f32)

/-- The kernel's left edge is that of the decoded box. -/
theorem box0 (h0 : ∀ (r : Fin 5000) (c : Fin 91), d0 (ix2 r c) = R (ix2 r ⟨c.val * 4, by omega⟩)) (h2 : ∀ (r : Fin 5000) (c : Fin 91), d2 (ix2 r c) = R (ix2 r ⟨c.val * 4 + 2, by omega⟩))
    (r : Fin 5000) (c : Fin 91) : decX1 (F := Ideal) d0 d2 Q (ix2 r c) = box R Q r c 0 := by
  pointwise [decX1, k0_pay13, k0_pay2, k0_pay4, k0_pay6, k0_pay8, k0_pay9, k0_pay11]
  rw [h0, h2]
  rfl
/-- The kernel's top edge is that of the decoded box. -/
theorem box1 (h1 : ∀ (r : Fin 5000) (c : Fin 91), d1 (ix2 r c) = R (ix2 r ⟨c.val * 4 + 1, by omega⟩)) (h3 : ∀ (r : Fin 5000) (c : Fin 91), d3 (ix2 r c) = R (ix2 r ⟨c.val * 4 + 3, by omega⟩))
    (r : Fin 5000) (c : Fin 91) : decY1 (F := Ideal) d1 d3 Q (ix2 r c) = box R Q r c 1 := by
  pointwise [decY1, k0_pay14, k0_pay3, k0_pay5, k0_pay7, k0_pay10, k0_pay12]
  rw [h1, h3]
  rfl
/-- The kernel's right edge is that of the decoded box. -/
theorem box2 (h0 : ∀ (r : Fin 5000) (c : Fin 91), d0 (ix2 r c) = R (ix2 r ⟨c.val * 4, by omega⟩)) (h2 : ∀ (r : Fin 5000) (c : Fin 91), d2 (ix2 r c) = R (ix2 r ⟨c.val * 4 + 2, by omega⟩))
    (r : Fin 5000) (c : Fin 91) : decX2 (F := Ideal) d0 d2 Q (ix2 r c) = box R Q r c 2 := by
  pointwise [decX2, k0_pay15, k0_pay2, k0_pay4, k0_pay6, k0_pay8, k0_pay9, k0_pay11]
  rw [h0, h2]
  rfl
/-- The kernel's bottom edge is that of the decoded box. -/
theorem box3 (h1 : ∀ (r : Fin 5000) (c : Fin 91), d1 (ix2 r c) = R (ix2 r ⟨c.val * 4 + 1, by omega⟩)) (h3 : ∀ (r : Fin 5000) (c : Fin 91), d3 (ix2 r c) = R (ix2 r ⟨c.val * 4 + 3, by omega⟩))
    (r : Fin 5000) (c : Fin 91) : k0_pay18 (F := Ideal) (decY2 d1 d3 Q) k0_pay17 (ix2 r c) = box R Q r c 3 := by
  pointwise [decY2, k0_pay18, k0_pay17, k0_pay16, k0_pay3, k0_pay5, k0_pay7, k0_pay10, k0_pay12]
  rw [h1, h3]
  rfl

/-- The masked scores a row's extraction starts from. -/
def start (r : Fin 5000) (c : Fin 91) : EReal :=
  if c.val = 0 then ((-(2 : ℝ) : ℝ) : EReal) else if Good L R Q r c then score L r c else ((-(1 : ℝ) : ℝ) : EReal)

/-- The background's word is −2. -/
theorem lit_neg_two : Ideal.ofBits .f32 0xC0000000#32 = ((-(2 : ℝ) : ℝ) : EReal) := by
  simp [Ideal.ofBits, Ideal.ieee, -EReal.coe_mul, -EReal.coe_neg]; norm_num

/-- A selection under three conditions. -/
theorem select_and3 (p q s : Prop) [Decidable p] [Decidable q] [Decidable s] (x y : EReal) :
    Scalar.select (IntOp.andi (IntOp.andi (BitVec.ofBool (decide p)) (BitVec.ofBool (decide q))) (BitVec.ofBool (decide s))) x y = if p ∧ q ∧ s then x else y := by
  by_cases hp : p <;> by_cases hq : q <;> by_cases hs : s <;> simp [hp, hq, hs, Scalar.select, IntOp.andi]

/-- A selection by a class's number. -/
theorem select_eq (a b : ℕ) (ha : a < 2 ^ 32) (hb : b < 2 ^ 32) {α : Type} (x y : α) :
    Scalar.select (IntOp.cmpi .eq (BitVec.ofNat 32 a) (BitVec.ofNat 32 b)) x y = if a = b then x else y := by
  have h : (BitVec.ofNat 32 a == BitVec.ofNat 32 b) = decide (a = b) := by
    rw [Bool.eq_iff_iff, beq_iff_eq, decide_eq_true_iff, ← BitVec.toNat_inj, BitVec.toNat_ofNat, BitVec.toNat_ofNat, Nat.mod_eq_of_lt ha, Nat.mod_eq_of_lt hb]
  simp only [IntOp.cmpi, h]
  by_cases hab : a = b <;> simp [hab, Scalar.select]

/-- The extraction starts from the background at −2, the score where the candidate is good, and −1 elsewhere. -/
theorem work_at (a b d e : FVec Ideal S5000x91 .f32) (g : FVec Ideal S5000x91 .f32) (r : Fin 5000) (c : Fin 91)
    (ha : a (ix2 r c) = box R Q r c 0) (hb : b (ix2 r c) = box R Q r c 1) (hd : d (ix2 r c) = box R Q r c 2) (he : k0_pay18 (F := Ideal) e g (ix2 r c) = box R Q r c 3) :
    k0_pay19 (F := Ideal) (k0_pay1 L) a b d e g (ix2 r c) = start L R Q r c := by
  pointwise [k0_pay19, k0_pay1]
  rw [ha, hb, hd, he]
  rw [select_eq c.val 0 (by omega) (by decide), lit_neg_two, select_and3, Suppress.lit_neg_one]
  exact if_congr Iff.rfl rfl (if_congr Iff.rfl rfl rfl)

end Cert.Proof.DecodeValues

end
-- ==== Proof.Extract.lean ====
/-
  The decode call's extraction loop: the twenty slots of a row hold every class of the row that counts, each once.
-/
module

public import proofs.«01_k».proof.Proof.DecodeValues
public import Idealize.ShloMosaic.Lib.SortNet.Extract
public import Idealize.ShloMosaic.Lib.WordArith.Masks

@[expose] public section

set_option maxRecDepth 16384

noncomputable section

namespace Cert.Proof.Extract

open Cert.KernelIdeal Cert.KernelIdeal.Gen Cert.Proof.Run Cert.Proof.Bodies Cert.Proof.Spec Cert.Proof.Boxes Cert.Proof.DecodeValues
open Idealize.ShloMosaic Idealize.ShloMosaic.TcCoe Idealize.ShloMosaic.Tactic Idealize.ShloMosaic.StableHlo

open Classical

/-! ## At most nineteen classes of a row pass the threshold -/

/-- An exponential is not negative. -/
theorem exp_nonneg (x : EReal) : 0 ≤ Ideal.exp x := by
  induction x using EReal.rec with
  | bot => exact le_refl _
  | top => exact le_top
  | coe r => exact EReal.coe_nonneg.2 (Real.exp_pos r).le

/-- The score threshold's word as a fraction, a little above one twentieth. -/
theorem thresh_lit : Ideal.ofBits .f32 0x3D4CCCCD#32 = ((13421773 / 268435456 : ℝ) : EReal) := by
  simp [Ideal.ofBits, Ideal.ieee, -EReal.coe_mul, -EReal.coe_neg]; norm_num

/-- A sum of reals is the same sum among the extended reals. -/
theorem coe_sum {ι : Type} (s : Finset ι) (f : ι → ℝ) : ∑ x ∈ s, ((f x : ℝ) : EReal) = ((∑ x ∈ s, f x : ℝ) : EReal) := by
  induction s using Finset.cons_induction with
  | empty => rfl
  | cons a s ha ih => rw [Finset.sum_cons, Finset.sum_cons, ih, EReal.coe_add]

/-- Fewer than 20 classes of a row have a share above the threshold. -/
theorem few (e : Fin 91 → EReal) (he : ∀ c, 0 ≤ e c) (s : Finset (Fin 91)) (hs : ∀ c ∈ s, Ideal.ofBits .f32 0x3D4CCCCD#32 < Ideal.div (e c) (∑ x, e x)) : s.card < 20 := by
  by_contra hcard
  have hne : s.Nonempty := Finset.card_pos.1 (by omega)
  obtain ⟨c0, hc0⟩ := hne
  rw [thresh_lit] at hs
  have hθ : (0 : EReal) < ((13421773 / 268435456 : ℝ) : EReal) := EReal.coe_pos.2 (by norm_num)
  have hle : ∀ c, e c ≤ ∑ x, e x := fun c => Finset.single_le_sum (fun x _ => he x) (Finset.mem_univ c)
  have h0 : ∑ x, e x ≠ 0 := by
    intro h
    have := hs c0 hc0
    rw [h] at this
    have hz : e c0 = 0 := le_antisymm ((hle c0).trans h.le) (he c0)
    rw [hz, Ideal.div, if_pos rfl, if_neg (lt_irrefl _)] at this
    exact absurd this not_lt_bot
  have htop : ∑ x, e x ≠ ⊤ := by
    intro h
    have := hs c0 hc0
    rw [h, Ideal.div, if_neg EReal.top_ne_zero, EReal.inv_top, mul_zero] at this
    exact absurd (hθ.trans this) (lt_irrefl _)
  have hreal : ∀ c, ((e c).toReal : EReal) = e c := fun c =>
    EReal.coe_toReal (fun h => htop (top_le_iff.1 (h ▸ hle c))) (fun h => by have := he c; rw [h] at this; exact absurd this (by simp))
  obtain ⟨f, hf⟩ : ∃ f : Fin 91 → ℝ, ∀ c, e c = ((f c : ℝ) : EReal) := ⟨fun c => (e c).toReal, fun c => (hreal c).symm⟩
  have hsum : ∑ x, e x = ((∑ x, f x : ℝ) : EReal) := by rw [← coe_sum]; exact Finset.sum_congr rfl fun c _ => hf c
  have hfn : ∀ c, 0 ≤ f c := fun c => EReal.coe_nonneg.1 (hf c ▸ he c)
  have hF : (∑ x, f x) ≠ 0 := by
    intro h
    exact h0 (by rw [hsum, h]; rfl)
  have hFpos : 0 < ∑ x, f x := lt_of_le_of_ne (Finset.sum_nonneg fun c _ => hfn c) (Ne.symm hF)
  have hlt : ∀ c ∈ s, (13421773 / 268435456 : ℝ) * (∑ x, f x) < f c := by
    intro c hc
    have := hs c hc
    rw [hsum, Ideal.div, if_neg (by rw [← hsum]; exact h0), hf c, ← EReal.coe_inv, ← EReal.coe_mul, EReal.coe_lt_coe_iff] at this
    have h2 := mul_lt_mul_of_pos_right this hFpos
    rwa [mul_assoc, inv_mul_cancel₀ hF, mul_one] at h2
  have h1 : ∑ c ∈ s, (13421773 / 268435456 : ℝ) * (∑ x, f x) ≤ ∑ c ∈ s, f c := Finset.sum_le_sum fun c hc => (hlt c hc).le
  have h2 : ∑ c ∈ s, f c ≤ ∑ x, f x := Finset.sum_le_sum_of_subset_of_nonneg (Finset.subset_univ s) fun c _ _ => hfn c
  rw [Finset.sum_const, nsmul_eq_mul] at h1
  have h3 : (20 : ℝ) ≤ (s.card : ℝ) := by exact_mod_cast (not_lt.1 hcard)
  have h4 : (20 : ℝ) * ((13421773 / 268435456 : ℝ) * (∑ x, f x)) ≤ (s.card : ℝ) * ((13421773 / 268435456 : ℝ) * (∑ x, f x)) :=
    mul_le_mul_of_nonneg_right h3 (by positivity)
  linarith

/-! ## The last class with a row's largest value -/

/-- The word a maximum starts from is −∞. -/
theorem neg_inf : Ideal.ofBits .f32 0xFF800000#32 = ⊥ := by
  simp [Ideal.ofBits, Ideal.ieee]

/-- The largest value of a row. -/
abbrev most (w : Fin 91 → EReal) : EReal := (Finset.univ : Finset (Fin 91)).fold max (Ideal.ofBits .f32 0xFF800000#32) w

/-- No entry of a row exceeds its maximum. -/
theorem le_most (w : Fin 91 → EReal) (c : Fin 91) : w c ≤ most w := Finset.le_fold_max _ |>.2 (.inr ⟨c, Finset.mem_univ c, le_refl _⟩)

/-- A row's maximum is one of its entries. -/
theorem most_mem (w : Fin 91 → EReal) : ∃ c, w c = most w := by
  rcases (Finset.le_fold_max (s := Finset.univ) (f := w) (b := Ideal.ofBits .f32 0xFF800000#32) (most w)).1 (le_refl _) with h | ⟨c, _, h⟩
  · refine ⟨0, le_antisymm (le_most w 0) (h.trans ?_)⟩
    rw [neg_inf]
    exact bot_le
  · exact ⟨c, le_antisymm (le_most w c) h⟩

/-- Some entry attains the maximum and has the highest index of those that do, as the kernel's fold over words finds it. -/
theorem last_exists (w : Fin 91 → EReal) : ∃ C : Fin 91, w C = most w ∧
    (Finset.univ : Finset (Fin 91)).fold IntOp.maxsi 2147483648#32 (fun x => if w x = most w then BitVec.ofNat 32 x.val else 4294967295#32) = BitVec.ofNat 32 C.val := by
  obtain ⟨h1, h2, h3⟩ := SortNet.fold_maxsi_spec (fun x : Fin 91 => if w x = most w then BitVec.ofNat 32 x.val else 4294967295#32) Finset.univ 2147483648#32
  obtain ⟨c, hc⟩ := most_mem w
  have hpos : ∀ n, n < 91 → (BitVec.ofNat 32 n).toInt = (n : ℤ) := fun n hn => WordCmp.toInt_ofNat_of_lt (show n < 2 ^ (32 - 1) by omega)
  have hge := h2 c (Finset.mem_univ c)
  simp only [if_pos hc, hpos c.val c.isLt] at hge
  rcases h3 with h | ⟨C, _, h⟩
  · rw [h] at hge
    have : (2147483648#32 : BitVec 32).toInt = -2147483648 := by decide
    omega
  · by_cases hC : w C = most w
    · exact ⟨C, hC, by rw [h, if_pos hC]⟩
    · rw [h, if_neg hC] at hge
      have : (4294967295#32 : BitVec 32).toInt = -1 := by decide
      omega

/-- The last class with the largest value. -/
def last (w : Fin 91 → EReal) : Fin 91 := choose (last_exists w)
/-- The chosen class attains the row's maximum. -/
theorem last_most (w : Fin 91 → EReal) : w (last w) = most w := (choose_spec (last_exists w)).1
/-- The kernel's fold over words gives the chosen class. -/
theorem last_word (w : Fin 91 → EReal) :
    (Finset.univ : Finset (Fin 91)).fold IntOp.maxsi 2147483648#32 (fun x => if w x = most w then BitVec.ofNat 32 x.val else 4294967295#32) = BitVec.ofNat 32 (last w).val :=
  (choose_spec (last_exists w)).2

/-- The value a taken class is given. -/
abbrev low : EReal := Ideal.ofBits .f32 0xC0800000#32

/-- A row's values after `k` trips, and the class trip `k` takes. -/
def work (w : Fin 91 → EReal) : ℕ → Fin 91 → EReal
  | 0 => w
  | k + 1 => fun c => if c = last (work w k) then low else work w k c
/-- The class that round `k` takes. -/
def taken (w : Fin 91 → EReal) (k : ℕ) : Fin 91 := last (work w k)

/-- A round sets aside the class that it takes and leaves the others. -/
theorem work_succ (w : Fin 91 → EReal) (k : ℕ) (c : Fin 91) : work w (k + 1) c = if c = last (work w k) then low else work w k c := rfl

/-! ## One trip, entry by entry -/

/-- The round's row with the taken class set aside. -/
theorem strike_at (W : FVec Ideal S5000x91 .f32) (w : Fin 91 → EReal) (r : Fin 5000) (hw : ∀ c, W (ix2 r c) = w c) (c : Fin 91) :
    k0_pay26 (F := Ideal) W (ix2 r c) = if c = last w then low else w c := by
  have key : k0_pay26 (F := Ideal) W (ix2 r c) = Scalar.select (IntOp.cmpi .eq (BitVec.ofNat 32 c.val)
      ((Finset.univ : Finset (Fin 91)).fold IntOp.maxsi 2147483648#32 (fun x => if W (ix2 r x) = (Finset.univ : Finset (Fin 91)).fold max (Ideal.ofBits .f32 0xFF800000#32) (fun x => W (ix2 r x)) then BitVec.ofNat 32 x.val else 4294967295#32))) low (W (ix2 r c)) := by
    pointwise [k0_pay26, k0_pay23, k0_pay22]
  rw [key]
  simp only [hw]
  rw [last_word w, select_eq _ _ (by omega) (by omega)]
  exact if_congr Fin.ext_iff.symm rfl rfl

/-- Round `k` writes the maximum into slot `k` and leaves the other slots. -/
theorem score_slot (k : Fin k0_t1_loop.trips) (W : FVec Ideal S5000x91 .f32) (a : FVec Ideal S5000x20 .f32) (w : Fin 91 → EReal) (r : Fin 5000) (hw : ∀ c, W (ix2 r c) = w c) (s : Fin 20) :
    k0_pay24 (F := Ideal) k W a (ix2 r s) = if s.val = k.val then w (last w) else a (ix2 r s) := by
  have key : k0_pay24 (F := Ideal) k W a (ix2 r s) = Scalar.select (IntOp.cmpi .eq (BitVec.ofNat 32 s.val) (Scf.iv 0#32 1#32 k.val))
      ((Finset.univ : Finset (Fin 91)).fold max (Ideal.ofBits .f32 0xFF800000#32) (fun x => W (ix2 r x))) (a (ix2 r s)) := by
    pointwise [k0_pay24, k0_pay23, k0_pay22]
  have hk : k.val < 2 ^ 32 := lt_of_lt_of_le k.isLt (by decide)
  have hiv : Scf.iv 0#32 1#32 k.val = BitVec.ofNat 32 k.val := by
    apply BitVec.eq_of_toNat_eq
    rw [WordArith.toNat_iv_zero_one _ hk, BitVec.toNat_ofNat, Nat.mod_eq_of_lt hk]
  rw [key, hiv, select_eq _ _ (by omega) hk]
  simp only [hw]
  rw [last_most w]

/-- Round `k` writes the taken class's flat index into slot `k` and leaves the other slots. -/
theorem class_slot (k : Fin k0_t1_loop.trips) (W : FVec Ideal S5000x91 .f32) (a : IVec S5000x20 32) (w : Fin 91 → EReal) (r : Fin 5000) (hw : ∀ c, W (ix2 r c) = w c) (s : Fin 20) :
    k0_pay25 (F := Ideal) k W a (ix2 r s) = if s.val = k.val then IntOp.addi (IntOp.muli (BitVec.ofNat 32 r.val) 90#32) (IntOp.subi (BitVec.ofNat 32 (last w).val) 1#32) else a (ix2 r s) := by
  have key : k0_pay25 (F := Ideal) k W a (ix2 r s) = Scalar.select (IntOp.cmpi .eq (BitVec.ofNat 32 s.val) (Scf.iv 0#32 1#32 k.val))
      (IntOp.addi (IntOp.muli (BitVec.ofNat 32 r.val) 90#32) (IntOp.subi ((Finset.univ : Finset (Fin 91)).fold IntOp.maxsi 2147483648#32 (fun x => if W (ix2 r x) = (Finset.univ : Finset (Fin 91)).fold max (Ideal.ofBits .f32 0xFF800000#32) (fun x => W (ix2 r x)) then BitVec.ofNat 32 x.val else 4294967295#32)) 1#32)) (a (ix2 r s)) := by
    pointwise [k0_pay25, k0_pay23, k0_pay22]
  have hk : k.val < 2 ^ 32 := lt_of_lt_of_le k.isLt (by decide)
  have hiv : Scf.iv 0#32 1#32 k.val = BitVec.ofNat 32 k.val := by
    apply BitVec.eq_of_toNat_eq
    rw [WordArith.toNat_iv_zero_one _ hk, BitVec.toNat_ofNat, Nat.mod_eq_of_lt hk]
  rw [key, hiv, select_eq _ _ (by omega) hk]
  simp only [hw]
  rw [last_word w]

/-! ## The loop -/

/-- What holds before and is kept by every trip holds at the end of the trips. -/
theorem fold_inv {σ : Type} (n : ℕ) (g : Fin n → σ → σ) (init : σ) (Inv : ℕ → σ → Prop) (h0 : Inv 0 init) (hs : ∀ (k : Fin n) a, Inv k.val a → Inv (k.val + 1) (g k a)) :
    Inv n ((List.finRange n).foldl (fun a k => g k a) init) := by
  induction n with
  | zero => exact h0
  | succ n ih =>
    rw [List.finRange_succ_last, List.foldl_append, List.foldl_map]
    exact hs (Fin.last n) _ (ih (fun k => g k.castSucc) fun k a h => hs k.castSucc a h)

/-- What a row of the loop's values is after `k` trips from the row `w`. -/
def Inv (w : Fin 91 → EReal) (r : Fin 5000) (k : ℕ) (acc : FVec Ideal S5000x91 .f32 × FVec Ideal S5000x20 .f32 × IVec S5000x20 32) : Prop :=
  (∀ c, acc.1 (ix2 r c) = work w k c) ∧ ∀ s : Fin 20, s.val < k → acc.2.1 (ix2 r s) = work w s.val (taken w s.val) ∧
    acc.2.2 (ix2 r s) = IntOp.addi (IntOp.muli (BitVec.ofNat 32 r.val) 90#32) (IntOp.subi (BitVec.ofNat 32 (taken w s.val).val) 1#32)

/-- One round keeps the invariant, component by component. -/
theorem inv_step (w : Fin 91 → EReal) (r : Fin 5000) (k : Fin k0_t1_loop.trips) (n : ℕ) (hk : k.val = n) (W : FVec Ideal S5000x91 .f32) (a : FVec Ideal S5000x20 .f32) (b : IVec S5000x20 32)
    (hw : ∀ c, W (ix2 r c) = work w n c)
    (hs : ∀ s : Fin 20, s.val < n → a (ix2 r s) = work w s.val (taken w s.val) ∧
      b (ix2 r s) = IntOp.addi (IntOp.muli (BitVec.ofNat 32 r.val) 90#32) (IntOp.subi (BitVec.ofNat 32 (taken w s.val).val) 1#32)) :
    (∀ c, k0_pay26 (F := Ideal) W (ix2 r c) = work w (n + 1) c) ∧ ∀ s : Fin 20, s.val < n + 1 → k0_pay24 (F := Ideal) k W a (ix2 r s) = work w s.val (taken w s.val) ∧
      k0_pay25 (F := Ideal) k W b (ix2 r s) = IntOp.addi (IntOp.muli (BitVec.ofNat 32 r.val) 90#32) (IntOp.subi (BitVec.ofNat 32 (taken w s.val).val) 1#32) := by
  refine ⟨fun c => ?_, fun s hsk => ⟨?_, ?_⟩⟩
  · rw [work_succ]
    exact strike_at W (work w n) r hw c
  · rw [score_slot k W a (work w n) r hw s, hk]
    by_cases he : s.val = n
    · rw [if_pos he, he]
      rfl
    · rw [if_neg he]
      exact (hs s (by omega)).1
  · rw [class_slot k W b (work w n) r hw s, hk]
    by_cases he : s.val = n
    · rw [if_pos he, he]
      rfl
    · rw [if_neg he]
      exact (hs s (by omega)).2

/-- One round of the loop keeps the invariant. -/
theorem trip_step (w : Fin 91 → EReal) (r : Fin 5000) (k : Fin k0_t1_loop.trips) (acc : FVec Ideal S5000x91 .f32 × FVec Ideal S5000x20 .f32 × IVec S5000x20 32)
    (h : Inv w r k.val acc) : Inv w r (k.val + 1) (trip (F := Ideal) k acc) := by
  obtain ⟨hw, hs⟩ := h
  have := inv_step w r k k.val rfl acc.1 acc.2.1 acc.2.2 hw hs
  unfold Inv trip
  dsimp only
  exact this

/-- The slots of the extraction: the scores at the row's start of the classes taken, and the classes' numbers. -/
theorem extracted_at (W : FVec Ideal S5000x91 .f32) (w : Fin 91 → EReal) (r : Fin 5000) (hw : ∀ c, W (ix2 r c) = w c) (s : Fin 20) :
    (extracted (F := Ideal) W).2.1 (ix2 r s) = work w s.val (taken w s.val) ∧
    (extracted (F := Ideal) W).2.2 (ix2 r s) = IntOp.addi (IntOp.muli (BitVec.ofNat 32 r.val) 90#32) (IntOp.subi (BitVec.ofNat 32 (taken w s.val).val) 1#32) := by
  have h := fold_inv k0_t1_loop.trips (trip (F := Ideal)) (W, k0_pay20 (F := Ideal), k0_pay21) (Inv w r)
    ⟨hw, fun s hs => absurd hs (Nat.not_lt_zero _)⟩ (trip_step w r)
  have e : extracted (F := Ideal) W = (List.finRange k0_t1_loop.trips).foldl (fun a k => trip (F := Ideal) k a) (W, k0_pay20 (F := Ideal), k0_pay21) := Scf.fold_eq _ _
  rw [e]
  exact h.2 s (lt_of_lt_of_le s.isLt (show 20 ≤ k0_t1_loop.trips by decide))

/-! ## From the masked scores -/

variable (L : FVec Ideal S5000x91 .f32) (R : FVec Ideal S5000x364 .f32) (Q : FVec Ideal S5000x4 .f32)

/-- The word of a class set aside is −4. -/
theorem low_lit : low = ((-(4 : ℝ) : ℝ) : EReal) := by
  unfold low
  simp [Ideal.ofBits, Ideal.ieee, -EReal.coe_mul, -EReal.coe_neg]; norm_num

/-- A good candidate's score is positive. -/
theorem good_pos (r : Fin 5000) (c : Fin 91) (h : Good L R Q r c) : 0 < score L r c := by
  have := h.1
  rw [thresh_lit] at this
  exact (EReal.coe_pos.2 (by norm_num)).trans this

/-- The first row is positive exactly at the good classes. -/
theorem start_pos (r : Fin 5000) (c : Fin 91) : 0 < start L R Q r c ↔ c.val ≠ 0 ∧ Good L R Q r c := by
  unfold start
  by_cases hc : c.val = 0
  · rw [if_pos hc]
    refine iff_of_false (not_lt.2 (EReal.coe_nonpos.2 (by norm_num))) fun h => h.1 hc
  · rw [if_neg hc]
    by_cases hg : Good L R Q r c
    · rw [if_pos hg]
      exact iff_of_true (good_pos L R Q r c hg) ⟨hc, hg⟩
    · rw [if_neg hg]
      exact iff_of_false (not_lt.2 (EReal.coe_nonpos.2 (by norm_num))) fun h => hg h.2

/-- No entry of the first row is as low as that of a class set aside. -/
theorem start_low (r : Fin 5000) (c : Fin 91) : low < start L R Q r c := by
  rw [low_lit]
  unfold start
  by_cases hc : c.val = 0
  · rw [if_pos hc]
    exact EReal.coe_lt_coe_iff.2 (by norm_num)
  · rw [if_neg hc]
    by_cases hg : Good L R Q r c
    · rw [if_pos hg]
      exact lt_of_le_of_lt (EReal.coe_nonpos.2 (by norm_num)) (good_pos L R Q r c hg)
    · rw [if_neg hg]
      exact EReal.coe_lt_coe_iff.2 (by norm_num)

/-- The class in a slot of a row. -/
def cls (r : Fin 5000) (s : ℕ) : Fin 91 := taken (start L R Q r) s

/-- The 20 rounds take different classes, each at its first value, and take every class with a positive one. -/
theorem slots_spec (r : Fin 5000) : (∀ k, k < 20 → work (start L R Q r) k (cls L R Q r k) = start L R Q r (cls L R Q r k)) ∧
    (∀ k k', k < 20 → k' < 20 → cls L R Q r k = cls L R Q r k' → k = k') ∧ (∀ c, 0 < start L R Q r c → ∃ k, k < 20 ∧ cls L R Q r k = c) :=
  extract (n := 91) (m := 20) (by omega) (work (start L R Q r)) (cls L R Q r) low (start_low L R Q r)
    (fun k _ c => (le_most _ c).trans (last_most (work (start L R Q r) k)).symm.le) (fun k _ c => rfl)
    (fun s hs => few (fun c => Ideal.exp (L (ix2 r c) - top L r)) (fun c => exp_nonneg _) s fun c hc => ((start_pos L R Q r c).1 (hs c hc)).2.1)

end Cert.Proof.Extract

end
-- ==== Proof.Match.lean ====
/-
  The kernel ranks the slots its extraction fills and the reference ranks all candidates: where the scores are positive the two
  rankings name the same candidates in the same order.
-/
module

public import proofs.«01_k».proof.Proof.Extract

@[expose] public section

set_option maxRecDepth 16384

noncomputable section

namespace Cert.Proof.Match

open Idealize.ShloMosaic Cert.Proof.Spec Cert.Proof.Boxes Cert.Proof.DecodeValues Cert.Proof.Extract

open Classical

variable (L : FVec Ideal ⟨2, ![5000, 91]⟩ .f32) (R : FVec Ideal ⟨2, ![5000, 364]⟩ .f32) (Q : FVec Ideal ⟨2, ![5000, 4]⟩ .f32)

/-- The proposal of a slot, the class extracted into it, its score, and its position among all candidates. -/
def slotRow (s : Fin 100000) : Fin 5000 := ⟨s.val / 20, by omega⟩
/-- The class that slot `s` holds. -/
def slotCls (s : Fin 100000) : Fin 91 := cls L R Q (slotRow s) (s.val % 20)
/-- The value that slot `s` holds. -/
def slotVal (s : Fin 100000) : EReal := start L R Q (slotRow s) (slotCls L R Q s)
/-- The flat candidate that slot `s` stands for. -/
def cand (s : Fin 100000) : Fin 450000 := ⟨s.val / 20 * 90 + ((slotCls L R Q s).val - 1), by have := (slotCls L R Q s).isLt; omega⟩

/-- A slot's candidate is of the slot's row. -/
theorem rowOf_cand (s : Fin 100000) : rowOf (cand L R Q s) = slotRow s := by
  have := (slotCls L R Q s).isLt
  refine Fin.ext ?_
  show (s.val / 20 * 90 + ((slotCls L R Q s).val - 1)) / 90 = s.val / 20
  omega

/-- A slot's candidate has the slot's class, the background apart. -/
theorem colOf_cand (s : Fin 100000) (h : (slotCls L R Q s).val ≠ 0) : colOf (cand L R Q s) = slotCls L R Q s := by
  have := (slotCls L R Q s).isLt
  refine Fin.ext ?_
  show 1 + (s.val / 20 * 90 + ((slotCls L R Q s).val - 1)) % 90 = (slotCls L R Q s).val
  omega

/-- A slot's value is positive exactly where its candidate is good. -/
theorem slot_pos (s : Fin 100000) : 0 < slotVal L R Q s ↔ (slotCls L R Q s).val ≠ 0 ∧ Good L R Q (slotRow s) (slotCls L R Q s) := start_pos L R Q _ _

/-- At a good class the extraction starts from the score. -/
theorem start_good (r : Fin 5000) (c : Fin 91) (h : c.val ≠ 0 ∧ Good L R Q r c) : start L R Q r c = score L r c := by
  unfold start
  rw [if_neg h.1, if_pos h.2]

/-- A good candidate keeps its score. -/
theorem masked_good (f : Fin 450000) (h : Good L R Q (rowOf f) (colOf f)) : masked L R Q f = score L (rowOf f) (colOf f) := if_pos h

/-- A masked score is positive exactly at the good candidates. -/
theorem masked_pos (f : Fin 450000) : 0 < masked L R Q f ↔ Good L R Q (rowOf f) (colOf f) := by
  by_cases h : Good L R Q (rowOf f) (colOf f)
  · rw [masked_good L R Q f h]
    exact iff_of_true (good_pos L R Q _ _ h) h
  · unfold masked
    rw [if_neg h]
    exact iff_of_false (not_lt.2 (EReal.coe_nonpos.2 (by norm_num))) h

/-- The score of a slot with a positive score is that of its candidate. -/
theorem cand_val (s : Fin 100000) (h : 0 < slotVal L R Q s) : masked L R Q (cand L R Q s) = slotVal L R Q s := by
  have hs := (slot_pos L R Q s).1 h
  have hc := colOf_cand L R Q s hs.1
  have hr := rowOf_cand L R Q s
  rw [masked_good L R Q _ (by rw [hr, hc]; exact hs.2), hr, hc]
  exact (start_good L R Q _ _ hs).symm

/-- Every candidate with a positive score is in a slot. -/
theorem cand_onto (f : Fin 450000) (h : 0 < masked L R Q f) : ∃ s, 0 < slotVal L R Q s ∧ cand L R Q s = f := by
  have hg := (masked_pos L R Q f).1 h
  have hp : 0 < start L R Q (rowOf f) (colOf f) := (start_pos L R Q _ _).2 ⟨by show 1 + f.val % 90 ≠ 0; omega, hg⟩
  obtain ⟨k, hk, hck⟩ := (slots_spec L R Q (rowOf f)).2.2 _ hp
  have hf : f.val / 90 < 5000 := (rowOf f).isLt
  have hrow : slotRow ⟨f.val / 90 * 20 + k, by omega⟩ = rowOf f := Fin.ext (by show (f.val / 90 * 20 + k) / 20 = f.val / 90; omega)
  have hcls : slotCls L R Q ⟨f.val / 90 * 20 + k, by omega⟩ = colOf f := by
    unfold slotCls
    rw [hrow, show (f.val / 90 * 20 + k) % 20 = k by omega]
    exact hck
  refine ⟨⟨f.val / 90 * 20 + k, by omega⟩, ?_, Fin.ext ?_⟩
  · unfold slotVal
    rw [hrow, hcls]
    exact hp
  · show (f.val / 90 * 20 + k) / 20 * 90 + ((slotCls L R Q ⟨f.val / 90 * 20 + k, by omega⟩).val - 1) = f.val
    rw [hcls]
    show (f.val / 90 * 20 + k) / 20 * 90 + (1 + f.val % 90 - 1) = f.val
    omega

/-- Slots of equal positive scores name candidates in their own order, where no two scores that count within a row are equal. -/
theorem cand_mono (hT : ∀ (r : Fin 5000) (c c' : Fin 91), c.val ≠ 0 → c'.val ≠ 0 → Good L R Q r c → Good L R Q r c' → score L r c = score L r c' → c = c')
    (s s' : Fin 100000) (hlt : s < s') (hp : 0 < slotVal L R Q s) (he : slotVal L R Q s' = slotVal L R Q s) : cand L R Q s < cand L R Q s' := by
  have hs := (slot_pos L R Q s).1 hp
  have hs' := (slot_pos L R Q s').1 (by rw [he]; exact hp)
  have hlt' : s.val < s'.val := hlt
  by_cases hrow : s.val / 20 = s'.val / 20
  · exfalso
    have hr : slotRow s' = slotRow s := Fin.ext hrow.symm
    have hsc : score L (slotRow s) (slotCls L R Q s) = score L (slotRow s) (slotCls L R Q s') := by
      rw [← start_good L R Q _ _ hs, ← start_good L R Q _ _ (by rw [← hr]; exact hs')]
      have := he.symm
      unfold slotVal at this
      rw [hr] at this
      exact this
    have hc := hT (slotRow s) _ _ hs.1 hs'.1 hs.2 (by rw [← hr]; exact hs'.2) hsc
    unfold slotCls at hc
    rw [hr] at hc
    have := (slots_spec L R Q (slotRow s)).2.1 _ _ (by omega) (by omega) hc
    omega
  · have h1 := (slotCls L R Q s).isLt
    have h2 := (slotCls L R Q s').isLt
    show s.val / 20 * 90 + ((slotCls L R Q s).val - 1) < s'.val / 20 * 90 + ((slotCls L R Q s').val - 1)
    omega

/-- The two rankings agree where the scores are positive. -/
theorem rankings (hT : ∀ (r : Fin 5000) (c c' : Fin 91), c.val ≠ 0 → c'.val ≠ 0 → Good L R Q r c → Good L R Q r c' → score L r c = score L r c' → c = c')
    {σ : Fin 100000 → Fin 100000} (hσ : Ranks σ (slotVal L R Q)) {τ : Fin 450000 → Fin 450000} (hτ : Ranks τ (masked L R Q)) (i : ℕ) (h : i < 100000) (h' : i < 450000) :
    (0 < slotVal L R Q (σ ⟨i, h⟩) ↔ 0 < masked L R Q (τ ⟨i, h'⟩)) ∧ (0 < masked L R Q (τ ⟨i, h'⟩) → cand L R Q (σ ⟨i, h⟩) = τ ⟨i, h'⟩ ∧ slotVal L R Q (σ ⟨i, h⟩) = masked L R Q (τ ⟨i, h'⟩)) := by
  have key := rank_agree hσ hτ (cand L R Q) (cand_val L R Q) (cand_onto L R Q) (cand_mono L R Q hT) i h h'
  have back : 0 < slotVal L R Q (σ ⟨i, h⟩) → 0 < masked L R Q (τ ⟨i, h'⟩) := fun hp => by
    obtain ⟨h1, h2⟩ := key (.inl hp)
    rw [← h2, cand_val L R Q _ h1]
    exact h1
  refine ⟨⟨back, fun hp => (key (.inr hp)).1⟩, fun hp => ?_⟩
  obtain ⟨h1, h2⟩ := key (.inr hp)
  exact ⟨h2, by rw [← h2, cand_val L R Q _ h1]⟩

/-- The first hundred of the ranked candidates have positive scores where at least a hundred candidates count. -/
theorem hundred (hC : 100 ≤ (Finset.univ.filter fun f : Fin 450000 => Good L R Q (rowOf f) (colOf f)).card)
    {τ : Fin 450000 → Fin 450000} (hτ : Ranks τ (masked L R Q)) (i : ℕ) (h : i < 100) : 0 < masked L R Q (τ ⟨i, by omega⟩) := by
  refine positive_first hτ 100 ?_ ⟨i, by omega⟩ h
  refine hC.trans (Finset.card_le_card fun f hf => ?_)
  rw [Finset.mem_filter] at hf ⊢
  exact ⟨hf.1, (masked_pos L R Q f).2 hf.2⟩

end Cert.Proof.Match

end
-- ==== Proof.Agree.lean ====
/-
  The suppression call's rows against the reference's second ranking: both put the same candidate at each of the first hundred places.
-/
module

public import proofs.«01_k».proof.Proof.Suppress
public import proofs.«01_k».proof.Proof.Boxes

@[expose] public section

set_option maxRecDepth 16384

noncomputable section

namespace Cert.Proof.Agree

open Cert.KernelIdeal Cert.KernelIdeal.Gen Cert.Proof.Bodies Cert.Proof.Spec Cert.Proof.Boxes Cert.Proof.Suppress
open Idealize.ShloMosaic Idealize.ShloMosaic.TcCoe Idealize.ShloMosaic.Tactic

open Classical

variable (x : FVec Ideal S1024x8 .f32)

/-- The four edges of a row of the block, and its box moved by its label. -/
def edge (i : Fin 1024) : Fin 4 → EReal := fun k => x (ix2 i ⟨k.val, by omega⟩)
/-- Candidate `i`'s box in the kernel's block, moved aside by its class. -/
def movedRow (i : Fin 1024) : Fin 4 → EReal := shifted (edge x i) (x (ix2 i 5))

/-- The word by which classes are set apart is 801. -/
theorem lit_801 : Ideal.ofBits .f32 0x44484000#32 = ((801 : ℝ) : EReal) := by
  simp [Ideal.ofBits, Ideal.ieee, -EReal.coe_mul, -EReal.coe_neg]; norm_num

/-- The kernel's intersection is that of the two moved boxes. -/
theorem inter_at (i j : Fin 1024) : k1_pay16 (F := Ideal) x (ix2 i j) = inter (movedRow x i) (movedRow x j) := by
  have key : k1_pay16 (F := Ideal) x (ix2 i j) =
      max (min (x (ix2 i 2) + x (ix2 i 5) * Ideal.ofBits .f32 0x44484000#32) (x (ix2 j 2) + x (ix2 j 5) * Ideal.ofBits .f32 0x44484000#32)
        - max (x (ix2 i 0) + x (ix2 i 5) * Ideal.ofBits .f32 0x44484000#32) (x (ix2 j 0) + x (ix2 j 5) * Ideal.ofBits .f32 0x44484000#32)) 0
      * max (min (x (ix2 i 3) + x (ix2 i 5) * Ideal.ofBits .f32 0x44484000#32) (x (ix2 j 3) + x (ix2 j 5) * Ideal.ofBits .f32 0x44484000#32)
        - max (x (ix2 i 1) + x (ix2 i 5) * Ideal.ofBits .f32 0x44484000#32) (x (ix2 j 1) + x (ix2 j 5) * Ideal.ofBits .f32 0x44484000#32)) 0 := by
    pointwise [k1_pay16, k1_pay15, k1_pay14, k1_pay13, k1_pay12, k1_pay11, k1_pay10, k1_pay9, k1_pay8, k1_pay7, k1_pay6, k1_pay5, k1_pay4]
  rw [key, lit_801]
  rfl

/-- The kernel's union is the sum of the two areas less the intersection. -/
theorem union_at (i j : Fin 1024) : k1_pay17 (F := Ideal) x (ix2 i j) = area (movedRow x i) + area (movedRow x j) - inter (movedRow x i) (movedRow x j) := by
  have key : k1_pay17 (F := Ideal) x (ix2 i j) =
      ((x (ix2 i 2) + x (ix2 i 5) * Ideal.ofBits .f32 0x44484000#32) - (x (ix2 i 0) + x (ix2 i 5) * Ideal.ofBits .f32 0x44484000#32))
        * ((x (ix2 i 3) + x (ix2 i 5) * Ideal.ofBits .f32 0x44484000#32) - (x (ix2 i 1) + x (ix2 i 5) * Ideal.ofBits .f32 0x44484000#32))
      + ((x (ix2 j 2) + x (ix2 j 5) * Ideal.ofBits .f32 0x44484000#32) - (x (ix2 j 0) + x (ix2 j 5) * Ideal.ofBits .f32 0x44484000#32))
        * ((x (ix2 j 3) + x (ix2 j 5) * Ideal.ofBits .f32 0x44484000#32) - (x (ix2 j 1) + x (ix2 j 5) * Ideal.ofBits .f32 0x44484000#32))
      - k1_pay16 (F := Ideal) x (ix2 i j) := by
    unfold k1_pay17
    generalize k1_pay16 (F := Ideal) x = u
    pointwise [k1_pay15, k1_pay14, k1_pay13, k1_pay12, k1_pay11, k1_pay10, k1_pay9, k1_pay8, k1_pay7, k1_pay6, k1_pay5, k1_pay4]
  rw [key, lit_801, inter_at]
  rfl

/-- Two rows overlap in the call exactly if the boxes moved by their labels do. -/
theorem overlap_iff (i j : Fin 1024) : overlap x i j ↔ Ideal.ofBits .f32 0x3F000000#32 < iou (movedRow x i) (movedRow x j) := by
  unfold overlap
  rw [inter_at, union_at]
  rfl

variable (v : Fin 1000 → EReal) (B : Fin 1000 → Fin 4 → EReal) (l : Fin 1000 → EReal)

/-- The positions greedy suppression keeps of the ranked scores, boxes and labels. -/
def keepR : ℕ → Prop := kept (fun i => ∃ h : i < 1000, 0 < v ⟨i, h⟩)
  (fun a b => ∃ (ha : a < 1000) (hb : b < 1000), Ideal.ofBits .f32 0x3F000000#32 < iou (shifted (B ⟨a, ha⟩) (l ⟨a, ha⟩)) (shifted (B ⟨b, hb⟩) (l ⟨b, hb⟩)))

/-- The scores after suppression. -/
def after (i : Fin 1000) : EReal := if keepR v B l i.val then v i else ((-(1 : ℝ) : ℝ) : EReal)

/-- The first thousand rows of the block are the ranked scores, boxes and labels where these scores are positive, and no other row has a positive score. -/
def Matches : Prop := (∀ i : Fin 1000, 0 < x (ix2 ⟨i.val, by omega⟩ 4) ↔ 0 < v i)
  ∧ (∀ i : Fin 1000, 0 < v i → x (ix2 ⟨i.val, by omega⟩ 4) = v i ∧ edge x ⟨i.val, by omega⟩ = B i ∧ x (ix2 ⟨i.val, by omega⟩ 5) = l i)
  ∧ ∀ i : Fin 1024, 1000 ≤ i.val → ¬ 0 < x (ix2 i 4)

/-- Candidate `i` is kept in the kernel's block exactly where it is kept among the reference's candidates. -/
theorem keep_iff (hm : Matches x v B l) (i : ℕ) (hi : i < 1000) : keep x i ↔ keepR v B l i := by
  obtain ⟨hpos, hval, hpad⟩ := hm
  refine kept_congr _ _ _ _ 1000 (fun i hi => ?_) (fun i j hj hi hvi hvj => ?_) i hi
  · constructor
    · rintro ⟨h, hp⟩
      exact ⟨hi, (hpos ⟨i, hi⟩).1 hp⟩
    · rintro ⟨h, hp⟩
      exact ⟨by omega, (hpos ⟨i, hi⟩).2 hp⟩
  · obtain ⟨h1, h1'⟩ := hvi
    obtain ⟨h2, h2'⟩ := hvj
    have e1 := hval ⟨i, hi⟩ ((hpos ⟨i, hi⟩).1 h1')
    have e2 := hval ⟨j, by omega⟩ ((hpos ⟨j, by omega⟩).1 h2')
    have m1 : movedRow x ⟨i, h1⟩ = shifted (B ⟨i, hi⟩) (l ⟨i, hi⟩) := by
      unfold movedRow
      rw [e1.2.1, e1.2.2]
    have m2 : movedRow x ⟨j, h2⟩ = shifted (B ⟨j, by omega⟩) (l ⟨j, by omega⟩) := by
      unfold movedRow
      rw [e2.2.1, e2.2.2]
    constructor
    · rintro ⟨_, _, h⟩
      rw [overlap_iff, m1, m2] at h
      exact ⟨hi, by omega, h⟩
    · rintro ⟨_, _, h⟩
      refine ⟨h1, h2, ?_⟩
      rw [overlap_iff, m1, m2]
      exact h

/-- At each of the first hundred places the call's result is the row that the reference ranks there: its edges and its score after suppression. -/
theorem places (hm : Matches x v B l) (anti : ∀ i j : Fin 1000, i ≤ j → v j ≤ v i) (h100 : ∀ i : Fin 1000, i.val < 100 → 0 < v i)
    {σ : Fin 1000 → Fin 1000} (hσ : Ranks σ (after v B l)) (t : Fin 1000) (ht : t.val < 100) :
    (∀ k : Fin 4, nmsOut (F := Ideal) x (ix2 ⟨t.val, by omega⟩ ⟨k.val, by omega⟩) = B (σ t) k) ∧ nmsOut (F := Ideal) x (ix2 ⟨t.val, by omega⟩ 4) = after v B l (σ t) := by
  have hk := keep_iff x v B l hm
  obtain ⟨hpos, hval, hpad⟩ := hm
  have hkp : ∀ i : Fin 1000, keep x i.val → 0 < v i := fun i h => by
    obtain ⟨_, hp⟩ := ((kept_iff _ _ _).1 h).1
    exact (hpos i).1 hp
  have hσ' : Ranks σ fun i => if keep x i.val then v i else ((-(1 : ℝ) : ℝ) : EReal) := by
    have : (fun i : Fin 1000 => if keep x i.val then v i else ((-(1 : ℝ) : ℝ) : EReal)) = after v B l := by
      funext i
      exact if_congr (hk i.val i.isLt) rfl rfl
    rw [this]
    exact hσ
  have hpl : ∀ t, place 1000 (keep x) (σ t).val = t.val := fun t => place_rank (K := keep x) hkp anti (EReal.coe_nonpos.2 (by norm_num)) hσ' t
  have hr : (σ t).val < 1024 := by omega
  have hout := nmsOut_at x (fun i hi hv => hpad ⟨i, hv.1⟩ hi hv.2) ⟨t.val, by omega⟩ ⟨(σ t).val, hr⟩ (σ t).isLt (fun i hi => by
    obtain ⟨t', ht'⟩ := hσ.1.2 ⟨i, hi⟩
    have hi' : (σ t').val = i := congrArg Fin.val ht'
    rw [← hi', hpl t']
    constructor
    · intro h
      rw [Fin.ext (a := t') (b := t) h]
    · intro h
      exact congrArg Fin.val (hσ.1.1 (Fin.ext h)))
  have hp : 0 < v (σ t) := by
    by_cases h : keep x (σ t).val
    · exact hkp _ h
    · have := hpl t
      unfold place at this
      rw [if_neg h] at this
      have h1 : Nat.count (keep x) (σ t).val ≤ Nat.count (keep x) 1000 := Nat.count_monotone _ (σ t).isLt.le
      have h2 : Nat.count (keep x) (σ t).val + Nat.count (fun j => ¬ keep x j) (σ t).val = (σ t).val := by
        rw [Nat.count_eq_card_filter_range, Nat.count_eq_card_filter_range]
        simpa using Finset.card_filter_add_card_filter_not (s := Finset.range (σ t).val) (keep x)
      exact h100 _ (by omega)
  obtain ⟨e4, eB, _⟩ := hval (σ t) hp
  constructor
  · intro k
    rw [hout]
    unfold rowOut
    rw [if_pos k.isLt]
    exact congrFun eB k
  · rw [hout]
    unfold rowOut after
    rw [if_neg (by decide), if_pos (by decide)]
    exact if_congr (hk _ (σ t).isLt) e4 rfl

end Cert.Proof.Agree

end
-- ==== Proof.KerRows.lean ====
/-
  What the kernel's buffers hold between its two calls, entry by entry, in terms of the arguments.
-/
module

public import proofs.«01_k».proof.Proof.KerTail
public import proofs.«01_k».proof.Proof.Match
public import proofs.«01_k».proof.Proof.Agree

@[expose] public section

set_option maxRecDepth 16384

noncomputable section

namespace Cert.Proof.KerRows

open Cert.KernelIdeal Cert.KernelIdeal.Gen Cert.Proof.Run Cert.Proof.Spec Cert.Proof.Boxes Cert.Proof.Sorting Cert.Proof.Bodies Cert.Proof.DecodeValues Cert.Proof.Extract Cert.Proof.Match
open Idealize.ShloMosaic Idealize.ShloMosaic.TcCoe Idealize.ShloMosaic.Tactic Idealize.ShloMosaic.StableHlo

open Classical

section Reads

variable (V : Valuation τ sig (Elt Ideal))

/-- The four columns of offsets that the decode call reads are every fourth column of the regressions. -/
theorem off0 (r : Fin 5000) (c : Fin 91) : (after (hostOps0 (F := Ideal)) V (Proc.devRef .tc main_v2) : FVec Ideal S5000x91 .f32) (ix2 r c) = (V (Proc.devRef .tc main_arg1) : FVec Ideal S5000x364 .f32) (ix2 r ⟨c.val * 4, by omega⟩) := by
  after_reads_at
/-- The second offsets are the regression's columns 1, 5, 9 and so on. -/
theorem off1 (r : Fin 5000) (c : Fin 91) : (after (hostOps0 (F := Ideal)) V (Proc.devRef .tc main_v4) : FVec Ideal S5000x91 .f32) (ix2 r c) = (V (Proc.devRef .tc main_arg1) : FVec Ideal S5000x364 .f32) (ix2 r ⟨c.val * 4 + 1, by omega⟩) := by
  after_reads_at
/-- The third offsets are the regression's columns 2, 6, 10 and so on. -/
theorem off2 (r : Fin 5000) (c : Fin 91) : (after (hostOps0 (F := Ideal)) V (Proc.devRef .tc main_v6) : FVec Ideal S5000x91 .f32) (ix2 r c) = (V (Proc.devRef .tc main_arg1) : FVec Ideal S5000x364 .f32) (ix2 r ⟨c.val * 4 + 2, by omega⟩) := by
  after_reads_at
/-- The fourth offsets are the regression's columns 3, 7, 11 and so on. -/
theorem off3 (r : Fin 5000) (c : Fin 91) : (after (hostOps0 (F := Ideal)) V (Proc.devRef .tc main_v8) : FVec Ideal S5000x91 .f32) (ix2 r c) = (V (Proc.devRef .tc main_arg1) : FVec Ideal S5000x364 .f32) (ix2 r ⟨c.val * 4 + 3, by omega⟩) := by
  after_reads_at

end Reads

variable (hs : Settles Ideal) (m : (ℓ : Loc nD τ sig) → Buf (Elt Ideal) ℓ) (c : Dev nD)

/-- The class logits. -/
abbrev L : FVec Ideal S5000x91 .f32 := m (c, Proc.devRef .tc main_arg0)
/-- The box regression. -/
abbrev R : FVec Ideal S5000x364 .f32 := m (c, Proc.devRef .tc main_arg1)
/-- The proposals. -/
abbrev Q : FVec Ideal S5000x4 .f32 := m (c, Proc.devRef .tc main_arg2)

/-- The first call finds the class logits unchanged. -/
theorem arg0_eq : contA m c main_arg0 = L m c := V1_of m c main_arg0 (by decide)
/-- The first call finds the proposals unchanged. -/
theorem arg2_eq : contA m c main_arg2 = Q m c := V1_of m c main_arg2 (by decide)

/-- The scores the extraction starts from. -/
theorem work_eq (r : Fin 5000) (a : Fin 91) : (decWork (contA m c main_arg0) (contA m c main_v2) (contA m c main_v4) (contA m c main_v6) (contA m c main_v8) (contA m c main_arg2) : FVec Ideal S5000x91 .f32) (ix2 r a)
    = start (L m c) (R m c) (Q m c) r a := by
  rw [arg0_eq, arg2_eq]
  unfold decWork
  exact work_at (L m c) (R m c) (Q m c) _ _ _ _ _ r a
    (box0 (R m c) (Q m c) _ _ (off0 (V0 m c)) (off2 (V0 m c)) r a) (box1 (R m c) (Q m c) _ _ (off1 (V0 m c)) (off3 (V0 m c)) r a)
    (box2 (R m c) (Q m c) _ _ (off0 (V0 m c)) (off2 (V0 m c)) r a) (box3 (R m c) (Q m c) _ _ (off1 (V0 m c)) (off3 (V0 m c)) r a)

/-- The contents after the decode call. -/
abbrev X : Valuation τ sig (Elt Ideal) := V2 m (outs hs m) c

section Results

variable (o : Outs (F := Ideal))

/-- After the first call its result 0 is what the call wrote. -/
theorem V2_0 : V2 m o c main_v9_0 = o 2 main_v9_0 c := by
  unfold V2
  rw [Function.update_of_ne (StableHlo.devRef_ne_of_ne (by decide)), Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)), Function.update_self]
/-- After the first call its result 1 is what the call wrote. -/
theorem V2_1 : V2 m o c main_v9_1 = o 2 main_v9_1 c := by
  unfold V2
  rw [Function.update_of_ne (StableHlo.devRef_ne_of_ne (by decide)), Function.update_of_ne (StableHlo.devRef_ne_of_ne (by decide)), Function.update_of_ne (StableHlo.devRef_ne_of_ne (by decide)),
    Function.update_of_ne (StableHlo.devRef_ne_of_ne (by decide)), Function.update_self]
/-- After the first call its result 2 is what the call wrote. -/
theorem V2_2 : V2 m o c main_v9_2 = o 2 main_v9_2 c := by
  unfold V2
  rw [Function.update_of_ne (StableHlo.devRef_ne_of_ne (by decide)), Function.update_of_ne (StableHlo.devRef_ne_of_ne (by decide)), Function.update_of_ne (StableHlo.devRef_ne_of_ne (by decide)), Function.update_self]
/-- After the first call its result 3 is what the call wrote. -/
theorem V2_3 : V2 m o c main_v9_3 = o 2 main_v9_3 c := by
  unfold V2
  rw [Function.update_of_ne (StableHlo.devRef_ne_of_ne (by decide)), Function.update_of_ne (StableHlo.devRef_ne_of_ne (by decide)), Function.update_self]
/-- After the first call its result 4 is what the call wrote. -/
theorem V2_4 : V2 m o c main_v9_4 = o 2 main_v9_4 c := by
  unfold V2
  rw [Function.update_of_ne (StableHlo.devRef_ne_of_ne (by decide)), Function.update_self]
/-- After the first call its result 5 is what the call wrote. -/
theorem V2_5 : V2 m o c main_v9_5 = o 2 main_v9_5 c := by
  unfold V2
  rw [Function.update_self]

end Results

/-- The slots hold the values that the extraction took. -/
theorem slots_eq (s : Fin 100000) : KerTail.slots (X hs m c) (ix1 s) = slotVal (L m c) (R m c) (Q m c) s := by
  refine (KerTail.slots_at (X hs m c) s).trans ?_
  refine (congrFun ((V2_0 m c _).trans (decode_value_0 hs m c)) _).trans ?_
  refine (extracted_at _ (start (L m c) (R m c) (Q m c) (slotRow s)) (slotRow s) (work_eq m c (slotRow s)) ⟨s.val % 20, by omega⟩).1.trans ?_
  exact (slots_spec (L m c) (R m c) (Q m c) (slotRow s)).1 (s.val % 20) (by omega)

/-- Where a slot's class is not the background, its index is that of its candidate. -/
theorem ids_eq (s : Fin 100000) (h : (slotCls (L m c) (R m c) (Q m c) s).val ≠ 0) : KerTail.slotIds (X hs m c) (ix1 s) = BitVec.ofNat 32 (cand (L m c) (R m c) (Q m c) s).val := by
  refine (KerTail.slotIds_at (X hs m c) s).trans ?_
  refine (congrFun ((V2_1 m c _).trans (decode_value_1 hs m c)) _).trans ?_
  refine (extracted_at _ (start (L m c) (R m c) (Q m c) (slotRow s)) (slotRow s) (work_eq m c (slotRow s)) ⟨s.val % 20, by omega⟩).2.trans ?_
  show IntOp.addi (IntOp.muli (BitVec.ofNat 32 (s.val / 20)) 90#32) (IntOp.subi (BitVec.ofNat 32 (slotCls (L m c) (R m c) (Q m c) s).val) 1#32) = BitVec.ofNat 32 (s.val / 20 * 90 + ((slotCls (L m c) (R m c) (Q m c) s).val - 1))
  generalize (slotCls (L m c) (R m c) (Q m c) s) = a at h
  have ha := a.isLt
  have hsl := s.isLt
  apply BitVec.eq_of_toNat_eq
  simp only [IntOp.addi, IntOp.muli, IntOp.subi, BitVec.toNat_add, BitVec.toNat_mul, BitVec.toNat_sub, BitVec.toNat_ofNat]
  omega

/-- The flat boxes are the decoded ones. -/
theorem flat_eq (f : Fin 450000) (k : Fin 4) : KerTail.flatBox (X hs m c) (ix2 f k) = box (R m c) (Q m c) (rowOf f) (colOf f) k := by
  match k with
  | 0 => exact (KerTail.flat0 (X hs m c) f).trans ((congrFun ((V2_2 m c _).trans ((decode_value_2 hs m c).trans (by rw [arg2_eq]))) _).trans (box0 (R m c) (Q m c) _ _ (off0 (V0 m c)) (off2 (V0 m c)) (rowOf f) (colOf f)))
  | 1 => exact (KerTail.flat1 (X hs m c) f).trans ((congrFun ((V2_3 m c _).trans ((decode_value_3 hs m c).trans (by rw [arg2_eq]))) _).trans (box1 (R m c) (Q m c) _ _ (off1 (V0 m c)) (off3 (V0 m c)) (rowOf f) (colOf f)))
  | 2 => exact (KerTail.flat2 (X hs m c) f).trans ((congrFun ((V2_4 m c _).trans ((decode_value_4 hs m c).trans (by rw [arg2_eq]))) _).trans (box2 (R m c) (Q m c) _ _ (off0 (V0 m c)) (off2 (V0 m c)) (rowOf f) (colOf f)))
  | 3 => exact (KerTail.flat3 (X hs m c) f).trans ((congrFun ((V2_5 m c _).trans ((decode_value_5 hs m c).trans (by rw [arg2_eq]))) _).trans (box3 (R m c) (Q m c) _ _ (off1 (V0 m c)) (off3 (V0 m c)) (rowOf f) (colOf f)))

/-- The block the suppression call reads. -/
abbrev block : FVec Ideal S1024x8 .f32 := V5 m (outs hs m) c (Proc.devRef .tc main_v66)

/-- Its rows, for the ranking `σ` of the slots: a row's score is its slot's, and where that is positive its edges and its label are its candidate's. -/
theorem block_at {σ : Fin 100000 → Fin 100000}
    (hσ : ∀ (i : ℕ) (hi : i < 1000), (KerTail.best (X hs m c)).1 (ix1 ⟨i, hi⟩) = KerTail.slots (X hs m c) (ix1 (σ ⟨i, by omega⟩)) ∧ (KerTail.best (X hs m c)).2 (ix1 ⟨i, hi⟩) = BitVec.ofNat 32 (σ ⟨i, by omega⟩).val)
    (i : Fin 1000) :
    block hs m c (ix2 ⟨i.val, by omega⟩ 4) = slotVal (L m c) (R m c) (Q m c) (σ ⟨i.val, by omega⟩) ∧
    (0 < slotVal (L m c) (R m c) (Q m c) (σ ⟨i.val, by omega⟩) →
      (∀ k : Fin 4, block hs m c (ix2 ⟨i.val, by omega⟩ ⟨k.val, by omega⟩) = box (R m c) (Q m c) (rowOf (cand (L m c) (R m c) (Q m c) (σ ⟨i.val, by omega⟩))) (colOf (cand (L m c) (R m c) (Q m c) (σ ⟨i.val, by omega⟩))) k) ∧
      block hs m c (ix2 ⟨i.val, by omega⟩ 5) = FloatOps.sitofp (F := Ideal) .f32 (BitVec.ofNat 32 (colOf (cand (L m c) (R m c) (Q m c) (σ ⟨i.val, by omega⟩))).val)) := by
  obtain ⟨h1, h2⟩ := hσ i.val i.isLt
  refine ⟨?_, fun hp => ?_⟩
  · exact (KerTail.row4 (KerTail.mid (X hs m c)) i).trans ((KerTail.values_at (X hs m c) i).trans (h1.trans (slots_eq hs m c _)))
  · have hid := (KerTail.ids_at (X hs m c) i _ h2).trans (ids_eq hs m c _ ((slot_pos _ _ _ _).1 hp).1)
    generalize cand (L m c) (R m c) (Q m c) (σ ⟨i.val, by omega⟩) = f at hid
    have hb : ∀ k : Fin 4, (KerTail.mid (X hs m c) (Proc.devRef .tc main_v32) : FVec Ideal S1000x4 .f32) (ix2 i k) = box (R m c) (Q m c) (rowOf f) (colOf f) k := fun k =>
      (congrFun (KerTail.v32_eq (X hs m c)) _).trans ((KerTail.gBox_at (X hs m c) i f hid k).trans (flat_eq hs m c f k))
    refine ⟨fun k => ?_, ?_⟩
    · match k with
      | 0 => exact (KerTail.row0 (KerTail.mid (X hs m c)) i).trans (hb 0)
      | 1 => exact (KerTail.row1 (KerTail.mid (X hs m c)) i).trans (hb 1)
      | 2 => exact (KerTail.row2 (KerTail.mid (X hs m c)) i).trans (hb 2)
      | 3 => exact (KerTail.row3 (KerTail.mid (X hs m c)) i).trans (hb 3)
    · refine (KerTail.row5 (KerTail.mid (X hs m c)) i).trans ?_
      rw [KerTail.v33_at (X hs m c) i f hid]
      refine congrArg (FloatOps.sitofp (F := Ideal) .f32) ?_
      show BitVec.ofNat 32 (f.val % 90) + 1#32 = BitVec.ofNat 32 (1 + f.val % 90)
      rw [Nat.add_comm]
      exact (BitVec.ofNat_add _ _).symm

/-- The padding rows of the block have no positive score. -/
theorem block_pad (i : Fin 1024) (hi : 1000 ≤ i.val) : ¬ 0 < block hs m c (ix2 i 4) := by
  rw [show block hs m c (ix2 i 4) = _ from KerTail.row4_pad (KerTail.mid (X hs m c)) i hi, Suppress.lit_neg_one]
  exact not_lt.2 (EReal.coe_nonpos.2 (by norm_num))

/-- The kernel's result is the first hundred rows and five columns of what the suppression call leaves of the block. -/
theorem result_at (t : Fin 100) (a : Fin 5) : (V7 m (outs hs m) c (Proc.devRef .tc main_v68) : FVec Ideal S100x5 .f32) (ix2 t a) = nmsOut (F := Ideal) (block hs m c) (ix2 ⟨t.val, by omega⟩ ⟨a.val, by omega⟩) := by
  refine (KerTail.out_at (V6 m (outs hs m) c) t a).trans ?_
  have : V6 m (outs hs m) c (Proc.devRef .tc main_v67) = nmsOut (F := Ideal) (block hs m c) := by
    unfold V6
    rw [Function.update_self, nms_value, ← V5_outs]
  exact congrFun this _

end Cert.Proof.KerRows

end
-- ==== Proof.RefTail.lean ====
module

public import proofs.«01_k».proof.Proof.Gen.ReferenceIdeal.Run
public import proofs.«01_k».proof.Proof.Boxes
public import proofs.«01_k».proof.Proof.Sorting
public import Idealize.ShloMosaic.Lib.StableHlo.ReadAt
public import Idealize.ShloMosaic.Lib.Pointwise
public import Idealize.ShloMosaic.Lib.WordCmp
public import Idealize.ShloMosaic.Lib.Routing.OpsSet
public import Idealize.ShloMosaic.Lib.Tactic.CleanTypes

@[expose] public section

set_option maxRecDepth 16384

noncomputable section

namespace Cert.Proof.RefTail

open Cert.ReferenceIdeal Cert.ReferenceIdeal.Gen Cert.ReferenceIdeal.Value Cert.Proof.Boxes Cert.Proof.Spec Cert.Proof.Sorting
open Idealize.ShloMosaic Idealize.ShloMosaic.TcCoe Idealize.ShloMosaic.Tactic Idealize.ShloMosaic.StableHlo

open Classical

variable (W : Valuation τ sig (Elt Ideal))

/-- The contents at the loop's entry, from those where the candidates have been masked. -/
abbrev ready : Valuation τ sig (Elt Ideal) := after (hostOps0_12 (F := Ideal)) (after hostOps0_11 (after hostOps0_10 W))

/-- The masked scores. -/
abbrev msk : FVec Ideal S450000 .f32 := W (Proc.devRef .tc main_v133)

/-- The first ranking: the thousand best masked scores and their positions. -/
abbrev best := Host.topK S1000 0 (FloatOps.cmpfTotal (F := Ideal) .gt) (msk W) sliceFits_S450000_S1000

/-- The positions, a negative one counted from the end. -/
def rows : IVec S1000x1 32 := broadcastInDim S1000x1 ![0] bcast_S1000_S1000x1_0
  (select (cmpi .slt (best W).2 (broadcastInDim S1000 ![] bcast_S_S1000 (constantI S_ 32 0#32)))
    (addi (best W).2 (broadcastInDim S1000 ![] bcast_S_S1000 (constantI S_ 32 450000#32))) (best W).2)

/-- The boxes of the best candidates. -/
def gBox : FVec Ideal S1000x4 .f32 := Host.gather gather_S450000x4_S1000x1_S1000x4_1_0_n_n_0_1_14 (W (Proc.devRef .tc main_v112)) (rows W)
/-- The labels of the best candidates. -/
def gLab : IVec S1000 32 := Host.gather gather_S450000_S1000x1_S1000_n_0_n_n_0_1_1 (W (Proc.devRef .tc main_v114)) (rows W)

/-- An index that is not negative is left as it is. -/
theorem norm_index (n f : ℕ) (hf : f < 2 ^ 31) (w : BitVec 32) (h : w = BitVec.ofNat 32 f) : Scalar.select (IntOp.cmpi .slt w 0#32) (IntOp.addi w (BitVec.ofNat 32 n)) w = BitVec.ofNat 32 f := by
  subst h
  have hn : (BitVec.ofNat 32 f).toInt = (f : ℤ) := WordCmp.toInt_ofNat_of_lt hf
  have hlt : IntOp.cmpi .slt (BitVec.ofNat 32 f) 0#32 = 0#1 := by
    simp only [IntOp.cmpi, BitVec.slt, hn]
    rw [show (0#32 : BitVec 32).toInt = 0 from rfl, decide_eq_false (by omega)]
    rfl
  rw [hlt]
  rfl

/-- The row index of rank `i`. -/
theorem rows_at (i : Fin 1000) (f : Fin 450000) (h : (best W).2 (ix1 i) = BitVec.ofNat 32 f.val) : rows W (ix2 i 0) = BitVec.ofNat 32 f.val := by
  unfold rows
  pointwise
  exact norm_index 450000 f.val (by omega) _ h

/-- The gathered box of rank `i` is that of its candidate. -/
theorem gBox_at (i : Fin 1000) (f : Fin 450000) (h : (best W).2 (ix1 i) = BitVec.ofNat 32 f.val) (k : Fin 4) :
    gBox W (ix2 i k) = (W (Proc.devRef .tc main_v112) : FVec Ideal S450000x4 .f32) (ix2 f k) :=
  Routing.gather_row gather_S450000x4_S1000x1_S1000x4_1_0_n_n_0_1_14 rfl rfl rfl rfl rfl _ (rows W) i k f (rows_at W i f h) (by decide)

/-- The gathered label of rank `i` is that of its candidate. -/
theorem gLab_at (i : Fin 1000) (f : Fin 450000) (h : (best W).2 (ix1 i) = BitVec.ofNat 32 f.val) :
    gLab W (ix1 i) = (W (Proc.devRef .tc main_v114) : IVec S450000 32) (ix1 f) :=
  Routing.gather_take1 gather_S450000_S1000x1_S1000_n_0_n_n_0_1_1 rfl rfl rfl rfl _ (rows W) i f (rows_at W i f h) (by decide)

/-- The scores that the loop starts from. -/
theorem values_at (i : Fin 1000) : (ready W (Proc.devRef .tc main_values) : FVec Ideal S1000 .f32) (ix1 i) = (best W).1 (ix1 i) := by
  after_reads_at

/-- The boxes that the loop starts from. -/
theorem boxes_eq : (ready W (Proc.devRef .tc main_v140) : FVec Ideal S1000x4 .f32) = gBox W := by
  after_reads_simp
  rfl

/-- Classes are set apart by 801. -/
theorem lit_801 : max (Ideal.ofBits .f32 0x44480000#32) (Ideal.ofBits .f32 0x44480000#32) + 1 = ((801 : ℝ) : EReal) := by
  rw [max_self, show Ideal.ofBits .f32 0x44480000#32 = ((800 : ℝ) : EReal) by simp [Ideal.ofBits, Ideal.ieee, -EReal.coe_mul, -EReal.coe_neg]; norm_num,
    ← EReal.coe_one, ← EReal.coe_add]
  norm_num

/-- The flags of positive scores. -/
theorem pos_at (i : Fin 1000) : (ready W (Proc.devRef .tc main_v213_2) : IVec S1000 1) (ix1 i) = BitVec.ofBool (decide ((0 : EReal) < (best W).1 (ix1 i))) := by
  after_reads_at
  simp only [id_eq]
  pointwise
/-- The loop's row of positions. -/
theorem iota_at (i : Fin 1000) : (ready W (Proc.devRef .tc main_v213_1) : IVec S1000 32) (ix1 i) = BitVec.ofNat 32 i.val := by
  after_reads_at
  simp only [id_eq]
  pointwise
/-- The loop's counter starts at zero. -/
theorem idx_at : (ready W (Proc.devRef .tc main_v213_4) : IVec S_ 32) ix0 = 0#32 := by
  after_reads_at
  simp only [id_eq]
  pointwise
/-- No candidate is kept at the start. -/
theorem keep_at (i : Fin 1000) : (ready W (Proc.devRef .tc main_v213_5) : IVec S1000 1) (ix1 i) = 0#1 := by
  after_reads_at
  simp only [id_eq]
  pointwise

/-- A gathered box moved by its label. -/
def moved (B : FVec Ideal S1000x4 .f32) (l : IVec S1000 32) (i : Fin 1000) : Fin 4 → EReal := shifted (fun k => B (ix2 i k)) (FloatOps.sitofp (F := Ideal) .f32 (l (ix1 i)) : EReal)

/-- The intersection with zero written first. -/
theorem inter_eq (p q : Fin 4 → EReal) : inter p q = max 0 (min (p 2) (q 2) - max (p 0) (q 0)) * max 0 (min (p 3) (q 3) - max (p 1) (q 1)) := by
  unfold inter
  rw [max_comm, max_comm _ (0 : EReal)]

/-- The matrix holds the overlap of the moved boxes. -/
theorem iou_at (i j : Fin 1000) : (ready W (Proc.devRef .tc main_v213_0) : FVec Ideal S1000x1000 .f32) (ix2 i j) = iou (moved (gBox W) (gLab W) i) (moved (gBox W) (gLab W) j) := by
  have key : ∀ (B : FVec Ideal S1000x4 .f32) (l : IVec S1000 32), B = gBox W → l = gLab W →
      (ready W (Proc.devRef .tc main_v213_0) : FVec Ideal S1000x1000 .f32) (ix2 i j) = iou (moved B l i) (moved B l j) := by
    intro B l hB hl
    unfold gBox rows at hB
    unfold gLab rows at hl
    after_reads_simp
    simp only [id_eq, ← hB, ← hl]
    clear hB hl
    clean_types
    simp -implicitDefEqProofs only [StableHlo.TRef.toBuf, StableHlo.TRef.ofBuf, cast_cast, cast_eq]
    pointwise
    simp only [lit_801, iou, inter_eq, area, moved, shifted]
  exact key _ _ rfl rfl

/-- The second ranking's scores: those of the positions that are kept, the others at `-1`. -/
def final (X : Valuation τ sig (Elt Ideal)) : FVec Ideal S1000 .f32 :=
  select (X (Proc.devRef .tc main_v213_5)) (X (Proc.devRef .tc main_values)) (broadcastInDim S1000 ![] bcast_S_S1000 (constant S_ .f32 0xBF800000#32))

/-- The second ranking: the hundred best of those scores and their positions. -/
abbrev best2 (X : Valuation τ sig (Elt Ideal)) := Host.topK S100 0 (FloatOps.cmpfTotal (F := Ideal) .gt) (final X) sliceFits_S1000_S100

/-- The indices of the last selection, one per row. -/
def rows2 (X : Valuation τ sig (Elt Ideal)) : IVec S100x1 32 := broadcastInDim S100x1 ![0] bcast_S100_S100x1_0
  (select (cmpi .slt (best2 X).2 (broadcastInDim S100 ![] bcast_S_S100 (constantI S_ 32 0#32)))
    (addi (best2 X).2 (broadcastInDim S100 ![] bcast_S_S100 (constantI S_ 32 1000#32))) (best2 X).2)

/-- The row index of result row `t`. -/
theorem rows2_at (X : Valuation τ sig (Elt Ideal)) (t : Fin 100) (r : Fin 1000) (h : (best2 X).2 (ix1 t) = BitVec.ofNat 32 r.val) : rows2 X (ix2 t 0) = BitVec.ofNat 32 r.val := by
  unfold rows2
  pointwise
  exact norm_index 1000 r.val (by omega) _ h

/-- The contents at the program's end, from those where the loop ends. -/
abbrev done (X : Valuation τ sig (Elt Ideal)) : Valuation τ sig (Elt Ideal) := after (hostOps0_15 (F := Ideal)) (after hostOps0_14 (after hostOps0_13 X))

/-- The first four columns of the result are gathered boxes. -/
theorem done_raw (X : Valuation τ sig (Elt Ideal)) (t : Fin 100) (k : Fin 4) : (done X (Proc.devRef .tc main_v223) : FVec Ideal S100x5 .f32) (ix2 t ⟨k.val, by omega⟩)
    = Host.gather gather_S1000x4_S100x1_S100x4_1_0_n_n_0_1_14 (X (Proc.devRef .tc main_v140) : FVec Ideal S1000x4 .f32) (rows2 X) (ix2 t k) := by
  fin_cases k
  all_goals
    unfold rows2 best2 final
    after_reads_at
    rfl

/-- The boxes of the result are the gathered boxes of the second ranking's positions. -/
theorem done_box (X : Valuation τ sig (Elt Ideal)) (t : Fin 100) (r : Fin 1000) (h : (best2 X).2 (ix1 t) = BitVec.ofNat 32 r.val) (k : Fin 4) :
    (done X (Proc.devRef .tc main_v223) : FVec Ideal S100x5 .f32) (ix2 t ⟨k.val, by omega⟩) = (X (Proc.devRef .tc main_v140) : FVec Ideal S1000x4 .f32) (ix2 r k) := by
  rw [done_raw]
  exact Routing.gather_row gather_S1000x4_S100x1_S100x4_1_0_n_n_0_1_14 rfl rfl rfl rfl rfl _ (rows2 X) t k r (rows2_at X t r h) (by decide)

/-- The scores of the result are the second ranking's. -/
theorem done_score (X : Valuation τ sig (Elt Ideal)) (t : Fin 100) : (done X (Proc.devRef .tc main_v223) : FVec Ideal S100x5 .f32) (ix2 t 4) = (best2 X).1 (ix1 t) := by
  unfold best2 final
  after_reads_at
  rfl

/-- The score of a kept candidate, −1 of another. -/
theorem final_at (X : Valuation τ sig (Elt Ideal)) (i : Fin 1000) : final X (ix1 i) =
    Scalar.select ((X (Proc.devRef .tc main_v213_5) : IVec S1000 1) (ix1 i)) ((X (Proc.devRef .tc main_values) : FVec Ideal S1000 .f32) (ix1 i)) (Ideal.ofBits .f32 0xBF800000#32) := by
  unfold final
  pointwise

end Cert.Proof.RefTail

end
-- ==== Proof.RefValues.lean ====
module

public import proofs.«01_k».proof.Proof.Gen.ReferenceIdeal.Run
public import proofs.«01_k».proof.Proof.Boxes
public import proofs.«01_k».proof.Proof.Sorting
public import Idealize.ShloMosaic.Lib.StableHlo.ReadAt
public import Idealize.ShloMosaic.Lib.Pointwise

@[expose] public section

set_option maxRecDepth 16384

noncomputable section

namespace Cert.Proof.RefValues

open Cert.ReferenceIdeal Cert.ReferenceIdeal.Gen Cert.ReferenceIdeal.Value Cert.Proof.Boxes Cert.Proof.Spec Cert.Proof.Sorting
open Idealize.ShloMosaic Idealize.ShloMosaic.TcCoe Idealize.ShloMosaic.Tactic Idealize.ShloMosaic.StableHlo

open Classical

variable (V : Valuation τ sig (Elt Ideal))

/-- The contents when the candidates have been scored and masked. -/
abbrev scored : Valuation τ sig (Elt Ideal) :=
  after (hostOps0_9 (F := Ideal)) (after hostOps0_8 (after hostOps0_7 (after hostOps0_6 (after hostOps0_5 (after hostOps0_4 (after hostOps0_3 (after hostOps0_2 (after hostOps0_1 (after hostOps0 V)))))))))

/-- The class logits. -/
abbrev L : FVec Ideal S5000x91 .f32 := V (Proc.devRef .tc main_arg0)
/-- The box regression. -/
abbrev R : FVec Ideal S5000x364 .f32 := V (Proc.devRef .tc main_arg1)
/-- The proposals. -/
abbrev Q : FVec Ideal S5000x4 .f32 := V (Proc.devRef .tc main_arg2)

/-- The word of a masked score is −1. -/
theorem lit_neg_one : Ideal.ofBits .f32 0xBF800000#32 = ((-(1 : ℝ) : ℝ) : EReal) := by
  simp [Ideal.ofBits, Ideal.ieee, -EReal.coe_mul, -EReal.coe_neg]; norm_num

/-- A selection under three conditions. -/
theorem select_and3 (p q s : Prop) [Decidable p] [Decidable q] [Decidable s] (x y : EReal) :
    Scalar.select (IntOp.andi (IntOp.andi (BitVec.ofBool (decide p)) (BitVec.ofBool (decide q))) (BitVec.ofBool (decide s))) x y = if p ∧ q ∧ s then x else y := by
  by_cases hp : p <;> by_cases hq : q <;> by_cases hs : s <;> simp [hp, hq, hs, Scalar.select, IntOp.andi]

/-- The clipped boxes of the flattened candidates. -/
theorem box_at0 (f : Fin 450000) : (scored V (Proc.devRef .tc main_v112) : FVec Ideal S450000x4 .f32) (ix2 f 0) = box (R V) (Q V) (rowOf f) (colOf f) 0 := by
  after_reads_at
  after_reads_at
  after_reads_at
  simp only [id_eq]
  pointwise
  rfl
/-- The top edge of candidate `f`. -/
theorem box_at1 (f : Fin 450000) : (scored V (Proc.devRef .tc main_v112) : FVec Ideal S450000x4 .f32) (ix2 f 1) = box (R V) (Q V) (rowOf f) (colOf f) 1 := by
  after_reads_at
  after_reads_at
  after_reads_at
  simp only [id_eq]
  pointwise
  rfl
/-- The right edge of candidate `f`. -/
theorem box_at2 (f : Fin 450000) : (scored V (Proc.devRef .tc main_v112) : FVec Ideal S450000x4 .f32) (ix2 f 2) = box (R V) (Q V) (rowOf f) (colOf f) 2 := by
  after_reads_at
  after_reads_at
  after_reads_at
  simp only [id_eq]
  pointwise
  rfl
/-- The bottom edge of candidate `f`. -/
theorem box_at3 (f : Fin 450000) : (scored V (Proc.devRef .tc main_v112) : FVec Ideal S450000x4 .f32) (ix2 f 3) = box (R V) (Q V) (rowOf f) (colOf f) 3 := by
  after_reads_at
  after_reads_at
  after_reads_at
  simp only [id_eq]
  pointwise
  rfl
/-- Every edge of candidate `f`. -/
theorem box_at (f : Fin 450000) (k : Fin 4) : (scored V (Proc.devRef .tc main_v112) : FVec Ideal S450000x4 .f32) (ix2 f k) = box (R V) (Q V) (rowOf f) (colOf f) k := by
  match k with
  | 0 => exact box_at0 V f
  | 1 => exact box_at1 V f
  | 2 => exact box_at2 V f
  | 3 => exact box_at3 V f

/-- The row maximum of the softmax. -/
theorem max_top (L : FVec Ideal S5000x91 .f32) (r : Fin 5000) : max (Ideal.ofBits .f32 0xFF800000#32)
    ((Finset.univ : Finset (Fin 91)).fold max (Ideal.ofBits .f32 0xFF800000#32) fun x => L (ix2 r x)) = top L r := by
  refine max_eq_right ?_
  rw [show Ideal.ofBits .f32 0xFF800000#32 = ⊥ by simp [Ideal.ofBits, Ideal.ieee]]
  exact bot_le

/-- The scores of the flattened candidates. -/
theorem score_at (f : Fin 450000) : (scored V (Proc.devRef .tc main_v113) : FVec Ideal S450000 .f32) (ix1 f) = score (L V) (rowOf f) (colOf f) := by
  after_reads_at
  simp only [max_top (L V)]
  rfl

/-- The labels of the flattened candidates. -/
theorem label_at (f : Fin 450000) : (scored V (Proc.devRef .tc main_v114) : IVec S450000 32) (ix1 f) = BitVec.ofNat 32 (colOf f).val := by
  after_reads_at
  exact (BitVec.ofNat_add 1 (f.val % 90)).symm

/-- The flat boxes. -/
abbrev boxes : FVec Ideal S450000x4 .f32 := scored V (Proc.devRef .tc main_v112)
/-- The flat scores. -/
abbrev scores : FVec Ideal S450000 .f32 := scored V (Proc.devRef .tc main_v113)

/-- The masked score from the box's edges and the score. -/
theorem mask_raw (f : Fin 450000) (a b c d s z : EReal) (ha : a = boxes V (ix2 f 0)) (hb : b = boxes V (ix2 f 1)) (hc : c = boxes V (ix2 f 2)) (hd : d = boxes V (ix2 f 3))
    (hs : s = scores V (ix1 f)) (hz : z = Ideal.ofBits .f32 0xBF800000#32) : (scored V (Proc.devRef .tc main_v133) : FVec Ideal S450000 .f32) (ix1 f) =
    Scalar.select (IntOp.andi (IntOp.andi (BitVec.ofBool (decide (Ideal.ofBits .f32 0x3D4CCCCD#32 < s))) (BitVec.ofBool (decide (Ideal.ofBits .f32 0x3C23D70A#32 ≤ c - a))))
      (BitVec.ofBool (decide (Ideal.ofBits .f32 0x3C23D70A#32 ≤ d - b)))) s z := by
  subst ha hb hc hd hs hz
  after_reads_at
  after_reads_at
  after_reads_at
  simp only [id_eq]
  pointwise

/-- The scores with the candidates that do not count at `-1`. -/
theorem mask_at (f : Fin 450000) : (scored V (Proc.devRef .tc main_v133) : FVec Ideal S450000 .f32) (ix1 f) = masked (L V) (R V) (Q V) f := by
  rw [mask_raw V f _ _ _ _ _ _ (box_at V f 0).symm (box_at V f 1).symm (box_at V f 2).symm (box_at V f 3).symm (score_at V f).symm rfl, select_and3, lit_neg_one]
  exact if_congr Iff.rfl rfl rfl

end Cert.Proof.RefValues

end
-- ==== Proof.RefKeep.lean ====
module

public import proofs.«01_k».proof.Proof.Gen.ReferenceIdeal.Run
public import proofs.«01_k».proof.Proof.Boxes
public import proofs.«01_k».proof.Proof.Sorting
public import Idealize.ShloMosaic.Lib.StableHlo.ReadAt
public import Idealize.ShloMosaic.Lib.Pointwise
public import Idealize.ShloMosaic.Lib.WordCmp
public import Idealize.ShloMosaic.Lib.Routing.OpsSet
public import Idealize.ShloMosaic.Lib.Tactic.CleanTypes

@[expose] public section

set_option maxRecDepth 16384

noncomputable section

namespace Cert.Proof.RefKeep

open Cert.ReferenceIdeal Cert.ReferenceIdeal.Gen Cert.ReferenceIdeal.Value Cert.Proof.Boxes Cert.Proof.Spec
open Idealize.ShloMosaic Idealize.ShloMosaic.TcCoe Idealize.ShloMosaic.Tactic Idealize.ShloMosaic.StableHlo

open Classical

/-- A scatter of one entry into a vector. -/
theorem scatter_one (x0 : IVec S1000 1) (idx : IVec S1 32) (u : IVec S_ 1) (i : ℕ) (hi : i < 1000) (h : idx (ix1 0) = BitVec.ofNat 32 i) (j : Fin 1000) :
    Host.scatter scatter_S1000_S1_S__n_0_0_0 (fun _ b => b) x0 idx u (ix1 j) = if j.val = i then u ix0 else x0 (ix1 j) := by
  have hk : ∀ k : S_.Idx, k = ix0 := fun k => funext fun a => a.elim0
  have hs : ∀ k : S_.Idx, scatter_S1000_S1_S__n_0_0_0.resultIdx? k idx = some (ix1 j) ↔ j.val = i := by
    intro k
    refine (Routing.resultIdx?_ix1 scatter_S1000_S1_S__n_0_0_0 k idx j).trans ?_
    have h0 : scatter_S1000_S1_S__n_0_0_0.window k 0 = 0 := by
      unfold ScatterDims.window
      exact dif_neg (by decide)
    have h1 : scatter_S1000_S1_S__n_0_0_0.start k idx 0 = (i : ℤ) := by
      unfold ScatterDims.start
      rw [dif_pos (by decide)]
      have e : ∀ q : S1.Idx, q = ix1 0 := fun q => funext fun a => by
        match a with
        | ⟨0, _⟩ => exact Subsingleton.elim (α := Fin 1) _ _
      rw [e (ScatterDims.siIdx _ _ _), h]
      exact WordCmp.toInt_ofNat_of_lt (by omega)
    rw [h0, h1]
    omega
  by_cases hj : j.val = i
  · rw [if_pos hj]
    exact Routing.scatter_set_hit _ _ _ _ _ _ (fun k _ => by rw [hk k]) ix0 ((hs ix0).2 hj)
  · rw [if_neg hj]
    exact Routing.scatter_set_miss _ _ _ _ _ fun k hc => hj ((hs k).1 hc)

/-- A start within the array is not clamped. -/
theorem clamp1 (h : S1.rank = S1000.rank) (start : Fin 1 → Int) (i : ℕ) (hi : i < 1000) (hs : start 0 = (i : ℤ)) : Host.clampedStart ⟨1, ![1000]⟩ S1 h start 0 = i :=
  Host.clampedStart_of_le (s := ⟨1, ![1000]⟩) (t := S1) h start 0 i hs (by show i + 1 ≤ 1000; omega)

/-- A row start within the matrix is not clamped. -/
theorem clamp2_0 (h : S1x1000.rank = S1000x1000.rank) (start : Fin 2 → Int) (i : ℕ) (hi : i < 1000) (hs : start 0 = (i : ℤ)) : Host.clampedStart ⟨2, ![1000, 1000]⟩ S1x1000 h start 0 = i :=
  Host.clampedStart_of_le (s := ⟨2, ![1000, 1000]⟩) (t := S1x1000) h start 0 i hs (by show i + 1 ≤ 1000; omega)

/-- The column start is zero. -/
theorem clamp2_1 (h : S1x1000.rank = S1000x1000.rank) (start : Fin 2 → Int) (hs : start 1 = 0) : Host.clampedStart ⟨2, ![1000, 1000]⟩ S1x1000 h start 1 = 0 :=
  Host.clampedStart_of_le (s := ⟨2, ![1000, 1000]⟩) (t := S1x1000) h start 1 0 hs (by show 0 + 1000 ≤ 1000; omega)

/-- What one trip writes at its position: the position counts and no earlier kept position overlaps it. -/
def decided (pos keep : IVec S1000 1) (S : FVec Ideal S1000x1000 .f32) (i : ℕ) (hi : i < 1000) : BitVec 1 :=
  IntOp.andi (pos (ix1 ⟨i, hi⟩)) (~~~(Finset.univ : Finset (Fin 1000)).fold IntOp.ori 0#1 fun x =>
    IntOp.andi (IntOp.andi (BitVec.ofBool (decide (Ideal.ofBits .f32 0x3F000000#32 < S (ix2 ⟨i, hi⟩ x)))) (keep (ix1 x))) (IntOp.cmpi .slt (BitVec.ofNat 32 x.val) (BitVec.ofNat 32 i)))

/-- The bit that round `i` computes is the decision on candidate `i`. -/
theorem trip_at (pos keep : IVec S1000 1) (S : FVec Ideal S1000x1000 .f32) (iota : IVec S1000 32) (iv : IVec S_ 32) (s1 : Fin 1 → Int) (s2 : Fin 2 → Int) (i : ℕ) (hi : i < 1000)
    (h1 : s1 0 = (i : ℤ)) (h2 : s2 0 = (i : ℤ)) (h3 : s2 1 = 0) (hiv : iv ix0 = BitVec.ofNat 32 i) (hiota : ∀ j : Fin 1000, iota (ix1 j) = BitVec.ofNat 32 j.val) :
    andi (shapeCast S_ (Host.dynamicSlice S1 pos s1 sliceFits_S1000_S1) shapeCasts_S1_S_)
      (noti (Host.reduce IntOp.ori (andi (andi (cmpf .ogt (shapeCast S1000 (Host.dynamicSlice S1x1000 S s2 sliceFits_S1000x1000_S1x1000) shapeCasts_S1x1000_S1000)
          (broadcastInDim S1000 ![] bcast_S_S1000 (constant S_ .f32 1056964608#32))) keep) (cmpi .slt iota (broadcastInDim S1000 ![] bcast_S_S1000 iv)))
        (constantI S_ 1 0#1) reducesTo_S1000_S_d0 h_S_)) ix0 = decided pos keep S i hi := by
  pointwise
  unfold decided
  refine congrArg₂ IntOp.andi (congrArg pos (congrArg ix1 (Fin.ext ?_)))
    (congrArg (fun b : BitVec 1 => ~~~b) (congrArg (fun g => (Finset.univ : Finset (Fin 1000)).fold IntOp.ori 0#1 g) (funext fun x => ?_)))
  · exact clamp1 rfl _ i hi h1
  · refine congrArg₂ IntOp.andi (congrArg₂ IntOp.andi (congrArg (fun e : EReal => BitVec.ofBool (decide (Ideal.ofBits .f32 0x3F000000#32 < e)))
      (congrArg S (congrArg₂ ix2 (Fin.ext ?_) (Fin.ext ?_)))) rfl) (congrArg₂ (IntOp.cmpi .slt) (hiota x) hiv)
    · exact clamp2_0 rfl _ i hi h2
    · exact (congrArg (· + x.val) (clamp2_1 rfl _ h3)).trans (Nat.zero_add _)

/-- Round `i` writes its decision at `i` and leaves the other flags. -/
theorem step_at (V0 : Valuation τ sig (Elt Ideal)) (i : ℕ) (hi : i < 1000) (hI : (V0 (Proc.devRef .tc main_v213_4) : IVec S_ 32) ix0 = BitVec.ofNat 32 i)
    (hiota : ∀ j : Fin 1000, (V0 (Proc.devRef .tc main_v213_1) : IVec S1000 32) (ix1 j) = BitVec.ofNat 32 j.val) (j : Fin 1000) :
    (step_main_v213_5 V0 : IVec S1000 1) (ix1 j) = if j.val = i then decided (V0 (Proc.devRef .tc main_v213_2)) (V0 (Proc.devRef .tc main_v213_5)) (V0 (Proc.devRef .tc main_v213_0)) i hi
      else (V0 (Proc.devRef .tc main_v213_5) : IVec S1000 1) (ix1 j) := by
  have hn : (BitVec.ofNat 32 i).toInt = (i : ℤ) := WordCmp.toInt_ofNat_of_lt (by omega)
  have hlt : IntOp.cmpi .slt (BitVec.ofNat 32 i) 0#32 = 0#1 := by
    simp only [IntOp.cmpi, BitVec.slt, hn]
    rw [show (0#32 : BitVec 32).toInt = 0 from rfl, decide_eq_false (by omega)]
    rfl
  have hV : (V0 (Proc.devRef .tc main_v213_4) : IVec S_ 32) = fun _ => BitVec.ofNat 32 i := funext fun q => by
    rw [show q = ix0 from funext fun a => a.elim0]; exact hI
  have hs1 : select (cmpi .slt (fun _ => BitVec.ofNat 32 i : IVec S_ 32) (constantI S_ 32 0#32)) (addi (fun _ => BitVec.ofNat 32 i) (constantI S_ 32 1000#32)) (fun _ => BitVec.ofNat 32 i)
      = fun _ => BitVec.ofNat 32 i := funext fun q => by
    show Scalar.select (IntOp.cmpi .slt (BitVec.ofNat 32 i) 0#32) _ (BitVec.ofNat 32 i) = _
    rw [hlt]; rfl
  have hs0 : select (cmpi .slt (constantI S_ 32 0#32) (constantI S_ 32 0#32)) (addi (constantI S_ 32 0#32) (constantI S_ 32 1000#32)) (constantI S_ 32 0#32) = fun _ => 0#32 := funext fun q => rfl
  have key : step_main_v213_5 V0 = Host.scatter scatter_S1000_S1_S__n_0_0_0 (fun _ b => b) (V0 (Proc.devRef .tc main_v213_5)) (fun _ => BitVec.ofNat 32 i)
      (fun _ => decided (V0 (Proc.devRef .tc main_v213_2)) (V0 (Proc.devRef .tc main_v213_5)) (V0 (Proc.devRef .tc main_v213_0)) i hi) := by
    unfold step_main_v213_5 res_main_while0b_v225
    simp only [id_eq]
    rw [hV]
    clean_types
    refine congr (congrArg (Host.scatter scatter_S1000_S1_S__n_0_0_0 (fun _ b => b) (V0 (Proc.devRef .tc main_v213_5)))
      (congrArg (broadcastInDim S1 ![] bcast_S_S1) hs1)) (funext fun q => ?_)
    rw [show q = ix0 from funext fun a => a.elim0]
    exact trip_at _ _ _ _ _ _ _ i hi ((congrArg BitVec.toInt (congrFun hs1 _)).trans hn) ((congrArg BitVec.toInt (congrFun hs1 _)).trans hn) rfl rfl hiota
  rw [key]
  exact scatter_one _ _ _ i hi rfl j

/-- A disjunction of tests over a set is the test that one of them holds. -/
theorem fold_ori {ι : Type} (s : Finset ι) (p : ι → Prop) [DecidablePred p] : s.fold IntOp.ori 0#1 (fun x => BitVec.ofBool (decide (p x))) = BitVec.ofBool (decide (∃ x ∈ s, p x)) := by
  induction s using Finset.induction_on with
  | empty => simp
  | insert a s ha ih =>
    rw [Finset.fold_insert ha, ih]
    by_cases h1 : p a <;> by_cases h2 : ∃ x ∈ s, p x <;> simp [h1, h2, IntOp.ori]

/-- The bit of `p` and not `q`. -/
theorem and_not {p q r : Prop} [Decidable p] [Decidable q] [Decidable r] (h : r ↔ p ∧ ¬ q) :
    IntOp.andi (BitVec.ofBool (decide p)) (~~~BitVec.ofBool (decide q)) = BitVec.ofBool (decide r) := by
  by_cases h1 : p <;> by_cases h2 : q <;> simp [h, h1, h2, IntOp.andi]

/-- One position suppresses another when their overlap exceeds one half. -/
def sup (S : FVec Ideal S1000x1000 .f32) (a b : ℕ) : Prop := ∃ (ha : a < 1000) (hb : b < 1000), Ideal.ofBits .f32 0x3F000000#32 < S (ix2 ⟨a, ha⟩ ⟨b, hb⟩)

/-- With the earlier flags right, the decision on candidate `i` is the greedy rule's. -/
theorem decided_eq (val : ℕ → Prop) (pos keep : IVec S1000 1) (S : FVec Ideal S1000x1000 .f32) (i : ℕ) (hi : i < 1000)
    (hpos : ∀ j : Fin 1000, pos (ix1 j) = BitVec.ofBool (decide (val j.val)))
    (hkeep : ∀ j : Fin 1000, keep (ix1 j) = BitVec.ofBool (decide (j.val < i ∧ kept val (sup S) j.val))) :
    decided pos keep S i hi = BitVec.ofBool (decide (kept val (sup S) i)) := by
  unfold decided
  have e : (fun x : Fin 1000 => IntOp.andi (IntOp.andi (BitVec.ofBool (decide (Ideal.ofBits .f32 0x3F000000#32 < S (ix2 ⟨i, hi⟩ x)))) (keep (ix1 x))) (IntOp.cmpi .slt (BitVec.ofNat 32 x.val) (BitVec.ofNat 32 i)))
      = fun x : Fin 1000 => BitVec.ofBool (decide (x.val < i ∧ sup S i x.val ∧ kept val (sup S) x.val)) := by
    funext x
    have hc : IntOp.cmpi .slt (BitVec.ofNat 32 x.val) (BitVec.ofNat 32 i) = BitVec.ofBool (decide (x.val < i)) := WordCmp.cmpi_slt_ofNat (by omega) (by omega)
    have hs : sup S i x.val ↔ Ideal.ofBits .f32 0x3F000000#32 < S (ix2 ⟨i, hi⟩ x) := ⟨fun ⟨_, _, h⟩ => h, fun h => ⟨hi, x.isLt, h⟩⟩
    rw [hkeep, hc]
    by_cases h1 : x.val < i <;> by_cases h2 : sup S i x.val <;> by_cases h3 : kept val (sup S) x.val <;> simp [h1, h2, h3, IntOp.andi, ← hs]
  rw [e, fold_ori, hpos]
  have hk := kept_iff val (sup S) i
  have hb : kept val (sup S) i ↔ val i ∧ ¬ ∃ x ∈ (Finset.univ : Finset (Fin 1000)), x.val < i ∧ sup S i x.val ∧ kept val (sup S) x.val := by
    rw [hk]
    refine and_congr Iff.rfl ⟨fun h => ?_, fun h j hj hs hkj => h ⟨⟨j, by omega⟩, Finset.mem_univ _, hj, hs, hkj⟩⟩
    rintro ⟨x, _, h1, h2, h3⟩
    exact h x.val h1 h2 h3
  refine (congrArg₂ IntOp.andi rfl (congrArg (fun b : BitVec 1 => ~~~b) (congrArg BitVec.ofBool (decide_eq_decide.2 Iff.rfl)))).trans (and_not hb)

variable (E : Valuation τ sig (Elt Ideal))

/-- After some trips the matrix of overlaps and the positions that count are as they were, the index has advanced, and every position passed is kept exactly
    if greedy suppression keeps it. -/
theorem trips_at (val : ℕ → Prop) (hiota : ∀ j : Fin 1000, (E (Proc.devRef .tc main_v213_1) : IVec S1000 32) (ix1 j) = BitVec.ofNat 32 j.val)
    (hpos : ∀ j : Fin 1000, (E (Proc.devRef .tc main_v213_2) : IVec S1000 1) (ix1 j) = BitVec.ofBool (decide (val j.val)))
    (hidx : (E (Proc.devRef .tc main_v213_4) : IVec S_ 32) ix0 = 0#32)
    (hkeep : ∀ j : Fin 1000, (E (Proc.devRef .tc main_v213_5) : IVec S1000 1) (ix1 j) = 0#1) : ∀ t, t ≤ 1000 →
      (STEP^[t] E (Proc.devRef .tc main_v213_0) : FVec Ideal S1000x1000 .f32) = E (Proc.devRef .tc main_v213_0)
      ∧ (STEP^[t] E (Proc.devRef .tc main_v213_1) : IVec S1000 32) = E (Proc.devRef .tc main_v213_1)
      ∧ (STEP^[t] E (Proc.devRef .tc main_v213_2) : IVec S1000 1) = E (Proc.devRef .tc main_v213_2)
      ∧ (STEP^[t] E (Proc.devRef .tc main_v213_4) : IVec S_ 32) ix0 = BitVec.ofNat 32 t
      ∧ ∀ j : Fin 1000, (STEP^[t] E (Proc.devRef .tc main_v213_5) : IVec S1000 1) (ix1 j)
          = BitVec.ofBool (decide (j.val < t ∧ kept val (sup (E (Proc.devRef .tc main_v213_0))) j.val)) := by
  intro t
  induction t with
  | zero =>
    intro _
    refine ⟨rfl, rfl, rfl, hidx, fun j => (hkeep j).trans ?_⟩
    rw [decide_eq_false (fun c => by omega)]
    rfl
  | succ t ih =>
    intro ht
    obtain ⟨h0, h1, h2, h4, h5⟩ := ih (by omega)
    rw [Function.iterate_succ_apply']
    refine ⟨(STEP_main_v213_0 _).trans h0, (STEP_main_v213_1 _).trans h1, (STEP_main_v213_2 _).trans h2, ?_, fun j => ?_⟩
    · rw [STEP_main_v213_4]
      unfold step_main_v213_4
      show IntOp.addi ((STEP^[t] E (Proc.devRef .tc main_v213_4) : IVec S_ 32) ix0) 1#32 = _
      rw [h4]
      exact (BitVec.ofNat_add t 1).symm
    · rw [STEP_main_v213_5]
      refine (step_at _ t (by omega) h4 (fun j => by rw [h1]; exact hiota j) j).trans ?_
      rw [decided_eq val _ _ _ t (by omega) (fun j => by rw [h2]; exact hpos j) (fun j => by rw [h0]; exact h5 j), h0]
      by_cases hj : j.val = t
      · rw [if_pos hj, ← hj]
        exact congrArg BitVec.ofBool (decide_eq_decide.2 ⟨fun h => ⟨by omega, h⟩, fun h => h.2⟩)
      · rw [if_neg hj]
        refine (h5 j).trans (congrArg BitVec.ofBool (decide_eq_decide.2 (and_congr ⟨fun h => by omega, fun h => by omega⟩ Iff.rfl)))

end Cert.Proof.RefKeep

end
-- ==== Proof.RefRows.lean ====
/-
  The reference's result, entry by entry, in terms of the arguments.
-/
module

public import proofs.«01_k».proof.Proof.RefRun
public import proofs.«01_k».proof.Proof.RefTail
public import proofs.«01_k».proof.Proof.RefValues
public import proofs.«01_k».proof.Proof.RefKeep
public import proofs.«01_k».proof.Proof.Agree

@[expose] public section

set_option maxRecDepth 16384

noncomputable section

namespace Cert.Proof.RefRows

open Cert.ReferenceIdeal Cert.ReferenceIdeal.Gen Cert.ReferenceIdeal.Value Cert.Proof.Spec Cert.Proof.Boxes Cert.Proof.Sorting
open Idealize.ShloMosaic Idealize.ShloMosaic.TcCoe Idealize.ShloMosaic.Tactic Idealize.ShloMosaic.StableHlo

open Classical

variable (m : (ℓ : Loc nD τ sig) → Buf (Elt Ideal) ℓ) (c : Dev nD)

/-- The class logits. -/
abbrev L : FVec Ideal S5000x91 .f32 := m (c, Proc.devRef .tc main_arg0)
/-- The box regression. -/
abbrev R : FVec Ideal S5000x364 .f32 := m (c, Proc.devRef .tc main_arg1)
/-- The proposals. -/
abbrev Q : FVec Ideal S5000x4 .f32 := m (c, Proc.devRef .tc main_arg2)

/-- The contents when the candidates have been masked. -/
abbrev W : Valuation τ sig (Elt Ideal) := RefValues.scored (launchContents m c)

/-- What the loop starts from. -/
theorem entry_eq : entryContents preI m c = RefTail.ready (W m c) := by
  simp only [entryContents, afterL_cons, afterL_nil]

/-- The masked scores before the selection. -/
theorem msk_eq (f : Fin 450000) : RefTail.msk (W m c) (ix1 f) = masked (L m c) (R m c) (Q m c) f := RefValues.mask_at (launchContents m c) f

/-- The contents when the loop has ended. -/
abbrev Z : Valuation τ sig (Elt Ideal) := after condOps (atK m 1000 c)

/-- The last test of the loop's condition writes no buffer that is read later. -/
theorem Z_of (r : Ref sig .tc) (h : r ∉ condOps_W) : Z m c (Proc.devRef .tc r) = atK m 1000 c (Proc.devRef .tc r) := after_of_writes_sub condOps _ condOps_writes h

/-- What the program ends with. -/
theorem final_eq : finalContents condOps preI bodyI postI 1000 m c = RefTail.done (Z m c) := by
  simp only [finalContents, afterL_cons, afterL_nil]

section

/-- The first ranking of the masked scores is by `τ'`. -/
def Ranked (τ' : Fin 450000 → Fin 450000) : Prop := ∀ (i : ℕ) (hi : i < 1000),
  (RefTail.best (W m c)).1 (ix1 ⟨i, hi⟩) = RefTail.msk (W m c) (ix1 (τ' ⟨i, by omega⟩)) ∧ (RefTail.best (W m c)).2 (ix1 ⟨i, hi⟩) = BitVec.ofNat 32 (τ' ⟨i, by omega⟩).val

/-- The ranked candidates' scores, boxes and labels. -/
def v (τ' : Fin 450000 → Fin 450000) (i : Fin 1000) : EReal := masked (L m c) (R m c) (Q m c) (τ' ⟨i.val, by omega⟩)
/-- The box of the candidate at rank `i`. -/
def B (τ' : Fin 450000 → Fin 450000) (i : Fin 1000) : Fin 4 → EReal := box (R m c) (Q m c) (rowOf (τ' ⟨i.val, by omega⟩)) (colOf (τ' ⟨i.val, by omega⟩))
/-- The class label of the candidate at rank `i`, as a float. -/
def l (τ' : Fin 450000 → Fin 450000) (i : Fin 1000) : EReal := FloatOps.sitofp (F := Ideal) .f32 (BitVec.ofNat 32 (colOf (τ' ⟨i.val, by omega⟩)).val)

variable {τ' : Fin 450000 → Fin 450000} (hτ : Ranked m c τ')

include hτ

/-- The score at rank `i`. -/
theorem top_at (i : Fin 1000) : (RefTail.best (W m c)).1 (ix1 i) = v m c τ' i := (hτ i.val i.isLt).1.trans (msk_eq m c _)

/-- The gathered box at rank `i`. -/
theorem box_at (i : Fin 1000) (k : Fin 4) : RefTail.gBox (W m c) (ix2 i k) = B m c τ' i k :=
  (RefTail.gBox_at (W m c) i _ (hτ i.val i.isLt).2 k).trans (RefValues.box_at (launchContents m c) _ k)

/-- The gathered label at rank `i`. -/
theorem lab_at (i : Fin 1000) : RefTail.gLab (W m c) (ix1 i) = BitVec.ofNat 32 (colOf (τ' ⟨i.val, by omega⟩)).val :=
  (RefTail.gLab_at (W m c) i _ (hτ i.val i.isLt).2).trans (RefValues.label_at (launchContents m c) _)

/-- The box at rank `i`, moved aside by its class. -/
theorem moved_at (i : Fin 1000) : RefTail.moved (RefTail.gBox (W m c)) (RefTail.gLab (W m c)) i = shifted (B m c τ' i) (l τ' i) := by
  unfold RefTail.moved
  rw [lab_at m c hτ i]
  have : (fun k => RefTail.gBox (W m c) (ix2 i k)) = B m c τ' i := funext fun k => box_at m c hτ i k
  rw [this]
  rfl

/-- What the loop keeps. -/
theorem kept_at (j : Fin 1000) : (Z m c (Proc.devRef .tc main_v213_5) : IVec S1000 1) (ix1 j) = BitVec.ofBool (decide (Agree.keepR (v m c τ') (B m c τ') (l τ') j.val)) := by
  have h := RefKeep.trips_at (entryContents preI m c) (fun i => ∃ h : i < 1000, 0 < v m c τ' ⟨i, h⟩)
    (fun j => by rw [entry_eq]; exact RefTail.iota_at (W m c) j)
    (fun j => by
      rw [entry_eq]
      refine (RefTail.pos_at (W m c) j).trans ?_
      rw [top_at m c hτ j]
      exact congrArg BitVec.ofBool (decide_eq_decide.2 ⟨fun h => ⟨j.isLt, h⟩, fun h => h.2⟩))
    (by rw [entry_eq]; exact RefTail.idx_at (W m c))
    (fun j => by rw [entry_eq]; exact RefTail.keep_at (W m c) j) 1000 le_rfl
  refine (congrFun ((Z_of m c main_v213_5 (by decide)).trans (atK_agree m c 1000 main_v213_5 (by decide))) _).trans ((h.2.2.2.2 j).trans ?_)
  refine congrArg BitVec.ofBool (decide_eq_decide.2 ?_)
  rw [and_iff_right j.isLt]
  refine kept_congr _ _ _ _ 1000 (fun i _ => Iff.rfl) (fun a b hb ha _ _ => ?_) j.val j.isLt
  have hb' : b < 1000 := by omega
  have e : ∀ (ha : a < 1000) (hb : b < 1000), (entryContents preI m c (Proc.devRef .tc main_v213_0) : FVec Ideal S1000x1000 .f32) (ix2 ⟨a, ha⟩ ⟨b, hb⟩)
      = iou (shifted (B m c τ' ⟨a, ha⟩) (l τ' ⟨a, ha⟩)) (shifted (B m c τ' ⟨b, hb⟩) (l τ' ⟨b, hb⟩)) := fun ha hb => by
    rw [entry_eq]
    refine (RefTail.iou_at (W m c) ⟨a, ha⟩ ⟨b, hb⟩).trans ?_
    rw [moved_at m c hτ, moved_at m c hτ]
  constructor
  · rintro ⟨ha, hb, h⟩
    rw [e] at h
    exact ⟨ha, hb, h⟩
  · rintro ⟨ha, hb, h⟩
    refine ⟨ha, hb, ?_⟩
    rw [e]
    exact h

/-- The score at rank `i` after the suppression. -/
theorem after_at (i : Fin 1000) : RefTail.final (Z m c) (ix1 i) = Agree.after (v m c τ') (B m c τ') (l τ') i := by
  rw [RefTail.final_at, kept_at m c hτ i]
  have e : (Z m c (Proc.devRef .tc main_values) : FVec Ideal S1000 .f32) (ix1 i) = v m c τ' i := by
    refine (congrFun ((Z_of m c main_values (by decide)).trans (Ref.atK_keep m main_values (by decide) (by decide) 1000 c)) _).trans ?_
    rw [entry_eq]
    exact (RefTail.values_at (W m c) i).trans (top_at m c hτ i)
  rw [e, RefValues.lit_neg_one]
  unfold Agree.after
  by_cases h : Agree.keepR (v m c τ') (B m c τ') (l τ') i.val
  · rw [decide_eq_true h, if_pos h]
    rfl
  · rw [decide_eq_false h, if_neg h]
    rfl

/-- The boxes after the loop are those before it. -/
theorem boxes_at (i : Fin 1000) (k : Fin 4) : (Z m c (Proc.devRef .tc main_v140) : FVec Ideal S1000x4 .f32) (ix2 i k) = B m c τ' i k := by
  refine (congrFun ((Z_of m c main_v140 (by decide)).trans (Ref.atK_keep m main_v140 (by decide) (by decide) 1000 c)) _).trans ?_
  rw [entry_eq]
  exact (congrFun (RefTail.boxes_eq (W m c)) _).trans (box_at m c hτ i k)

/-- The reference's result at a place: the edges and the score after suppression of the position its second ranking has there. -/
theorem result_at {σ : Fin 1000 → Fin 1000}
    (hσ : ∀ (i : ℕ) (hi : i < 100), (RefTail.best2 (Z m c)).1 (ix1 ⟨i, hi⟩) = RefTail.final (Z m c) (ix1 (σ ⟨i, by omega⟩)) ∧ (RefTail.best2 (Z m c)).2 (ix1 ⟨i, hi⟩) = BitVec.ofNat 32 (σ ⟨i, by omega⟩).val)
    (t : Fin 100) :
    (∀ k : Fin 4, (finalContents condOps preI bodyI postI 1000 m c (Proc.devRef .tc main_v223) : FVec Ideal S100x5 .f32) (ix2 t ⟨k.val, by omega⟩) = B m c τ' (σ ⟨t.val, by omega⟩) k) ∧
    (finalContents condOps preI bodyI postI 1000 m c (Proc.devRef .tc main_v223) : FVec Ideal S100x5 .f32) (ix2 t 4) = Agree.after (v m c τ') (B m c τ') (l τ') (σ ⟨t.val, by omega⟩) := by
  obtain ⟨h1, h2⟩ := hσ t.val t.isLt
  rw [final_eq]
  refine ⟨fun k => ?_, ?_⟩
  · exact (RefTail.done_box (Z m c) t _ h2 k).trans (boxes_at m c hτ _ k)
  · exact (RefTail.done_score (Z m c) t).trans (h1.trans (after_at m c hτ _))

end

end Cert.Proof.RefRows

end
-- ==== Proof.Pre.lean ====
/-
  The precondition, in terms of the candidates: at least a hundred of them count, and no two of one proposal that count have
  the same score.
-/
module

public import proofs.«01_k».proof.Pre_enough_distinct_candidates
public import proofs.«01_k».proof.Proof.Boxes
public import Idealize.ShloMosaic.Lib.StableHlo.Predicate
public import Idealize.ShloMosaic.Lib.StableHlo.ReadAt
public import Idealize.ShloMosaic.Lib.Pointwise

@[expose] public section

set_option maxRecDepth 16384

noncomputable section

namespace Cert.Proof.Pre

open Cert.Pre_enough_distinct_candidates Cert.Proof.Boxes
open Idealize.ShloMosaic Idealize.ShloMosaic.TcCoe Idealize.ShloMosaic.Tactic Idealize.ShloMosaic.StableHlo

/-- The precondition's side conditions. -/
theorem facts : Cert.Pre_enough_distinct_candidates.Facts := by
  constructor <;> decide

variable [Cert.Pre_enough_distinct_candidates.Facts]

open Classical

variable (L : FVec Ideal S5000x91 .f32) (R : FVec Ideal S5000x364 .f32) (Q : FVec Ideal S5000x4 .f32)

/-- The row maximum of the softmax. -/
theorem max_top (r : Fin 5000) : max (Ideal.ofBits .f32 0xFF800000#32)
    ((Finset.univ : Finset (Fin 91)).fold max (Ideal.ofBits .f32 0xFF800000#32) fun x => L (ix2 r x)) = top L r := by
  refine max_eq_right ?_
  rw [show Ideal.ofBits .f32 0xFF800000#32 = ⊥ by simp [Ideal.ofBits, Ideal.ieee]]
  exact bot_le

/-- The function's arrays before its comparisons: the widths, the heights, and the logits less their largest. -/
theorem parts : ∃ W H D : FVec Ideal S5000x91 .f32, fn (F := Ideal) L R Q = fn_part5 (F := Ideal) W H D ∧
    (∀ r c, W (ix2 r c) = box R Q r c 2 - box R Q r c 0) ∧ (∀ r c, H (ix2 r c) = box R Q r c 3 - box R Q r c 1) ∧ (∀ r c, D (ix2 r c) = L (ix2 r c) - top L r) := by
  refine ⟨_, _, _, rfl, ?_, ?_, ?_⟩
  · intro r c
    pointwise [fn_clip]
    simp only [id_eq]
    pointwise
    rfl
  · intro r c
    pointwise [fn_clip]
    simp only [id_eq]
    pointwise
    rfl
  · intro r c
    pointwise
    simp only [max_top L]

/-- The scores over the classes that are no background, and which of them count. -/
theorem parts5 (W H D : FVec Ideal S5000x91 .f32) : ∃ (v : IVec S5000x90 1) (s : FVec Ideal S5000x90 .f32) (n : IVec S5000x90 32) (z : IVec S_ 32), fn_part5 (F := Ideal) W H D = fn_part6 (F := Ideal) v s n z ∧
    (∀ r (c : Fin 90), v (ix2 r c) = IntOp.andi (IntOp.andi
      (BitVec.ofBool (decide (Ideal.ofBits .f32 0x3D4CCCCD#32 < Ideal.div (Ideal.exp (D (ix2 r ⟨1 + c.val, by omega⟩))) (∑ x, Ideal.exp (D (ix2 r x))))))
      (BitVec.ofBool (decide (Ideal.ofBits .f32 0x3C23D70A#32 ≤ W (ix2 r ⟨1 + c.val, by omega⟩))))) (BitVec.ofBool (decide (Ideal.ofBits .f32 0x3C23D70A#32 ≤ H (ix2 r ⟨1 + c.val, by omega⟩))))) ∧
    (∀ r (c : Fin 90), s (ix2 r c) = Ideal.div (Ideal.exp (D (ix2 r ⟨1 + c.val, by omega⟩))) (∑ x, Ideal.exp (D (ix2 r x)))) ∧
    (∀ r (c : Fin 90), n (ix2 r c) = Scalar.select (v (ix2 r c)) 1#32 0#32) ∧ z = fun _ => 0#32 := by
  refine ⟨_, _, _, _, rfl, ?_, ?_, ?_, ?_⟩
  · intro r c
    pointwise
  · intro r c
    pointwise
  · intro r c
    pointwise [fn_where]
    simp only [id_eq]
    pointwise
  · rfl

/-- The precondition's second part at one pair of classes. -/
theorem part6_at (v : IVec S5000x90 1) (s : FVec Ideal S5000x90 .f32) (n : IVec S5000x90 32) (z : IVec S_ 32) (r : Fin 5000) (i j : Fin 90) : fn_part6 (F := Ideal) v s n z (ix3 r i j) =
    IntOp.andi (IntOp.cmpi .sge (Host.reduce IntOp.addi n z Facts.reducesTo_S5000x90_S_d0_1 Facts.h_S_ ix0) 100#32)
      (~~~ (IntOp.andi (IntOp.andi (IntOp.andi (BitVec.ofBool (decide (s (ix2 r i) = s (ix2 r j)))) (v (ix2 r i))) (v (ix2 r j)))
        (IntOp.cmpi .ne (BitVec.ofNat 32 i.val) (BitVec.ofNat 32 j.val)))) := by
  unfold fn_part6 fn_part7
  pointwise

/-- An index of the candidates is a row and a class. -/
def pairs : S5000x90.Idx ≃ Fin 5000 × Fin 90 where
  toFun i := (i 0, i 1)
  invFun q := ix2 q.1 q.2
  left_inv i := by
    funext a
    match a with
    | ⟨0, _⟩ => rfl
    | ⟨1, _⟩ => rfl
  right_inv q := Prod.ext rfl rfl

/-- The number of candidates that count, from the sum of their bits. -/
theorem count_word (n : IVec S5000x90 32) (z : IVec S_ 32) (hz : z = fun _ => 0#32) (p : Fin 5000 → Fin 90 → Prop) (hn : ∀ r c, (n (ix2 r c)).toNat = if p r c then 1 else 0)
    (h : IntOp.cmpi .sge (Host.reduce IntOp.addi n z Facts.reducesTo_S5000x90_S_d0_1 Facts.h_S_ ix0) 100#32 = 1#1) :
    100 ≤ (Finset.univ.filter fun q : Fin 5000 × Fin 90 => p q.1 q.2).card := by
  have hix : ∀ i : S5000x90.Idx, i = ix2 (i 0) (i 1) := fun i => by
    funext a
    match a with
    | ⟨0, _⟩ => rfl
    | ⟨1, _⟩ => rfl
  have hall : (Finset.univ.filter fun i : S5000x90.Idx => Facts.reducesTo_S5000x90_S_d0_1.drop i = (ix0 : S_.Idx)) = Finset.univ := by
    refine Finset.filter_true_of_mem fun i _ => ?_
    funext a
    exact a.elim0
  have hsum : ∑ i : S5000x90.Idx, (n i).toNat = (Finset.univ.filter fun q : Fin 5000 × Fin 90 => p q.1 q.2).card := by
    rw [Finset.card_filter]
    refine (Fintype.sum_equiv pairs _ _ fun i => ?_)
    have := hn (i 0) (i 1)
    exact (congrArg (fun q => (n q).toNat) (hix i)).trans this
  have hcard : (Finset.univ.filter fun q : Fin 5000 × Fin 90 => p q.1 q.2).card ≤ 450000 :=
    (Finset.card_le_univ _).trans (by rw [Fintype.card_prod, Fintype.card_fin, Fintype.card_fin])
  have hval : (Host.reduce IntOp.addi n z Facts.reducesTo_S5000x90_S_d0_1 Facts.h_S_ ix0).toNat = (Finset.univ.filter fun q : Fin 5000 × Fin 90 => p q.1 q.2).card := by
    rw [Host.reduce_eq_fold, hall, hz, Idealize.ShloMosaic.StableHlo.Predicate.toNat_fold_addi _ _ (by rw [hsum]; omega), hsum]
  have := (Idealize.ShloMosaic.StableHlo.Predicate.sge_iff_toNat (by rw [hval]; omega) (by decide)).1 h
  rw [hval] at this
  exact this

/-- A conjunction of bits is set only where both are. -/
theorem and_one (a b : BitVec 1) (h : IntOp.andi a b = 1#1) : a = 1#1 ∧ b = 1#1 := by revert a b; decide

/-- A conjunction of three tests as one bit. -/
theorem good_bit (p q s : Prop) [Decidable p] [Decidable q] [Decidable s] :
    IntOp.andi (IntOp.andi (BitVec.ofBool (decide p)) (BitVec.ofBool (decide q))) (BitVec.ofBool (decide s)) = if p ∧ q ∧ s then 1#1 else 0#1 := by
  by_cases hp : p <;> by_cases hq : q <;> by_cases hs : s <;> simp [hp, hq, hs, IntOp.andi]

/-- What the precondition says. -/
theorem meaning (h : fn (F := Ideal) L R Q = fun _ => 1#1) :
    100 ≤ (Finset.univ.filter fun f : Fin 450000 => Good L R Q (rowOf f) (colOf f)).card ∧
    ∀ (r : Fin 5000) (c c' : Fin 91), c.val ≠ 0 → c'.val ≠ 0 → Good L R Q r c → Good L R Q r c' → score L r c = score L r c' → c = c' := by
  obtain ⟨W, H, D, he, hW, hH, hD⟩ := parts L R Q
  obtain ⟨v, s, n, z, he5, hv, hs, hn, hz⟩ := parts5 W H D
  have hv' : ∀ r (c : Fin 90), v (ix2 r c) = if Good L R Q r ⟨1 + c.val, by omega⟩ then 1#1 else 0#1 := by
    intro r c
    rw [hv, good_bit]
    simp only [hW, hH, hD]
    exact if_congr Iff.rfl rfl rfl
  have hs' : ∀ r (c : Fin 90), s (ix2 r c) = score L r ⟨1 + c.val, by omega⟩ := by
    intro r c
    rw [hs]
    simp only [hD]
    rfl
  have hat : ∀ r (i j : Fin 90), fn_part6 (F := Ideal) v s n z (ix3 r i j) = 1#1 := fun r i j => congrFun ((he.trans he5).symm.trans h) _
  refine ⟨?_, ?_⟩
  · have h0 := hat 0 0 0
    rw [part6_at] at h0
    have := count_word n z hz (fun r c => Good L R Q r ⟨1 + c.val, by omega⟩) (fun r c => by
      rw [hn, hv']
      by_cases hg : Good L R Q r ⟨1 + c.val, by omega⟩
      · rw [if_pos hg, if_pos hg]; rfl
      · rw [if_neg hg, if_neg hg]; rfl) (and_one _ _ h0).1
    refine this.trans (Finset.card_le_card_of_injOn (fun q => ⟨q.1.val * 90 + q.2.val, by omega⟩) ?_ ?_)
    · intro q hq
      rw [Finset.mem_coe, Finset.mem_filter] at hq ⊢
      refine ⟨Finset.mem_univ _, ?_⟩
      have h1 : rowOf ⟨q.1.val * 90 + q.2.val, by omega⟩ = q.1 := Fin.ext (by simp only [rowOf]; omega)
      have h2 : colOf ⟨q.1.val * 90 + q.2.val, by omega⟩ = ⟨1 + q.2.val, by omega⟩ := Fin.ext (by simp only [colOf]; omega)
      rw [h1, h2]
      exact hq.2
    · intro q _ q' _ hqq
      have := Fin.ext_iff.1 hqq
      simp only at this
      exact Prod.ext (Fin.ext (by omega)) (Fin.ext (by omega))
  · intro r c c' hc hc' hg hg' hsc
    by_contra hne
    have h1 := hat r ⟨c.val - 1, by omega⟩ ⟨c'.val - 1, by omega⟩
    rw [part6_at, hs', hs', hv', hv'] at h1
    have e1 : (⟨1 + (c.val - 1), by omega⟩ : Fin 91) = c := Fin.ext (by simp only; omega)
    have e2 : (⟨1 + (c'.val - 1), by omega⟩ : Fin 91) = c' := Fin.ext (by simp only; omega)
    have hb : IntOp.cmpi .ne (BitVec.ofNat 32 (c.val - 1)) (BitVec.ofNat 32 (c'.val - 1)) = 1#1 := by
      have : BitVec.ofNat 32 (c.val - 1) ≠ BitVec.ofNat 32 (c'.val - 1) := by
        intro hw
        have := congrArg BitVec.toNat hw
        rw [BitVec.toNat_ofNat, BitVec.toNat_ofNat, Nat.mod_eq_of_lt (by omega), Nat.mod_eq_of_lt (by omega)] at this
        exact hne (Fin.ext (by omega))
      show BitVec.ofBool (_ != _) = 1#1
      rw [bne_iff_ne.2 this]
      rfl
    simp only [e1, e2, if_pos hg, if_pos hg', hb, hsc, decide_true] at h1
    exact absurd (and_one _ _ h1).2 (by decide)

end Cert.Proof.Pre

end
-- ==== Proof.Final.lean ====
/-
  From memories that agree on the arguments, and where the precondition holds, the two programs end with the same result.
-/
module

public import proofs.«01_k».proof.Proof.KerRows
public import proofs.«01_k».proof.Proof.RefRows
public import proofs.«01_k».proof.Proof.Pre

@[expose] public section

set_option maxRecDepth 16384

noncomputable section

namespace Cert.Proof.Final

open Cert.Proof.Spec Cert.Proof.Boxes Cert.Proof.Sorting Cert.Proof.Match
open Idealize.ShloMosaic Idealize.ShloMosaic.TcCoe Idealize.ShloMosaic.StableHlo

open Classical

/-- The reference's result and the kernel's. -/
abbrev refResult (m' : (ℓ : Loc Cert.ReferenceIdeal.nD Cert.ReferenceIdeal.τ Cert.ReferenceIdeal.sig) → Buf (Elt Ideal) ℓ) (c : Dev Cert.ReferenceIdeal.nD) : FVec Ideal ⟨2, ![100, 5]⟩ .f32 :=
  StableHlo.finalContents Cert.ReferenceIdeal.Value.condOps Cert.ReferenceIdeal.Value.preI Cert.ReferenceIdeal.Value.bodyI Cert.ReferenceIdeal.Value.postI 1000 m' c (Proc.devRef .tc Cert.ReferenceIdeal.main_v223)
/-- The kernel's result. -/
abbrev kerResult (hs : Run.Settles Ideal) (m : (ℓ : Loc Cert.KernelIdeal.nD Cert.KernelIdeal.τ Cert.KernelIdeal.sig) → Buf (Elt Ideal) ℓ) (c : Dev Cert.KernelIdeal.nD) : FVec Ideal ⟨2, ![100, 5]⟩ .f32 :=
  Cert.KernelIdeal.Gen.V7 m (Run.outs hs m) c (Proc.devRef .tc Cert.KernelIdeal.main_v68)

/-- The results agree entry by entry. -/
theorem result_at [Cert.Pre_enough_distinct_candidates.Facts] (hs : Run.Settles Ideal)
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : Cert.Pre_enough_distinct_candidates.fn (F := Ideal) (KerRows.L m c) (KerRows.R m c) (KerRows.Q m c) = fun _ => 1#1)
    (hL : RefRows.L m' c = KerRows.L m c) (hR : RefRows.R m' c = KerRows.R m c) (hQ : RefRows.Q m' c = KerRows.Q m c) :
    ∀ (t : Fin 100) (a : Fin 5), refResult m' c (ix2 t a) = kerResult hs m c (ix2 t a) := by
  obtain ⟨hC, hT⟩ := Pre.meaning (KerRows.L m c) (KerRows.R m c) (KerRows.Q m c) hpre
  obtain ⟨σ, hσ, hσt⟩ := topK_ranks (n := 100000) (k := 1000) (by omega) (KerTail.slots (KerRows.X hs m c)) Cert.KernelIdeal.Gen.sliceFits_S100000_S1000
  obtain ⟨τ', hτ, hτt⟩ := topK_ranks (n := 450000) (k := 1000) (by omega) (RefTail.msk (RefRows.W m' c)) Cert.ReferenceIdeal.Gen.sliceFits_S450000_S1000
  obtain ⟨ρ, hρ, hρt⟩ := topK_ranks (n := 1000) (k := 100) (by omega) (RefTail.final (RefRows.Z m' c)) Cert.ReferenceIdeal.Gen.sliceFits_S1000_S100
  have hσ' : Ranks σ (slotVal (KerRows.L m c) (KerRows.R m c) (KerRows.Q m c)) := by
    rw [← funext (KerRows.slots_eq hs m c)]
    exact hσ
  have hτ' : Ranks τ' (masked (KerRows.L m c) (KerRows.R m c) (KerRows.Q m c)) := by
    rw [← hL, ← hR, ← hQ, ← funext (RefRows.msk_eq m' c)]
    exact hτ
  have hρ' : Ranks ρ (Agree.after (RefRows.v m' c τ') (RefRows.B m' c τ') (RefRows.l τ')) := by
    rw [← funext (RefRows.after_at m' c hτt)]
    exact hρ
  have hv : ∀ i, RefRows.v m' c τ' i = masked (KerRows.L m c) (KerRows.R m c) (KerRows.Q m c) (τ' ⟨i.val, by omega⟩) := fun i => by
    unfold RefRows.v
    rw [hL, hR, hQ]
  have hB : ∀ i, RefRows.B m' c τ' i = box (KerRows.R m c) (KerRows.Q m c) (rowOf (τ' ⟨i.val, by omega⟩)) (colOf (τ' ⟨i.val, by omega⟩)) := fun i => by
    unfold RefRows.B
    rw [hR, hQ]
  have hrank := fun i : Fin 1000 => rankings (KerRows.L m c) (KerRows.R m c) (KerRows.Q m c) hT hσ' hτ' i.val (by omega) (by omega)
  have hblock := KerRows.block_at hs m c hσt
  have hplaces := Agree.places (KerRows.block hs m c) (RefRows.v m' c τ') (RefRows.B m' c τ') (RefRows.l τ')
    ⟨fun i => by rw [(hblock i).1, hv]; exact (hrank i).1,
    fun i hi => by
      rw [hv] at hi
      have hs' := ((hrank i).1).2 hi
      obtain ⟨hc, he⟩ := (hrank i).2 hi
      obtain ⟨hb, hl⟩ := (hblock i).2 hs'
      rw [hc] at hb hl
      refine ⟨(hblock i).1.trans (he.trans (hv i).symm), ?_, hl⟩
      rw [hB]
      exact funext hb,
    KerRows.block_pad hs m c⟩
    (fun i j hij => by
      rw [hv, hv]
      exact hτ'.le (show (⟨i.val, by omega⟩ : Fin 450000) ≤ ⟨j.val, by omega⟩ from hij))
    (fun i hi => by
      rw [hv]
      exact hundred (KerRows.L m c) (KerRows.R m c) (KerRows.Q m c) hC hτ' i.val hi)
    hρ'
  intro t a
  have hp := hplaces ⟨t.val, by omega⟩ t.isLt
  have hr := RefRows.result_at m' c hτt hρt t
  refine Eq.trans ?_ (KerRows.result_at hs m c t a).symm
  by_cases ha : a.val < 4
  · exact (hr.1 ⟨a.val, ha⟩).trans (hp.1 ⟨a.val, ha⟩).symm
  · have h4 : a = 4 := Fin.ext (by have := a.isLt; show a.val = (4 : Fin 5).val; have : (4 : Fin 5).val = 4 := rfl; omega)
    rw [h4]
    exact hr.2.trans hp.2.symm

/-- Two results that agree at every entry are equal. -/
theorem ext_ix (f g : FVec Ideal ⟨2, ![100, 5]⟩ .f32) (h : ∀ (t : Fin 100) (a : Fin 5), f (ix2 t a) = g (ix2 t a)) : f = g := by
  funext i
  have hix : i = ix2 (i 0) (i 1) := by
    funext a
    match a with
    | ⟨0, _⟩ => rfl
    | ⟨1, _⟩ => rfl
  rw [hix]
  exact h (i 0) (i 1)

end Cert.Proof.Final

end
-- ==== Proof.lean ====
/-
  The proof of `Cert.Claim`: the kernel's run and the reference's, from any memory, and their equal results.
-/
module

public import proofs.«01_k».proof.Defs
public import proofs.«01_k».proof.Proof.Gen.KernelIdeal
public import proofs.«01_k».proof.Proof.Gen.ReferenceIdeal
public import proofs.«01_k».proof.Proof.Main
public import proofs.«01_k».proof.Proof.Suppress
public import proofs.«01_k».proof.Proof.RefRun
public import proofs.«01_k».proof.Proof.Final

@[expose] public section

noncomputable section

namespace Cert.Proof

open Idealize.ShloMosaic Idealize.SL.Sem

/-- The suppression loop ends, whatever the block of boxes. -/
theorem settles : Run.Settles Ideal := fun x => Suppress.settles_block x

/-- Both programs end with equal results where the precondition holds. -/
theorem algebraic [Cert.Pre_enough_distinct_candidates.Facts] :
    Cert.algebraic_KernelIdeal_ReferenceIdeal_pre_enough_distinct_candidates (hKernelIdeal := Cert.KernelIdeal.Gen.facts) (hReferenceIdeal := Cert.ReferenceIdeal.Gen.facts) := by
  intro m g m' g' hpre hargs
  refine ⟨fun c => Final.kerResult settles m c, ?_, ?_⟩
  · exact (θ_run _ _ _).mono (fun _ h c => h.1 c) (Run.run_main settles m g)
  · refine (θ_run _ _ _).mono (fun _ h c => ⟨(h.1 c).1.trans ?_, (h.1 c).2⟩) (Ref.run_ref m' g')
    exact Final.ext_ix _ _ (Final.result_at settles m m' c (hpre c) (hargs c).1 (hargs c).2.1 (hargs c).2.2)

/-- The whole claim: each program's facts, the frames of both, and their equality. -/
theorem claim : Cert.Claim := ⟨Cert.KernelIdeal.Gen.facts, Cert.ReferenceIdeal.Gen.facts, Pre.facts,
  fun m g _ => (θ_run _ _ _).mono (fun _ h => ⟨fun c => (h.1 c).2, h.2⟩) (Run.run_main settles m g),
  fun m g _ => (θ_run _ _ _).mono (fun _ h => ⟨fun c => (h.1 c).2, h.2⟩) (Run.run_main settles m g),
  fun m g _ => (θ_run _ _ _).mono (fun _ h => ⟨fun c => (h.1 c).2, h.2⟩) (Ref.run_ref m g),
  fun m g _ => (θ_run _ _ _).mono (fun _ h => ⟨fun c => (h.1 c).2, h.2⟩) (Ref.run_ref m g),
  @algebraic Pre.facts⟩

end Cert.Proof

end
